-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_filters [hPre_filters : Cert.Pre_filters.Facts] (m : (ℓ : Loc Cert.KernelIdeal.nD Cert.KernelIdeal.τ Cert.KernelIdeal.sig) → Buf (Elt Ideal) ℓ) : Prop :=
  ∀ c : Dev Cert.KernelIdeal.nD,
    (Cert.Pre_filters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_filters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_filters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_filters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_filters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_filters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_filters [hPre_filters : Cert.Pre_filters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_filters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_filters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_filters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_filters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_filters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_filters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_filters [hKernelIdeal : Cert.KernelIdeal.Facts] [hPre_filters : Cert.Pre_filters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_filters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_filters [hReferenceIdeal : Cert.ReferenceIdeal.Facts] [hPre_filters : Cert.Pre_filters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_filters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_filters [hKernelIdeal : Cert.KernelIdeal.Facts] [hReferenceIdeal : Cert.ReferenceIdeal.Facts] [hPre_filters : Cert.Pre_filters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_filters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v584) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_filters : Cert.Pre_filters.Facts),
    quiescent_Kernel (hKernel := hKernel)
    ∧ quiescent_KernelIdeal (hKernelIdeal := hKernelIdeal)
    ∧ quiescent_KernelIdeal_pre_filters (hKernelIdeal := hKernelIdeal) (hPre_filters := hPre_filters)
    ∧ quiescent_ReferenceIdeal (hReferenceIdeal := hReferenceIdeal)
    ∧ quiescent_ReferenceIdeal_pre_filters (hReferenceIdeal := hReferenceIdeal) (hPre_filters := hPre_filters)
    ∧ preserves_Kernel_KernelIdeal
    ∧ algebraic_KernelIdeal_ReferenceIdeal_pre_filters (hKernelIdeal := hKernelIdeal) (hReferenceIdeal := hReferenceIdeal) (hPre_filters := hPre_filters)
-- ==== Pre_filters.lean ====
abbrev S1024x1x32x32 : Shape := ⟨4, ![1024, 1, 32, 32]⟩
abbrev S1x1x32x32 : Shape := ⟨4, ![1, 1, 32, 32]⟩
abbrev S9 : Shape := ⟨1, ![9]⟩
abbrev S3 : Shape := ⟨1, ![3]⟩
abbrev S_ : Shape := ⟨0, ![]⟩

class Facts : Prop where
  bcast_S_S1024x1x32x32 : S_.BroadcastsInDim S1024x1x32x32 (![] : Fin 0 → Fin S1024x1x32x32.rank)
  bcast_S_S1x1x32x32 : S_.BroadcastsInDim S1x1x32x32 (![] : Fin 0 → Fin S1x1x32x32.rank)
  bcast_S_S9 : S_.BroadcastsInDim S9 (![] : Fin 0 → Fin S9.rank)
  bcast_S_S3 : S_.BroadcastsInDim S3 (![] : Fin 0 → Fin S3.rank)

variable [Facts]

def fn_where {F : FTy → Type} [FloatOps F] (arg0 : IVec S3 1) (arg1 : FVec F S_ .f32) (arg2 : FVec F S_ .f32) : FVec F S3 .f32 :=
  let v0 : FVec F S3 .f32 := broadcastInDim S3 ![] bcast_S_S3 arg1
  let v1 : FVec F S3 .f32 := broadcastInDim S3 ![] bcast_S_S3 arg2
  let v2 : FVec F S3 .f32 := select arg0 v0 v1
  v2

def fn_where_0 {F : FTy → Type} [FloatOps F] (arg0 : IVec S3 1) (arg1 : FVec F S_ .f32) (arg2 : FVec F S3 .f32) : FVec F S3 .f32 :=
  let v0 : FVec F S3 .f32 := broadcastInDim S3 ![] bcast_S_S3 arg1
  let v1 : FVec F S3 .f32 := select arg0 v0 arg2
  v1

def fn_part1 {F : FTy → Type} [FloatOps F] (main_arg3 : FVec F S3 .f32) (main_arg4 : FVec F S3 .f32) (main_v0 : IVec S3 32) (main_v3 : IVec S1024x1x32x32 1) (main_v5 : IVec S1x1x32x32 1) (main_v10 : IVec S9 1) (main_v12 : IVec S9 1) (main_v14 : IVec S3 1) (main_v16 : IVec S3 1) (main_cst_4 : FVec F S_ .f32) : IVec S1024x1x32x32 1 × IVec S1x1x32x32 1 × IVec S9 1 × IVec S9 1 × IVec S3 1 × IVec S3 1 :=
  let main_cst_5 : FVec F S_ .f32 := constant S_ .f32 0x3F800000#32
  let main_v17 : FVec F S3 .f32 := fn_where (F := F) main_v16 main_cst_4 main_cst_5
  let main_cst_6 : FVec F S_ .f32 := constant S_ .f32 0xBF800000#32
  let main_v18 : FVec F S3 .f32 := fn_where_0 (F := F) main_v14 main_cst_6 main_v17
  let main_v19 : FVec F S3 .f32 := id main_v18
  let main_v20 : IVec S3 1 := cmpf .oeq main_arg3 main_v19
  let main_c_7 : IVec S_ 32 := constantI S_ 32 1#32
  let main_v21 : IVec S3 32 := broadcastInDim S3 ![] bcast_S_S3 main_c_7
  let main_v22 : IVec S3 1 := cmpi .eq main_v0 main_v21
  let main_cst_8 : FVec F S_ .f32 := constant S_ .f32 0x40000000#32
  let main_cst_9 : FVec F S_ .f32 := constant S_ .f32 0x3F800000#32
  let main_v23 : FVec F S3 .f32 := fn_where (F := F) main_v22 main_cst_8 main_cst_9
  let main_v24 : FVec F S3 .f32 := id main_v23
  let main_v25 : IVec S3 1 := cmpf .oeq main_arg4 main_v24
  (main_v3, main_v5, main_v10, main_v12, main_v20, main_v25)

def fn {F : FTy → Type} [FloatOps F] (main_arg0 : FVec F S1024x1x32x32 .f32) (main_arg1 : FVec F S1x1x32x32 .f32) (main_arg2 : FVec F S9 .f32) (main_arg3 : FVec F S3 .f32) (main_arg4 : FVec F S3 .f32) : IVec S1024x1x32x32 1 × IVec S1x1x32x32 1 × IVec S9 1 × IVec S9 1 × IVec S3 1 × IVec S3 1 :=
  let main_v0 : IVec S3 32 := iotaInDim S3 32 0
  let main_v1 : FVec F S1024x1x32x32 .f32 := Host.absf main_arg0
  let main_cst : FVec F S_ .f32 := constant S_ .f32 0x7F800000#32
  let main_v2 : FVec F S1024x1x32x32 .f32 := broadcastInDim S1024x1x32x32 ![] bcast_S_S1024x1x32x32 main_cst
  let main_v3 : IVec S1024x1x32x32 1 := cmpf .olt main_v1 main_v2
  let main_cst_0 : FVec F S_ .f32 := constant S_ .f32 0x00000000#32
  let main_v4 : FVec F S1x1x32x32 .f32 := broadcastInDim S1x1x32x32 ![] bcast_S_S1x1x32x32 main_cst_0
  let main_v5 : IVec S1x1x32x32 1 := cmpf .oge main_arg1 main_v4
  let main_cst_1 : FVec F S_ .f32 := constant S_ .f32 0x00000000#32
  let main_v6 : FVec F S9 .f32 := broadcastInDim S9 ![] bcast_S_S9 main_cst_1
  let main_v7 : IVec S9 1 := cmpf .oge main_arg2 main_v6
  let main_cst_2 : FVec F S_ .f32 := constant S_ .f32 0x7F800000#32
  let main_v8 : FVec F S9 .f32 := broadcastInDim S9 ![] bcast_S_S9 main_cst_2
  let main_v9 : IVec S9 1 := cmpf .olt main_arg2 main_v8
  let main_v10 : IVec S9 1 := andi main_v7 main_v9
  let main_v11 : FVec F S9 .f32 := Host.reverse [0] main_arg2
  let main_v12 : IVec S9 1 := cmpf .oeq main_arg2 main_v11
  let main_c : IVec S_ 32 := constantI S_ 32 0#32
  let main_v13 : IVec S3 32 := broadcastInDim S3 ![] bcast_S_S3 main_c
  let main_v14 : IVec S3 1 := cmpi .eq main_v0 main_v13
  let main_c_3 : IVec S_ 32 := constantI S_ 32 1#32
  let main_v15 : IVec S3 32 := broadcastInDim S3 ![] bcast_S_S3 main_c_3
  let main_v16 : IVec S3 1 := cmpi .eq main_v0 main_v15
  let main_cst_4 : FVec F S_ .f32 := constant S_ .f32 0x00000000#32
  fn_part1 (F := F) main_arg3 main_arg4 main_v0 main_v3 main_v5 main_v10 main_v12 main_v14 main_v16 main_cst_4
-- ==== Kernel.lean ====
abbrev S1024x1x32x32 : Shape := ⟨4, ![1024, 1, 32, 32]⟩
abbrev S1x1x32x32 : Shape := ⟨4, ![1, 1, 32, 32]⟩
abbrev S9 : Shape := ⟨1, ![9]⟩
abbrev S3 : Shape := ⟨1, ![3]⟩
abbrev S1024x32x32 : Shape := ⟨3, ![1024, 32, 32]⟩
abbrev S32x32x1024 : Shape := ⟨3, ![32, 32, 1024]⟩
abbrev S1x32x32 : Shape := ⟨3, ![1, 32, 32]⟩
abbrev S32x32x1 : Shape := ⟨3, ![32, 32, 1]⟩
abbrev S2x32x32x1024 : Shape := ⟨4, ![2, 32, 32, 1024]⟩
abbrev S32x32x128 : Shape := ⟨3, ![32, 32, 128]⟩
abbrev S2x32x32x128 : Shape := ⟨4, ![2, 32, 32, 128]⟩
abbrev S5x32x32 : Shape := ⟨3, ![5, 32, 32]⟩
abbrev S2x32x32 : Shape := ⟨3, ![2, 32, 32]⟩
abbrev S32x32 : Shape := ⟨2, ![32, 32]⟩
abbrev S1 : Shape := ⟨1, ![1]⟩
abbrev S64x32 : Shape := ⟨2, ![64, 32]⟩
abbrev S4x32x1 : Shape := ⟨3, ![4, 32, 1]⟩
abbrev S40x32x1 : Shape := ⟨3, ![40, 32, 1]⟩
abbrev S32x4x1 : Shape := ⟨3, ![32, 4, 1]⟩
abbrev S32x40x1 : Shape := ⟨3, ![32, 40, 1]⟩
abbrev S4x32x128 : Shape := ⟨3, ![4, 32, 128]⟩
abbrev S40x32x128 : Shape := ⟨3, ![40, 32, 128]⟩
abbrev S1x32x128 : Shape := ⟨3, ![1, 32, 128]⟩
abbrev S32x128 : Shape := ⟨2, ![32, 128]⟩
abbrev S34x32x128 : Shape := ⟨3, ![34, 32, 128]⟩
abbrev S1x32x1 : Shape := ⟨3, ![1, 32, 1]⟩
abbrev S34x32x1 : Shape := ⟨3, ![34, 32, 1]⟩
abbrev S34x1x1 : Shape := ⟨3, ![34, 1, 1]⟩
abbrev S34x34x1 : Shape := ⟨3, ![34, 34, 1]⟩
abbrev S1x32x32x128 : Shape := ⟨4, ![1, 32, 32, 128]⟩
abbrev S1024x2x32x32 : Shape := ⟨4, ![1024, 2, 32, 32]⟩

abbrev nBuf : Space → Nat
  | .hbm => 11
  | .vmem => 8
  | .smem => 3
  | _ => 0

abbrev bufTy : (tb : Table) → Fin (tcTables nBuf tb) → BufTy
  | .hbm, ⟨0, _⟩ => ⟨S1024x1x32x32, .f32⟩
  | .hbm, ⟨1, _⟩ => ⟨S1x1x32x32, .f32⟩
  | .hbm, ⟨2, _⟩ => ⟨S9, .f32⟩
  | .hbm, ⟨3, _⟩ => ⟨S3, .f32⟩
  | .hbm, ⟨4, _⟩ => ⟨S3, .f32⟩
  | .hbm, ⟨5, _⟩ => ⟨S1024x32x32, .f32⟩
  | .hbm, ⟨6, _⟩ => ⟨S32x32x1024, .f32⟩
  | .hbm, ⟨7, _⟩ => ⟨S1x32x32, .f32⟩
  | .hbm, ⟨8, _⟩ => ⟨S32x32x1, .f32⟩
  | .hbm, ⟨9, _⟩ => ⟨S2x32x32x1024, .f32⟩
  | .hbm, ⟨10, _⟩ => ⟨S1024x2x32x32, .f32⟩
  | .local _ .vmem, ⟨0, _⟩ => ⟨S32x32x128, .f32⟩
  | .local _ .vmem, ⟨1, _⟩ => ⟨S32x32x128, .f32⟩
  | .local _ .vmem, ⟨2, _⟩ => ⟨S32x32x1, .f32⟩
  | .local _ .vmem, ⟨3, _⟩ => ⟨S2x32x32x128, .f32⟩
  | .local _ .vmem, ⟨4, _⟩ => ⟨S2x32x32x128, .f32⟩
  | .local _ .vmem, ⟨5, _⟩ => ⟨S32x32x128, .f32⟩
  | .local _ .vmem, ⟨6, _⟩ => ⟨S5x32x32, .f32⟩
  | .local _ .vmem, ⟨7, _⟩ => ⟨S2x32x32, .f32⟩
  | .local _ .smem, ⟨0, _⟩ => ⟨S9, .f32⟩
  | .local _ .smem, ⟨1, _⟩ => ⟨S3, .f32⟩
  | .local _ .smem, ⟨2, _⟩ => ⟨S3, .f32⟩
  | _, _ => ⟨S1024x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x32x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x1x32x32 : Shape := ⟨4, ![1024, 1, 32, 32]⟩
abbrev S1x1x32x32 : Shape := ⟨4, ![1, 1, 32, 32]⟩
abbrev S9 : Shape := ⟨1, ![9]⟩
abbrev S3 : Shape := ⟨1, ![3]⟩
abbrev S_ : Shape := ⟨0, ![]⟩
abbrev S1x1x32x40 : Shape := ⟨4, ![1, 1, 32, 40]⟩
abbrev S1 : Shape := ⟨1, ![1]⟩
abbrev S1024x1x32x40 : Shape := ⟨4, ![1024, 1, 32, 40]⟩
abbrev S1024x1x32x1 : Shape := ⟨4, ![1024, 1, 32, 1]⟩
abbrev S1024x1x32x33 : Shape := ⟨4, ![1024, 1, 32, 33]⟩
abbrev S1024x1x32x34 : Shape := ⟨4, ![1024, 1, 32, 34]⟩
abbrev S1x1x34x34 : Shape := ⟨4, ![1, 1, 34, 34]⟩
abbrev S1024x1x34x34 : Shape := ⟨4, ![1024, 1, 34, 34]⟩
abbrev S1024x2x32x32 : Shape := ⟨4, ![1024, 2, 32, 32]⟩

abbrev nBuf : Space → Nat
  | .hbm => 736
  | .vmem => 0
  | .smem => 0
  | _ => 0

abbrev hbmTy0_0 (i : Nat) : BufTy := match i % 128 with
  | 0 => ⟨S1024x1x32x32, .f32⟩
  | 1 => ⟨S1x1x32x32, .f32⟩
  | 2 => ⟨S9, .f32⟩
  | 3 => ⟨S3, .f32⟩
  | 4 => ⟨S3, .f32⟩
  | 5 => ⟨S_, .f32⟩
  | 6 => ⟨S1024x1x32x32, .f32⟩
  | 7 => ⟨S1024x1x32x32, .f32⟩
  | 8 => ⟨S_, .f32⟩
  | 9 => ⟨S1024x1x32x32, .f32⟩
  | 10 => ⟨S1024x1x32x32, .f32⟩
  | 11 => ⟨S1x1x32x32, .f32⟩
  | 12 => ⟨S_, .i32⟩
  | 13 => ⟨S_, .f32⟩
  | 14 => ⟨S1x1x32x40, .f32⟩
  | 15 => ⟨S_, .f32⟩
  | 16 => ⟨S1x1x32x32, .f32⟩
  | 17 => ⟨S1, .f32⟩
  | 18 => ⟨S_, .f32⟩
  | 19 => ⟨S1x1x32x32, .f32⟩
  | 20 => ⟨S1x1x32x32, .f32⟩
  | 21 => ⟨S1x1x32x32, .f32⟩
  | 22 => ⟨S1x1x32x32, .f32⟩
  | 23 => ⟨S1, .f32⟩
  | 24 => ⟨S_, .f32⟩
  | 25 => ⟨S1x1x32x32, .f32⟩
  | 26 => ⟨S1x1x32x32, .f32⟩
  | 27 => ⟨S1x1x32x32, .f32⟩
  | 28 => ⟨S1x1x32x32, .f32⟩
  | 29 => ⟨S1, .f32⟩
  | 30 => ⟨S_, .f32⟩
  | 31 => ⟨S1x1x32x32, .f32⟩
  | 32 => ⟨S1x1x32x32, .f32⟩
  | 33 => ⟨S1x1x32x32, .f32⟩
  | 34 => ⟨S1x1x32x32, .f32⟩
  | 35 => ⟨S1, .f32⟩
  | 36 => ⟨S_, .f32⟩
  | 37 => ⟨S1x1x32x32, .f32⟩
  | 38 => ⟨S1x1x32x32, .f32⟩
  | 39 => ⟨S1x1x32x32, .f32⟩
  | 40 => ⟨S1x1x32x32, .f32⟩
  | 41 => ⟨S1, .f32⟩
  | 42 => ⟨S_, .f32⟩
  | 43 => ⟨S1x1x32x32, .f32⟩
  | 44 => ⟨S1x1x32x32, .f32⟩
  | 45 => ⟨S1x1x32x32, .f32⟩
  | 46 => ⟨S1x1x32x32, .f32⟩
  | 47 => ⟨S1, .f32⟩
  | 48 => ⟨S_, .f32⟩
  | 49 => ⟨S1x1x32x32, .f32⟩
  | 50 => ⟨S1x1x32x32, .f32⟩
  | 51 => ⟨S1x1x32x32, .f32⟩
  | 52 => ⟨S1x1x32x32, .f32⟩
  | 53 => ⟨S1, .f32⟩
  | 54 => ⟨S_, .f32⟩
  | 55 => ⟨S1x1x32x32, .f32⟩
  | 56 => ⟨S1x1x32x32, .f32⟩
  | 57 => ⟨S1x1x32x32, .f32⟩
  | 58 => ⟨S1x1x32x32, .f32⟩
  | 59 => ⟨S1, .f32⟩
  | 60 => ⟨S_, .f32⟩
  | 61 => ⟨S1x1x32x32, .f32⟩
  | 62 => ⟨S1x1x32x32, .f32⟩
  | 63 => ⟨S1x1x32x32, .f32⟩
  | 64 => ⟨S1x1x32x32, .f32⟩
  | 65 => ⟨S1, .f32⟩
  | 66 => ⟨S_, .f32⟩
  | 67 => ⟨S1x1x32x32, .f32⟩
  | 68 => ⟨S1x1x32x32, .f32⟩
  | 69 => ⟨S1x1x32x32, .f32⟩
  | 70 => ⟨S1x1x32x32, .f32⟩
  | 71 => ⟨S1x1x32x32, .f32⟩
  | 72 => ⟨S_, .i32⟩
  | 73 => ⟨S_, .f32⟩
  | 74 => ⟨S1x1x32x40, .f32⟩
  | 75 => ⟨S_, .f32⟩
  | 76 => ⟨S1x1x32x32, .f32⟩
  | 77 => ⟨S1, .f32⟩
  | 78 => ⟨S_, .f32⟩
  | 79 => ⟨S1x1x32x32, .f32⟩
  | 80 => ⟨S1x1x32x32, .f32⟩
  | 81 => ⟨S1x1x32x32, .f32⟩
  | 82 => ⟨S1x1x32x32, .f32⟩
  | 83 => ⟨S1, .f32⟩
  | 84 => ⟨S_, .f32⟩
  | 85 => ⟨S1x1x32x32, .f32⟩
  | 86 => ⟨S1x1x32x32, .f32⟩
  | 87 => ⟨S1x1x32x32, .f32⟩
  | 88 => ⟨S1x1x32x32, .f32⟩
  | 89 => ⟨S1, .f32⟩
  | 90 => ⟨S_, .f32⟩
  | 91 => ⟨S1x1x32x32, .f32⟩
  | 92 => ⟨S1x1x32x32, .f32⟩
  | 93 => ⟨S1x1x32x32, .f32⟩
  | 94 => ⟨S1x1x32x32, .f32⟩
  | 95 => ⟨S1, .f32⟩
  | 96 => ⟨S_, .f32⟩
  | 97 => ⟨S1x1x32x32, .f32⟩
  | 98 => ⟨S1x1x32x32, .f32⟩
  | 99 => ⟨S1x1x32x32, .f32⟩
  | 100 => ⟨S1x1x32x32, .f32⟩
  | 101 => ⟨S1, .f32⟩
  | 102 => ⟨S_, .f32⟩
  | 103 => ⟨S1x1x32x32, .f32⟩
  | 104 => ⟨S1x1x32x32, .f32⟩
  | 105 => ⟨S1x1x32x32, .f32⟩
  | 106 => ⟨S1x1x32x32, .f32⟩
  | 107 => ⟨S1, .f32⟩
  | 108 => ⟨S_, .f32⟩
  | 109 => ⟨S1x1x32x32, .f32⟩
  | 110 => ⟨S1x1x32x32, .f32⟩
  | 111 => ⟨S1x1x32x32, .f32⟩
  | 112 => ⟨S1x1x32x32, .f32⟩
  | 113 => ⟨S1, .f32⟩
  | 114 => ⟨S_, .f32⟩
  | 115 => ⟨S1x1x32x32, .f32⟩
  | 116 => ⟨S1x1x32x32, .f32⟩
  | 117 => ⟨S1x1x32x32, .f32⟩
  | 118 => ⟨S1x1x32x32, .f32⟩
  | 119 => ⟨S1, .f32⟩
  | 120 => ⟨S_, .f32⟩
  | 121 => ⟨S1x1x32x32, .f32⟩
  | 122 => ⟨S1x1x32x32, .f32⟩
  | 123 => ⟨S1x1x32x32, .f32⟩
  | 124 => ⟨S1x1x32x32, .f32⟩
  | 125 => ⟨S1, .f32⟩
  | 126 => ⟨S_, .f32⟩
  | 127 => ⟨S1x1x32x32, .f32⟩
  | _ => ⟨S1024x1x32x32, .f32⟩

abbrev hbmTy0_1 (i : Nat) : BufTy := match i % 128 with
  | 0 => ⟨S1x1x32x32, .f32⟩
  | 1 => ⟨S1x1x32x32, .f32⟩
  | 2 => ⟨S1x1x32x32, .f32⟩
  | 3 => ⟨S1024x1x32x32, .f32⟩
  | 4 => ⟨S_, .i32⟩
  | 5 => ⟨S_, .f32⟩
  | 6 => ⟨S1024x1x32x40, .f32⟩
  | 7 => ⟨S_, .f32⟩
  | 8 => ⟨S1024x1x32x32, .f32⟩
  | 9 => ⟨S1, .f32⟩
  | 10 => ⟨S_, .f32⟩
  | 11 => ⟨S1024x1x32x32, .f32⟩
  | 12 => ⟨S1024x1x32x32, .f32⟩
  | 13 => ⟨S1024x1x32x32, .f32⟩
  | 14 => ⟨S1024x1x32x32, .f32⟩
  | 15 => ⟨S1, .f32⟩
  | 16 => ⟨S_, .f32⟩
  | 17 => ⟨S1024x1x32x32, .f32⟩
  | 18 => ⟨S1024x1x32x32, .f32⟩
  | 19 => ⟨S1024x1x32x32, .f32⟩
  | 20 => ⟨S1024x1x32x32, .f32⟩
  | 21 => ⟨S1, .f32⟩
  | 22 => ⟨S_, .f32⟩
  | 23 => ⟨S1024x1x32x32, .f32⟩
  | 24 => ⟨S1024x1x32x32, .f32⟩
  | 25 => ⟨S1024x1x32x32, .f32⟩
  | 26 => ⟨S1024x1x32x32, .f32⟩
  | 27 => ⟨S1, .f32⟩
  | 28 => ⟨S_, .f32⟩
  | 29 => ⟨S1024x1x32x32, .f32⟩
  | 30 => ⟨S1024x1x32x32, .f32⟩
  | 31 => ⟨S1024x1x32x32, .f32⟩
  | 32 => ⟨S1024x1x32x32, .f32⟩
  | 33 => ⟨S1, .f32⟩
  | 34 => ⟨S_, .f32⟩
  | 35 => ⟨S1024x1x32x32, .f32⟩
  | 36 => ⟨S1024x1x32x32, .f32⟩
  | 37 => ⟨S1024x1x32x32, .f32⟩
  | 38 => ⟨S1024x1x32x32, .f32⟩
  | 39 => ⟨S1, .f32⟩
  | 40 => ⟨S_, .f32⟩
  | 41 => ⟨S1024x1x32x32, .f32⟩
  | 42 => ⟨S1024x1x32x32, .f32⟩
  | 43 => ⟨S1024x1x32x32, .f32⟩
  | 44 => ⟨S1024x1x32x32, .f32⟩
  | 45 => ⟨S1, .f32⟩
  | 46 => ⟨S_, .f32⟩
  | 47 => ⟨S1024x1x32x32, .f32⟩
  | 48 => ⟨S1024x1x32x32, .f32⟩
  | 49 => ⟨S1024x1x32x32, .f32⟩
  | 50 => ⟨S1024x1x32x32, .f32⟩
  | 51 => ⟨S1, .f32⟩
  | 52 => ⟨S_, .f32⟩
  | 53 => ⟨S1024x1x32x32, .f32⟩
  | 54 => ⟨S1024x1x32x32, .f32⟩
  | 55 => ⟨S1024x1x32x32, .f32⟩
  | 56 => ⟨S1024x1x32x32, .f32⟩
  | 57 => ⟨S1, .f32⟩
  | 58 => ⟨S_, .f32⟩
  | 59 => ⟨S1024x1x32x32, .f32⟩
  | 60 => ⟨S1024x1x32x32, .f32⟩
  | 61 => ⟨S1024x1x32x32, .f32⟩
  | 62 => ⟨S1024x1x32x32, .f32⟩
  | 63 => ⟨S1024x1x32x32, .f32⟩
  | 64 => ⟨S_, .i32⟩
  | 65 => ⟨S_, .f32⟩
  | 66 => ⟨S1024x1x32x40, .f32⟩
  | 67 => ⟨S_, .f32⟩
  | 68 => ⟨S1024x1x32x32, .f32⟩
  | 69 => ⟨S1, .f32⟩
  | 70 => ⟨S_, .f32⟩
  | 71 => ⟨S1024x1x32x32, .f32⟩
  | 72 => ⟨S1024x1x32x32, .f32⟩
  | 73 => ⟨S1024x1x32x32, .f32⟩
  | 74 => ⟨S1024x1x32x32, .f32⟩
  | 75 => ⟨S1, .f32⟩
  | 76 => ⟨S_, .f32⟩
  | 77 => ⟨S1024x1x32x32, .f32⟩
  | 78 => ⟨S1024x1x32x32, .f32⟩
  | 79 => ⟨S1024x1x32x32, .f32⟩
  | 80 => ⟨S1024x1x32x32, .f32⟩
  | 81 => ⟨S1, .f32⟩
  | 82 => ⟨S_, .f32⟩
  | 83 => ⟨S1024x1x32x32, .f32⟩
  | 84 => ⟨S1024x1x32x32, .f32⟩
  | 85 => ⟨S1024x1x32x32, .f32⟩
  | 86 => ⟨S1024x1x32x32, .f32⟩
  | 87 => ⟨S1, .f32⟩
  | 88 => ⟨S_, .f32⟩
  | 89 => ⟨S1024x1x32x32, .f32⟩
  | 90 => ⟨S1024x1x32x32, .f32⟩
  | 91 => ⟨S1024x1x32x32, .f32⟩
  | 92 => ⟨S1024x1x32x32, .f32⟩
  | 93 => ⟨S1, .f32⟩
  | 94 => ⟨S_, .f32⟩
  | 95 => ⟨S1024x1x32x32, .f32⟩
  | 96 => ⟨S1024x1x32x32, .f32⟩
  | 97 => ⟨S1024x1x32x32, .f32⟩
  | 98 => ⟨S1024x1x32x32, .f32⟩
  | 99 => ⟨S1, .f32⟩
  | 100 => ⟨S_, .f32⟩
  | 101 => ⟨S1024x1x32x32, .f32⟩
  | 102 => ⟨S1024x1x32x32, .f32⟩
  | 103 => ⟨S1024x1x32x32, .f32⟩
  | 104 => ⟨S1024x1x32x32, .f32⟩
  | 105 => ⟨S1, .f32⟩
  | 106 => ⟨S_, .f32⟩
  | 107 => ⟨S1024x1x32x32, .f32⟩
  | 108 => ⟨S1024x1x32x32, .f32⟩
  | 109 => ⟨S1024x1x32x32, .f32⟩
  | 110 => ⟨S1024x1x32x32, .f32⟩
  | 111 => ⟨S1, .f32⟩
  | 112 => ⟨S_, .f32⟩
  | 113 => ⟨S1024x1x32x32, .f32⟩
  | 114 => ⟨S1024x1x32x32, .f32⟩
  | 115 => ⟨S1024x1x32x32, .f32⟩
  | 116 => ⟨S1024x1x32x32, .f32⟩
  | 117 => ⟨S1, .f32⟩
  | 118 => ⟨S_, .f32⟩
  | 119 => ⟨S1024x1x32x32, .f32⟩
  | 120 => ⟨S1024x1x32x32, .f32⟩
  | 121 => ⟨S1024x1x32x32, .f32⟩
  | 122 => ⟨S1024x1x32x32, .f32⟩
  | 123 => ⟨S_, .f32⟩
  | 124 => ⟨S1x1x32x32, .f32⟩
  | 125 => ⟨S1x1x32x32, .f32⟩
  | 126 => ⟨S1024x1x32x32, .f32⟩
  | 127 => ⟨S1024x1x32x32, .f32⟩
  | _ => ⟨S1024x1x32x32, .f32⟩

abbrev hbmTy0_2 (i : Nat) : BufTy := match i % 128 with
  | 0 => ⟨S1024x1x32x1, .f32⟩
  | 1 => ⟨S1024x1x32x33, .f32⟩
  | 2 => ⟨S1024x1x32x1, .f32⟩
  | 3 => ⟨S1024x1x32x34, .f32⟩
  | 4 => ⟨S_, .f32⟩
  | 5 => ⟨S1024x1x32x32, .f32⟩
  | 6 => ⟨S1, .f32⟩
  | 7 => ⟨S_, .f32⟩
  | 8 => ⟨S1024x1x32x32, .f32⟩
  | 9 => ⟨S1024x1x32x32, .f32⟩
  | 10 => ⟨S1024x1x32x32, .f32⟩
  | 11 => ⟨S1024x1x32x32, .f32⟩
  | 12 => ⟨S1, .f32⟩
  | 13 => ⟨S_, .f32⟩
  | 14 => ⟨S1024x1x32x32, .f32⟩
  | 15 => ⟨S1024x1x32x32, .f32⟩
  | 16 => ⟨S1024x1x32x32, .f32⟩
  | 17 => ⟨S1024x1x32x32, .f32⟩
  | 18 => ⟨S1, .f32⟩
  | 19 => ⟨S_, .f32⟩
  | 20 => ⟨S1024x1x32x32, .f32⟩
  | 21 => ⟨S1024x1x32x32, .f32⟩
  | 22 => ⟨S1024x1x32x32, .f32⟩
  | 23 => ⟨S1024x1x32x32, .f32⟩
  | 24 => ⟨S1024x1x32x32, .f32⟩
  | 25 => ⟨S1024x1x32x1, .f32⟩
  | 26 => ⟨S1024x1x32x33, .f32⟩
  | 27 => ⟨S1024x1x32x1, .f32⟩
  | 28 => ⟨S1024x1x32x34, .f32⟩
  | 29 => ⟨S_, .f32⟩
  | 30 => ⟨S1024x1x32x32, .f32⟩
  | 31 => ⟨S1, .f32⟩
  | 32 => ⟨S_, .f32⟩
  | 33 => ⟨S1024x1x32x32, .f32⟩
  | 34 => ⟨S1024x1x32x32, .f32⟩
  | 35 => ⟨S1024x1x32x32, .f32⟩
  | 36 => ⟨S1024x1x32x32, .f32⟩
  | 37 => ⟨S1, .f32⟩
  | 38 => ⟨S_, .f32⟩
  | 39 => ⟨S1024x1x32x32, .f32⟩
  | 40 => ⟨S1024x1x32x32, .f32⟩
  | 41 => ⟨S1024x1x32x32, .f32⟩
  | 42 => ⟨S1024x1x32x32, .f32⟩
  | 43 => ⟨S1, .f32⟩
  | 44 => ⟨S_, .f32⟩
  | 45 => ⟨S1024x1x32x32, .f32⟩
  | 46 => ⟨S1024x1x32x32, .f32⟩
  | 47 => ⟨S1024x1x32x32, .f32⟩
  | 48 => ⟨S1024x1x32x32, .f32⟩
  | 49 => ⟨S1024x1x32x32, .f32⟩
  | 50 => ⟨S1024x1x32x32, .f32⟩
  | 51 => ⟨S1024x1x32x1, .f32⟩
  | 52 => ⟨S1024x1x32x33, .f32⟩
  | 53 => ⟨S1024x1x32x1, .f32⟩
  | 54 => ⟨S1024x1x32x34, .f32⟩
  | 55 => ⟨S_, .f32⟩
  | 56 => ⟨S1024x1x32x32, .f32⟩
  | 57 => ⟨S1, .f32⟩
  | 58 => ⟨S_, .f32⟩
  | 59 => ⟨S1024x1x32x32, .f32⟩
  | 60 => ⟨S1024x1x32x32, .f32⟩
  | 61 => ⟨S1024x1x32x32, .f32⟩
  | 62 => ⟨S1024x1x32x32, .f32⟩
  | 63 => ⟨S1, .f32⟩
  | 64 => ⟨S_, .f32⟩
  | 65 => ⟨S1024x1x32x32, .f32⟩
  | 66 => ⟨S1024x1x32x32, .f32⟩
  | 67 => ⟨S1024x1x32x32, .f32⟩
  | 68 => ⟨S1024x1x32x32, .f32⟩
  | 69 => ⟨S1, .f32⟩
  | 70 => ⟨S_, .f32⟩
  | 71 => ⟨S1024x1x32x32, .f32⟩
  | 72 => ⟨S1024x1x32x32, .f32⟩
  | 73 => ⟨S1024x1x32x32, .f32⟩
  | 74 => ⟨S1024x1x32x32, .f32⟩
  | 75 => ⟨S1024x1x32x32, .f32⟩
  | 76 => ⟨S1024x1x32x1, .f32⟩
  | 77 => ⟨S1024x1x32x33, .f32⟩
  | 78 => ⟨S1024x1x32x1, .f32⟩
  | 79 => ⟨S1024x1x32x34, .f32⟩
  | 80 => ⟨S_, .f32⟩
  | 81 => ⟨S1024x1x32x32, .f32⟩
  | 82 => ⟨S1, .f32⟩
  | 83 => ⟨S_, .f32⟩
  | 84 => ⟨S1024x1x32x32, .f32⟩
  | 85 => ⟨S1024x1x32x32, .f32⟩
  | 86 => ⟨S1024x1x32x32, .f32⟩
  | 87 => ⟨S1024x1x32x32, .f32⟩
  | 88 => ⟨S1, .f32⟩
  | 89 => ⟨S_, .f32⟩
  | 90 => ⟨S1024x1x32x32, .f32⟩
  | 91 => ⟨S1024x1x32x32, .f32⟩
  | 92 => ⟨S1024x1x32x32, .f32⟩
  | 93 => ⟨S1024x1x32x32, .f32⟩
  | 94 => ⟨S1, .f32⟩
  | 95 => ⟨S_, .f32⟩
  | 96 => ⟨S1024x1x32x32, .f32⟩
  | 97 => ⟨S1024x1x32x32, .f32⟩
  | 98 => ⟨S1024x1x32x32, .f32⟩
  | 99 => ⟨S1024x1x32x32, .f32⟩
  | 100 => ⟨S1024x1x32x32, .f32⟩
  | 101 => ⟨S1024x1x32x32, .f32⟩
  | 102 => ⟨S1024x1x32x32, .f32⟩
  | 103 => ⟨S1024x1x32x32, .f32⟩
  | 104 => ⟨S1024x1x32x32, .f32⟩
  | 105 => ⟨S_, .f32⟩
  | 106 => ⟨S1024x1x32x32, .f32⟩
  | 107 => ⟨S1024x1x32x32, .f32⟩
  | 108 => ⟨S1024x1x32x32, .f32⟩
  | 109 => ⟨S_, .f32⟩
  | 110 => ⟨S1x1x32x32, .f32⟩
  | 111 => ⟨S1x1x32x32, .i1⟩
  | 112 => ⟨S1x1x32x32, .f32⟩
  | 113 => ⟨S_, .i1⟩
  | 114 => ⟨S1x1x32x32, .i1⟩
  | 115 => ⟨S_, .i32⟩
  | 116 => ⟨S_, .f32⟩
  | 117 => ⟨S1x1x34x34, .f32⟩
  | 118 => ⟨S1x1x32x32, .f32⟩
  | 119 => ⟨S_, .f32⟩
  | 120 => ⟨S1x1x32x32, .f32⟩
  | 121 => ⟨S1x1x32x32, .i1⟩
  | 122 => ⟨S1x1x32x32, .i1⟩
  | 123 => ⟨S_, .i32⟩
  | 124 => ⟨S_, .f32⟩
  | 125 => ⟨S1x1x34x34, .f32⟩
  | 126 => ⟨S1x1x32x32, .f32⟩
  | 127 => ⟨S_, .f32⟩
  | _ => ⟨S1024x1x32x32, .f32⟩

abbrev hbmTy0_3 (i : Nat) : BufTy := match i % 128 with
  | 0 => ⟨S1x1x32x32, .f32⟩
  | 1 => ⟨S1x1x32x32, .i1⟩
  | 2 => ⟨S1x1x32x32, .i1⟩
  | 3 => ⟨S_, .i32⟩
  | 4 => ⟨S_, .f32⟩
  | 5 => ⟨S1x1x34x34, .f32⟩
  | 6 => ⟨S1x1x32x32, .f32⟩
  | 7 => ⟨S_, .f32⟩
  | 8 => ⟨S1x1x32x32, .f32⟩
  | 9 => ⟨S1x1x32x32, .i1⟩
  | 10 => ⟨S1x1x32x32, .i1⟩
  | 11 => ⟨S_, .i32⟩
  | 12 => ⟨S_, .f32⟩
  | 13 => ⟨S1x1x34x34, .f32⟩
  | 14 => ⟨S1x1x32x32, .f32⟩
  | 15 => ⟨S_, .f32⟩
  | 16 => ⟨S1x1x32x32, .f32⟩
  | 17 => ⟨S1x1x32x32, .i1⟩
  | 18 => ⟨S1x1x32x32, .i1⟩
  | 19 => ⟨S_, .i32⟩
  | 20 => ⟨S_, .f32⟩
  | 21 => ⟨S1x1x34x34, .f32⟩
  | 22 => ⟨S1x1x32x32, .f32⟩
  | 23 => ⟨S_, .f32⟩
  | 24 => ⟨S1x1x32x32, .f32⟩
  | 25 => ⟨S1x1x32x32, .i1⟩
  | 26 => ⟨S1x1x32x32, .i1⟩
  | 27 => ⟨S_, .i32⟩
  | 28 => ⟨S_, .f32⟩
  | 29 => ⟨S1x1x34x34, .f32⟩
  | 30 => ⟨S1x1x32x32, .f32⟩
  | 31 => ⟨S_, .f32⟩
  | 32 => ⟨S1x1x32x32, .f32⟩
  | 33 => ⟨S1x1x32x32, .i1⟩
  | 34 => ⟨S1x1x32x32, .i1⟩
  | 35 => ⟨S_, .i32⟩
  | 36 => ⟨S_, .f32⟩
  | 37 => ⟨S1x1x34x34, .f32⟩
  | 38 => ⟨S1x1x32x32, .f32⟩
  | 39 => ⟨S_, .f32⟩
  | 40 => ⟨S1x1x32x32, .f32⟩
  | 41 => ⟨S1x1x32x32, .i1⟩
  | 42 => ⟨S1x1x32x32, .i1⟩
  | 43 => ⟨S_, .i32⟩
  | 44 => ⟨S_, .f32⟩
  | 45 => ⟨S1x1x34x34, .f32⟩
  | 46 => ⟨S1x1x32x32, .f32⟩
  | 47 => ⟨S_, .f32⟩
  | 48 => ⟨S1x1x32x32, .f32⟩
  | 49 => ⟨S1x1x32x32, .i1⟩
  | 50 => ⟨S1x1x32x32, .i1⟩
  | 51 => ⟨S_, .i32⟩
  | 52 => ⟨S_, .f32⟩
  | 53 => ⟨S1x1x34x34, .f32⟩
  | 54 => ⟨S1x1x32x32, .f32⟩
  | 55 => ⟨S_, .f32⟩
  | 56 => ⟨S1x1x32x32, .f32⟩
  | 57 => ⟨S1x1x32x32, .i1⟩
  | 58 => ⟨S1x1x32x32, .i1⟩
  | 59 => ⟨S1x1x32x32, .f32⟩
  | 60 => ⟨S_, .f32⟩
  | 61 => ⟨S1x1x32x32, .f32⟩
  | 62 => ⟨S1x1x32x32, .i1⟩
  | 63 => ⟨S1x1x32x32, .i1⟩
  | 64 => ⟨S_, .f32⟩
  | 65 => ⟨S1024x1x32x32, .f32⟩
  | 66 => ⟨S1024x1x32x32, .i1⟩
  | 67 => ⟨S_, .f32⟩
  | 68 => ⟨S1024x1x32x32, .f32⟩
  | 69 => ⟨S1024x1x32x32, .i1⟩
  | 70 => ⟨S1024x1x32x32, .i1⟩
  | 71 => ⟨S_, .f32⟩
  | 72 => ⟨S1024x1x32x32, .f32⟩
  | 73 => ⟨S1024x1x32x32, .i1⟩
  | 74 => ⟨S_, .f32⟩
  | 75 => ⟨S1024x1x32x32, .f32⟩
  | 76 => ⟨S1024x1x32x32, .i1⟩
  | 77 => ⟨S1024x1x32x32, .i1⟩
  | 78 => ⟨S1024x1x32x32, .i1⟩
  | 79 => ⟨S_, .f32⟩
  | 80 => ⟨S1024x1x32x32, .f32⟩
  | 81 => ⟨S1024x1x32x32, .i1⟩
  | 82 => ⟨S_, .f32⟩
  | 83 => ⟨S1024x1x32x32, .f32⟩
  | 84 => ⟨S1024x1x32x32, .i1⟩
  | 85 => ⟨S1024x1x32x32, .i1⟩
  | 86 => ⟨S_, .f32⟩
  | 87 => ⟨S1024x1x32x32, .f32⟩
  | 88 => ⟨S1024x1x32x32, .i1⟩
  | 89 => ⟨S_, .f32⟩
  | 90 => ⟨S1024x1x32x32, .f32⟩
  | 91 => ⟨S1024x1x32x32, .i1⟩
  | 92 => ⟨S1024x1x32x32, .i1⟩
  | 93 => ⟨S1024x1x32x32, .i1⟩
  | 94 => ⟨S_, .f32⟩
  | 95 => ⟨S1024x1x32x32, .f32⟩
  | 96 => ⟨S1024x1x32x32, .i1⟩
  | 97 => ⟨S_, .f32⟩
  | 98 => ⟨S_, .f32⟩
  | 99 => ⟨S1024x1x32x32, .f32⟩
  | 100 => ⟨S1024x1x32x32, .f32⟩
  | 101 => ⟨S_, .f32⟩
  | 102 => ⟨S1024x1x32x32, .f32⟩
  | 103 => ⟨S1024x1x32x32, .i1⟩
  | 104 => ⟨S_, .f32⟩
  | 105 => ⟨S_, .f32⟩
  | 106 => ⟨S1024x1x32x32, .f32⟩
  | 107 => ⟨S1024x1x32x32, .f32⟩
  | 108 => ⟨S_, .i1⟩
  | 109 => ⟨S1024x1x32x32, .i1⟩
  | 110 => ⟨S_, .f32⟩
  | 111 => ⟨S1024x1x32x32, .f32⟩
  | 112 => ⟨S1024x1x32x32, .i1⟩
  | 113 => ⟨S1024x1x32x32, .i1⟩
  | 114 => ⟨S1024x1x32x32, .i1⟩
  | 115 => ⟨S1024x1x32x32, .i1⟩
  | 116 => ⟨S_, .f32⟩
  | 117 => ⟨S1024x1x32x32, .f32⟩
  | 118 => ⟨S1024x1x32x32, .f32⟩
  | 119 => ⟨S1024x1x32x32, .f32⟩
  | 120 => ⟨S_, .i32⟩
  | 121 => ⟨S_, .f32⟩
  | 122 => ⟨S1024x1x34x34, .f32⟩
  | 123 => ⟨S1024x1x32x32, .f32⟩
  | 124 => ⟨S_, .i32⟩
  | 125 => ⟨S_, .f32⟩
  | 126 => ⟨S1024x1x34x34, .f32⟩
  | 127 => ⟨S1024x1x32x32, .f32⟩
  | _ => ⟨S1024x1x32x32, .f32⟩

abbrev hbmTy0_4 (i : Nat) : BufTy := match i % 128 with
  | 0 => ⟨S_, .i32⟩
  | 1 => ⟨S_, .f32⟩
  | 2 => ⟨S1024x1x34x34, .f32⟩
  | 3 => ⟨S1024x1x32x32, .f32⟩
  | 4 => ⟨S_, .i32⟩
  | 5 => ⟨S_, .f32⟩
  | 6 => ⟨S1024x1x34x34, .f32⟩
  | 7 => ⟨S1024x1x32x32, .f32⟩
  | 8 => ⟨S1024x1x32x32, .f32⟩
  | 9 => ⟨S_, .f32⟩
  | 10 => ⟨S1024x1x32x32, .f32⟩
  | 11 => ⟨S1024x1x32x32, .f32⟩
  | 12 => ⟨S1024x1x32x32, .f32⟩
  | 13 => ⟨S1024x1x32x32, .f32⟩
  | 14 => ⟨S1024x1x32x32, .f32⟩
  | 15 => ⟨S_, .f32⟩
  | 16 => ⟨S1024x1x32x32, .f32⟩
  | 17 => ⟨S1024x1x32x32, .f32⟩
  | 18 => ⟨S1024x1x32x32, .f32⟩
  | 19 => ⟨S1024x1x32x32, .f32⟩
  | 20 => ⟨S1024x1x32x32, .f32⟩
  | 21 => ⟨S_, .f32⟩
  | 22 => ⟨S1024x1x32x32, .f32⟩
  | 23 => ⟨S1024x1x32x32, .f32⟩
  | 24 => ⟨S1024x1x32x32, .f32⟩
  | 25 => ⟨S_, .f32⟩
  | 26 => ⟨S1024x1x32x32, .f32⟩
  | 27 => ⟨S1024x1x32x32, .f32⟩
  | 28 => ⟨S1024x1x32x32, .f32⟩
  | 29 => ⟨S_, .f32⟩
  | 30 => ⟨S1024x1x32x32, .f32⟩
  | 31 => ⟨S1024x1x32x32, .f32⟩
  | 32 => ⟨S1024x1x32x32, .f32⟩
  | 33 => ⟨S_, .f32⟩
  | 34 => ⟨S1024x1x32x32, .f32⟩
  | 35 => ⟨S1024x1x32x32, .f32⟩
  | 36 => ⟨S1024x1x32x32, .f32⟩
  | 37 => ⟨S1024x1x32x32, .i1⟩
  | 38 => ⟨S1024x1x32x32, .i1⟩
  | 39 => ⟨S1024x1x32x32, .i1⟩
  | 40 => ⟨S1024x1x32x32, .i1⟩
  | 41 => ⟨S_, .f32⟩
  | 42 => ⟨S_, .f32⟩
  | 43 => ⟨S1024x1x32x32, .f32⟩
  | 44 => ⟨S1024x1x32x32, .f32⟩
  | 45 => ⟨S1024x1x32x32, .f32⟩
  | 46 => ⟨S1024x1x32x32, .i1⟩
  | 47 => ⟨S1024x1x32x32, .i1⟩
  | 48 => ⟨S1024x1x32x32, .i1⟩
  | 49 => ⟨S1024x1x32x32, .i1⟩
  | 50 => ⟨S1024x1x32x32, .f32⟩
  | 51 => ⟨S_, .i32⟩
  | 52 => ⟨S_, .f32⟩
  | 53 => ⟨S1024x1x34x34, .f32⟩
  | 54 => ⟨S1024x1x32x32, .f32⟩
  | 55 => ⟨S_, .i32⟩
  | 56 => ⟨S_, .f32⟩
  | 57 => ⟨S1024x1x34x34, .f32⟩
  | 58 => ⟨S1024x1x32x32, .f32⟩
  | 59 => ⟨S_, .i32⟩
  | 60 => ⟨S_, .f32⟩
  | 61 => ⟨S1024x1x34x34, .f32⟩
  | 62 => ⟨S1024x1x32x32, .f32⟩
  | 63 => ⟨S_, .i32⟩
  | 64 => ⟨S_, .f32⟩
  | 65 => ⟨S1024x1x34x34, .f32⟩
  | 66 => ⟨S1024x1x32x32, .f32⟩
  | 67 => ⟨S1024x1x32x32, .f32⟩
  | 68 => ⟨S_, .f32⟩
  | 69 => ⟨S1024x1x32x32, .f32⟩
  | 70 => ⟨S1024x1x32x32, .f32⟩
  | 71 => ⟨S1024x1x32x32, .f32⟩
  | 72 => ⟨S1024x1x32x32, .f32⟩
  | 73 => ⟨S1024x1x32x32, .f32⟩
  | 74 => ⟨S_, .f32⟩
  | 75 => ⟨S1024x1x32x32, .f32⟩
  | 76 => ⟨S1024x1x32x32, .f32⟩
  | 77 => ⟨S1024x1x32x32, .f32⟩
  | 78 => ⟨S1024x1x32x32, .f32⟩
  | 79 => ⟨S1024x1x32x32, .f32⟩
  | 80 => ⟨S_, .f32⟩
  | 81 => ⟨S1024x1x32x32, .f32⟩
  | 82 => ⟨S1024x1x32x32, .f32⟩
  | 83 => ⟨S1024x1x32x32, .f32⟩
  | 84 => ⟨S_, .f32⟩
  | 85 => ⟨S1024x1x32x32, .f32⟩
  | 86 => ⟨S1024x1x32x32, .f32⟩
  | 87 => ⟨S1024x1x32x32, .f32⟩
  | 88 => ⟨S_, .f32⟩
  | 89 => ⟨S1024x1x32x32, .f32⟩
  | 90 => ⟨S1024x1x32x32, .f32⟩
  | 91 => ⟨S1024x1x32x32, .f32⟩
  | 92 => ⟨S_, .f32⟩
  | 93 => ⟨S1024x1x32x32, .f32⟩
  | 94 => ⟨S1024x1x32x32, .f32⟩
  | 95 => ⟨S1024x1x32x32, .f32⟩
  | 96 => ⟨S1024x1x32x32, .i1⟩
  | 97 => ⟨S1024x1x32x32, .i1⟩
  | 98 => ⟨S1024x1x32x32, .i1⟩
  | 99 => ⟨S1024x1x32x32, .i1⟩
  | 100 => ⟨S_, .f32⟩
  | 101 => ⟨S_, .f32⟩
  | 102 => ⟨S1024x1x32x32, .f32⟩
  | 103 => ⟨S1024x1x32x32, .f32⟩
  | 104 => ⟨S1024x1x32x32, .f32⟩
  | 105 => ⟨S1024x1x32x32, .i1⟩
  | 106 => ⟨S1024x1x32x32, .i1⟩
  | 107 => ⟨S1024x1x32x32, .i1⟩
  | 108 => ⟨S1024x1x32x32, .i1⟩
  | 109 => ⟨S1024x1x32x32, .f32⟩
  | 110 => ⟨S_, .i32⟩
  | 111 => ⟨S_, .f32⟩
  | 112 => ⟨S1024x1x34x34, .f32⟩
  | 113 => ⟨S1024x1x32x32, .f32⟩
  | 114 => ⟨S_, .i32⟩
  | 115 => ⟨S_, .f32⟩
  | 116 => ⟨S1024x1x34x34, .f32⟩
  | 117 => ⟨S1024x1x32x32, .f32⟩
  | 118 => ⟨S_, .i32⟩
  | 119 => ⟨S_, .f32⟩
  | 120 => ⟨S1024x1x34x34, .f32⟩
  | 121 => ⟨S1024x1x32x32, .f32⟩
  | 122 => ⟨S_, .i32⟩
  | 123 => ⟨S_, .f32⟩
  | 124 => ⟨S1024x1x34x34, .f32⟩
  | 125 => ⟨S1024x1x32x32, .f32⟩
  | 126 => ⟨S1024x1x32x32, .f32⟩
  | 127 => ⟨S_, .f32⟩
  | _ => ⟨S1024x1x32x32, .f32⟩

abbrev hbmTy0_5 (i : Nat) : BufTy := match i % 128 with
  | 0 => ⟨S1024x1x32x32, .f32⟩
  | 1 => ⟨S1024x1x32x32, .f32⟩
  | 2 => ⟨S1024x1x32x32, .f32⟩
  | 3 => ⟨S1024x1x32x32, .f32⟩
  | 4 => ⟨S1024x1x32x32, .f32⟩
  | 5 => ⟨S_, .f32⟩
  | 6 => ⟨S1024x1x32x32, .f32⟩
  | 7 => ⟨S1024x1x32x32, .f32⟩
  | 8 => ⟨S1024x1x32x32, .f32⟩
  | 9 => ⟨S1024x1x32x32, .f32⟩
  | 10 => ⟨S1024x1x32x32, .f32⟩
  | 11 => ⟨S_, .f32⟩
  | 12 => ⟨S1024x1x32x32, .f32⟩
  | 13 => ⟨S1024x1x32x32, .f32⟩
  | 14 => ⟨S1024x1x32x32, .f32⟩
  | 15 => ⟨S_, .f32⟩
  | 16 => ⟨S1024x1x32x32, .f32⟩
  | 17 => ⟨S1024x1x32x32, .f32⟩
  | 18 => ⟨S1024x1x32x32, .f32⟩
  | 19 => ⟨S1024x1x32x32, .i1⟩
  | 20 => ⟨S1024x1x32x32, .i1⟩
  | 21 => ⟨S1024x1x32x32, .i1⟩
  | 22 => ⟨S1024x1x32x32, .i1⟩
  | 23 => ⟨S_, .f32⟩
  | 24 => ⟨S_, .f32⟩
  | 25 => ⟨S1024x1x32x32, .f32⟩
  | 26 => ⟨S1024x1x32x32, .f32⟩
  | 27 => ⟨S1024x1x32x32, .f32⟩
  | 28 => ⟨S1024x1x32x32, .i1⟩
  | 29 => ⟨S1024x1x32x32, .i1⟩
  | 30 => ⟨S1024x1x32x32, .i1⟩
  | 31 => ⟨S1024x1x32x32, .i1⟩
  | 32 => ⟨S1024x1x32x32, .f32⟩
  | 33 => ⟨S_, .i32⟩
  | 34 => ⟨S_, .f32⟩
  | 35 => ⟨S1024x1x34x34, .f32⟩
  | 36 => ⟨S1024x1x32x32, .f32⟩
  | 37 => ⟨S_, .i32⟩
  | 38 => ⟨S_, .f32⟩
  | 39 => ⟨S1024x1x34x34, .f32⟩
  | 40 => ⟨S1024x1x32x32, .f32⟩
  | 41 => ⟨S_, .i32⟩
  | 42 => ⟨S_, .f32⟩
  | 43 => ⟨S1024x1x34x34, .f32⟩
  | 44 => ⟨S1024x1x32x32, .f32⟩
  | 45 => ⟨S_, .i32⟩
  | 46 => ⟨S_, .f32⟩
  | 47 => ⟨S1024x1x34x34, .f32⟩
  | 48 => ⟨S1024x1x32x32, .f32⟩
  | 49 => ⟨S1024x1x32x32, .f32⟩
  | 50 => ⟨S_, .f32⟩
  | 51 => ⟨S1024x1x32x32, .f32⟩
  | 52 => ⟨S1024x1x32x32, .f32⟩
  | 53 => ⟨S1024x1x32x32, .f32⟩
  | 54 => ⟨S1024x1x32x32, .f32⟩
  | 55 => ⟨S1024x1x32x32, .f32⟩
  | 56 => ⟨S_, .f32⟩
  | 57 => ⟨S1024x1x32x32, .f32⟩
  | 58 => ⟨S1024x1x32x32, .f32⟩
  | 59 => ⟨S1024x1x32x32, .f32⟩
  | 60 => ⟨S1024x1x32x32, .f32⟩
  | 61 => ⟨S1024x1x32x32, .f32⟩
  | 62 => ⟨S_, .f32⟩
  | 63 => ⟨S1024x1x32x32, .f32⟩
  | 64 => ⟨S1024x1x32x32, .f32⟩
  | 65 => ⟨S1024x1x32x32, .f32⟩
  | 66 => ⟨S_, .f32⟩
  | 67 => ⟨S1024x1x32x32, .f32⟩
  | 68 => ⟨S1024x1x32x32, .f32⟩
  | 69 => ⟨S1024x1x32x32, .f32⟩
  | 70 => ⟨S_, .f32⟩
  | 71 => ⟨S1024x1x32x32, .f32⟩
  | 72 => ⟨S1024x1x32x32, .f32⟩
  | 73 => ⟨S1024x1x32x32, .f32⟩
  | 74 => ⟨S_, .f32⟩
  | 75 => ⟨S1024x1x32x32, .f32⟩
  | 76 => ⟨S1024x1x32x32, .f32⟩
  | 77 => ⟨S1024x1x32x32, .f32⟩
  | 78 => ⟨S1024x1x32x32, .i1⟩
  | 79 => ⟨S1024x1x32x32, .i1⟩
  | 80 => ⟨S1024x1x32x32, .i1⟩
  | 81 => ⟨S1024x1x32x32, .i1⟩
  | 82 => ⟨S_, .f32⟩
  | 83 => ⟨S_, .f32⟩
  | 84 => ⟨S1024x1x32x32, .f32⟩
  | 85 => ⟨S1024x1x32x32, .f32⟩
  | 86 => ⟨S1024x1x32x32, .f32⟩
  | 87 => ⟨S_, .f32⟩
  | 88 => ⟨S1024x1x32x32, .f32⟩
  | 89 => ⟨S1024x1x32x32, .i1⟩
  | 90 => ⟨S1024x1x32x32, .i1⟩
  | 91 => ⟨S_, .f32⟩
  | 92 => ⟨S_, .f32⟩
  | 93 => ⟨S1024x1x32x32, .f32⟩
  | 94 => ⟨S1024x1x32x32, .f32⟩
  | 95 => ⟨S1024x2x32x32, .f32⟩
  | _ => ⟨S1024x1x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x1x32x32, .f32⟩

abbrev bufTy : (tb : Table) → Fin (tcTables nBuf tb) → BufTy
  | .hbm, ⟨i, _⟩ => hbmTy i
  | _, _ => ⟨S1024x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_c_2 : Ref sig .tc := ⟨.hbm, 72, rfl⟩
abbrev main_call1_v0 : Ref sig .tc := ⟨.hbm, 73, rfl⟩
abbrev main_v62 : Ref sig .tc := ⟨.hbm, 74, rfl⟩
abbrev main_cst_3 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_c_4 : Ref sig .tc := ⟨.hbm, 132, rfl⟩
abbrev main_call2_v0 : Ref sig .tc := ⟨.hbm, 133, rfl⟩
abbrev main_v119 : Ref sig .tc := ⟨.hbm, 134, rfl⟩
abbrev main_cst_5 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_c_6 : Ref sig .tc := ⟨.hbm, 192, rfl⟩
abbrev main_call3_v0 : Ref sig .tc := ⟨.hbm, 193, rfl⟩
abbrev main_v176 : Ref sig .tc := ⟨.hbm, 194, rfl⟩
abbrev main_cst_7 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_cst_8 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_cst_9 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_cst_10 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_cst_11 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_v302 : Ref sig .tc := ⟨.hbm, 325, rfl⟩
abbrev main_v303 : Ref sig .tc := ⟨.hbm, 326, rfl⟩
abbrev main_v304 : Ref sig .tc := ⟨.hbm, 327, rfl⟩
abbrev main_v305 : Ref sig .tc := ⟨.hbm, 328, rfl⟩
abbrev main_v306 : Ref sig .tc := ⟨.hbm, 329, rfl⟩
abbrev main_v307 : Ref sig .tc := ⟨.hbm, 330, rfl⟩
abbrev main_v308 : Ref sig .tc := ⟨.hbm, 331, rfl⟩
abbrev main_v309 : Ref sig .tc := ⟨.hbm, 332, rfl⟩
abbrev main_v310 : Ref sig .tc := ⟨.hbm, 333, rfl⟩
abbrev main_v311 : Ref sig .tc := ⟨.hbm, 334, rfl⟩
abbrev main_v312 : Ref sig .tc := ⟨.hbm, 335, rfl⟩
abbrev main_cst_12 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_cst_13 : Ref sig .tc := ⟨.hbm, 361, rfl⟩
abbrev main_v337 : Ref sig .tc := ⟨.hbm, 362, rfl⟩
abbrev main_v338 : Ref sig .tc := ⟨.hbm, 363, rfl⟩
abbrev main_v339 : Ref sig .tc := ⟨.hbm, 364, rfl⟩
abbrev main_cst_14 : Ref sig .tc := ⟨.hbm, 365, rfl⟩
abbrev main_v340 : Ref sig .tc := ⟨.hbm, 366, rfl⟩
abbrev main_v341 : Ref sig .tc := ⟨.hbm, 367, rfl⟩
abbrev main_v342 : Ref sig .tc := ⟨.hbm, 368, rfl⟩
abbrev main_c_15 : Ref sig .tc := ⟨.hbm, 369, rfl⟩
abbrev main_v343 : Ref sig .tc := ⟨.hbm, 370, rfl⟩
abbrev main_c_16 : Ref sig .tc := ⟨.hbm, 371, rfl⟩
abbrev main_call4_v0 : Ref sig .tc := ⟨.hbm, 372, rfl⟩
abbrev main_v344 : Ref sig .tc := ⟨.hbm, 373, rfl⟩
abbrev main_v345 : Ref sig .tc := ⟨.hbm, 374, rfl⟩
abbrev main_cst_17 : Ref sig .tc := ⟨.hbm, 375, rfl⟩
abbrev main_v346 : Ref sig .tc := ⟨.hbm, 376, rfl⟩
abbrev main_v347 : Ref sig .tc := ⟨.hbm, 377, rfl⟩
abbrev main_v348 : Ref sig .tc := ⟨.hbm, 378, rfl⟩
abbrev main_c_18 : Ref sig .tc := ⟨.hbm, 379, rfl⟩
abbrev main_call5_v0 : Ref sig .tc := ⟨.hbm, 380, rfl⟩
abbrev main_v349 : Ref sig .tc := ⟨.hbm, 381, rfl⟩
abbrev main_v350 : Ref sig .tc := ⟨.hbm, 382, rfl⟩
abbrev main_cst_19 : Ref sig .tc := ⟨.hbm, 383, rfl⟩
abbrev main_v351 : Ref sig .tc := ⟨.hbm, 384, rfl⟩
abbrev main_v352 : Ref sig .tc := ⟨.hbm, 385, rfl⟩
abbrev main_v353 : Ref sig .tc := ⟨.hbm, 386, rfl⟩
abbrev main_c_20 : Ref sig .tc := ⟨.hbm, 387, rfl⟩
abbrev main_call6_v0 : Ref sig .tc := ⟨.hbm, 388, rfl⟩
abbrev main_v354 : Ref sig .tc := ⟨.hbm, 389, rfl⟩
abbrev main_v355 : Ref sig .tc := ⟨.hbm, 390, rfl⟩
abbrev main_cst_21 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_c_22 : Ref sig .tc := ⟨.hbm, 395, rfl⟩
abbrev main_call7_v0 : Ref sig .tc := ⟨.hbm, 396, rfl⟩
abbrev main_v359 : Ref sig .tc := ⟨.hbm, 397, rfl⟩
abbrev main_v360 : Ref sig .tc := ⟨.hbm, 398, rfl⟩
abbrev main_cst_23 : Ref sig .tc := ⟨.hbm, 399, rfl⟩
abbrev main_v361 : Ref sig .tc := ⟨.hbm, 400, rfl⟩
abbrev main_v362 : Ref sig .tc := ⟨.hbm, 401, rfl⟩
abbrev main_v363 : Ref sig .tc := ⟨.hbm, 402, rfl⟩
abbrev main_c_24 : Ref sig .tc := ⟨.hbm, 403, rfl⟩
abbrev main_call8_v0 : Ref sig .tc := ⟨.hbm, 404, rfl⟩
abbrev main_v364 : Ref sig .tc := ⟨.hbm, 405, rfl⟩
abbrev main_v365 : Ref sig .tc := ⟨.hbm, 406, rfl⟩
abbrev main_cst_25 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_c_26 : Ref sig .tc := ⟨.hbm, 411, rfl⟩
abbrev main_call9_v0 : Ref sig .tc := ⟨.hbm, 412, rfl⟩
abbrev main_v369 : Ref sig .tc := ⟨.hbm, 413, rfl⟩
abbrev main_v370 : Ref sig .tc := ⟨.hbm, 414, rfl⟩
abbrev main_cst_27 : Ref sig .tc := ⟨.hbm, 415, rfl⟩
abbrev main_v371 : Ref sig .tc := ⟨.hbm, 416, rfl⟩
abbrev main_v372 : Ref sig .tc := ⟨.hbm, 417, rfl⟩
abbrev main_v373 : Ref sig .tc := ⟨.hbm, 418, rfl⟩
abbrev main_c_28 : Ref sig .tc := ⟨.hbm, 419, rfl⟩
abbrev main_call10_v0 : Ref sig .tc := ⟨.hbm, 420, rfl⟩
abbrev main_v374 : Ref sig .tc := ⟨.hbm, 421, rfl⟩
abbrev main_v375 : Ref sig .tc := ⟨.hbm, 422, rfl⟩
abbrev main_cst_29 : Ref sig .tc := ⟨.hbm, 423, rfl⟩
abbrev main_v376 : Ref sig .tc := ⟨.hbm, 424, rfl⟩
abbrev main_v377 : Ref sig .tc := ⟨.hbm, 425, rfl⟩
abbrev main_v378 : Ref sig .tc := ⟨.hbm, 426, rfl⟩
abbrev main_c_30 : Ref sig .tc := ⟨.hbm, 427, rfl⟩
abbrev main_call11_v0 : Ref sig .tc := ⟨.hbm, 428, rfl⟩
abbrev main_v379 : Ref sig .tc := ⟨.hbm, 429, rfl⟩
abbrev main_v380 : Ref sig .tc := ⟨.hbm, 430, rfl⟩
abbrev main_cst_31 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_c_32 : Ref sig .tc := ⟨.hbm, 435, rfl⟩
abbrev main_call12_v0 : Ref sig .tc := ⟨.hbm, 436, rfl⟩
abbrev main_v384 : Ref sig .tc := ⟨.hbm, 437, rfl⟩
abbrev main_v385 : Ref sig .tc := ⟨.hbm, 438, rfl⟩
abbrev main_cst_33 : Ref sig .tc := ⟨.hbm, 439, rfl⟩
abbrev main_v386 : Ref sig .tc := ⟨.hbm, 440, rfl⟩
abbrev main_v387 : Ref sig .tc := ⟨.hbm, 441, rfl⟩
abbrev main_v388 : Ref sig .tc := ⟨.hbm, 442, rfl⟩
abbrev main_v389 : Ref sig .tc := ⟨.hbm, 443, rfl⟩
abbrev main_cst_34 : Ref sig .tc := ⟨.hbm, 444, rfl⟩
abbrev main_v390 : Ref sig .tc := ⟨.hbm, 445, rfl⟩
abbrev main_v391 : Ref sig .tc := ⟨.hbm, 446, rfl⟩
abbrev main_v392 : Ref sig .tc := ⟨.hbm, 447, rfl⟩
abbrev main_cst_35 : Ref sig .tc := ⟨.hbm, 448, rfl⟩
abbrev main_v393 : Ref sig .tc := ⟨.hbm, 449, rfl⟩
abbrev main_v394 : Ref sig .tc := ⟨.hbm, 450, rfl⟩
abbrev main_cst_36 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_cst_37 : Ref sig .tc := ⟨.hbm, 455, rfl⟩
abbrev main_v398 : Ref sig .tc := ⟨.hbm, 456, rfl⟩
abbrev main_v399 : Ref sig .tc := ⟨.hbm, 457, rfl⟩
abbrev main_cst_38 : Ref sig .tc := ⟨.hbm, 458, rfl⟩
abbrev main_v400 : Ref sig .tc := ⟨.hbm, 459, rfl⟩
abbrev main_v401 : Ref sig .tc := ⟨.hbm, 460, rfl⟩
abbrev main_v402 : Ref sig .tc := ⟨.hbm, 461, rfl⟩
abbrev main_v403 : Ref sig .tc := ⟨.hbm, 462, rfl⟩
abbrev main_cst_39 : Ref sig .tc := ⟨.hbm, 463, rfl⟩
abbrev main_v404 : Ref sig .tc := ⟨.hbm, 464, rfl⟩
abbrev main_v405 : Ref sig .tc := ⟨.hbm, 465, rfl⟩
abbrev main_cst_40 : Ref sig .tc := ⟨.hbm, 466, rfl⟩
abbrev main_v406 : Ref sig .tc := ⟨.hbm, 467, rfl⟩
abbrev main_v407 : Ref sig .tc := ⟨.hbm, 468, rfl⟩
abbrev main_v408 : Ref sig .tc := ⟨.hbm, 469, rfl⟩
abbrev main_cst_41 : Ref sig .tc := ⟨.hbm, 470, rfl⟩
abbrev main_v409 : Ref sig .tc := ⟨.hbm, 471, rfl⟩
abbrev main_v410 : Ref sig .tc := ⟨.hbm, 472, rfl⟩
abbrev main_cst_42 : Ref sig .tc := ⟨.hbm, 473, rfl⟩
abbrev main_v411 : Ref sig .tc := ⟨.hbm, 474, rfl⟩
abbrev main_v412 : Ref sig .tc := ⟨.hbm, 475, rfl⟩
abbrev main_v413 : Ref sig .tc := ⟨.hbm, 476, rfl⟩
abbrev main_v414 : Ref sig .tc := ⟨.hbm, 477, rfl⟩
abbrev main_cst_43 : Ref sig .tc := ⟨.hbm, 478, rfl⟩
abbrev main_v415 : Ref sig .tc := ⟨.hbm, 479, rfl⟩
abbrev main_v416 : Ref sig .tc := ⟨.hbm, 480, rfl⟩
abbrev main_cst_44 : Ref sig .tc := ⟨.hbm, 481, rfl⟩
abbrev main_call13_v0 : Ref sig .tc := ⟨.hbm, 482, rfl⟩
abbrev main_call13_v1 : Ref sig .tc := ⟨.hbm, 483, rfl⟩
abbrev main_v417 : Ref sig .tc := ⟨.hbm, 484, rfl⟩
abbrev main_cst_45 : Ref sig .tc := ⟨.hbm, 485, rfl⟩
abbrev main_v418 : Ref sig .tc := ⟨.hbm, 486, rfl⟩
abbrev main_v419 : Ref sig .tc := ⟨.hbm, 487, rfl⟩
abbrev main_cst_46 : Ref sig .tc := ⟨.hbm, 488, rfl⟩
abbrev main_call14_v0 : Ref sig .tc := ⟨.hbm, 489, rfl⟩
abbrev main_call14_v1 : Ref sig .tc := ⟨.hbm, 490, rfl⟩
abbrev main_v420 : Ref sig .tc := ⟨.hbm, 491, rfl⟩
abbrev main_c_47 : Ref sig .tc := ⟨.hbm, 492, rfl⟩
abbrev main_v421 : Ref sig .tc := ⟨.hbm, 493, rfl⟩
abbrev main_cst_48 : Ref sig .tc := ⟨.hbm, 494, rfl⟩
abbrev main_v422 : Ref sig .tc := ⟨.hbm, 495, rfl⟩
abbrev main_v423 : Ref sig .tc := ⟨.hbm, 496, rfl⟩
abbrev main_v424 : Ref sig .tc := ⟨.hbm, 497, rfl⟩
abbrev main_v425 : Ref sig .tc := ⟨.hbm, 498, rfl⟩
abbrev main_v426 : Ref sig .tc := ⟨.hbm, 499, rfl⟩
abbrev main_cst_49 : Ref sig .tc := ⟨.hbm, 500, rfl⟩
abbrev main_v427 : Ref sig .tc := ⟨.hbm, 501, rfl⟩
abbrev main_v428 : Ref sig .tc := ⟨.hbm, 502, rfl⟩
abbrev main_v429 : Ref sig .tc := ⟨.hbm, 503, rfl⟩
abbrev main_c_50 : Ref sig .tc := ⟨.hbm, 504, rfl⟩
abbrev main_call15_v0 : Ref sig .tc := ⟨.hbm, 505, rfl⟩
abbrev main_v430 : Ref sig .tc := ⟨.hbm, 506, rfl⟩
abbrev main_v431 : Ref sig .tc := ⟨.hbm, 507, rfl⟩
abbrev main_c_51 : Ref sig .tc := ⟨.hbm, 508, rfl⟩
abbrev main_call16_v0 : Ref sig .tc := ⟨.hbm, 509, rfl⟩
abbrev main_v432 : Ref sig .tc := ⟨.hbm, 510, rfl⟩
abbrev main_v433 : Ref sig .tc := ⟨.hbm, 511, rfl⟩
abbrev main_c_52 : Ref sig .tc := ⟨.hbm, 512, rfl⟩
abbrev main_call17_v0 : Ref sig .tc := ⟨.hbm, 513, rfl⟩
abbrev main_v434 : Ref sig .tc := ⟨.hbm, 514, rfl⟩
abbrev main_v435 : Ref sig .tc := ⟨.hbm, 515, rfl⟩
abbrev main_c_53 : Ref sig .tc := ⟨.hbm, 516, rfl⟩
abbrev main_call18_v0 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_cst_54 : Ref sig .tc := ⟨.hbm, 521, rfl⟩
abbrev main_v439 : Ref sig .tc := ⟨.hbm, 522, rfl⟩
abbrev main_v440 : Ref sig .tc := ⟨.hbm, 523, rfl⟩
abbrev main_v441 : Ref sig .tc := ⟨.hbm, 524, rfl⟩
abbrev main_v442 : Ref sig .tc := ⟨.hbm, 525, rfl⟩
abbrev main_v443 : Ref sig .tc := ⟨.hbm, 526, rfl⟩
abbrev main_cst_55 : Ref sig .tc := ⟨.hbm, 527, rfl⟩
abbrev main_v444 : Ref sig .tc := ⟨.hbm, 528, rfl⟩
abbrev main_v445 : Ref sig .tc := ⟨.hbm, 529, rfl⟩
abbrev main_v446 : Ref sig .tc := ⟨.hbm, 530, rfl⟩
abbrev main_v447 : Ref sig .tc := ⟨.hbm, 531, rfl⟩
abbrev main_v448 : Ref sig .tc := ⟨.hbm, 532, rfl⟩
abbrev main_cst_56 : Ref sig .tc := ⟨.hbm, 533, rfl⟩
abbrev main_v449 : Ref sig .tc := ⟨.hbm, 534, rfl⟩
abbrev main_v450 : Ref sig .tc := ⟨.hbm, 535, rfl⟩
abbrev main_v451 : Ref sig .tc := ⟨.hbm, 536, rfl⟩
abbrev main_call19_cst : Ref sig .tc := ⟨.hbm, 537, rfl⟩
abbrev main_call19_v0 : Ref sig .tc := ⟨.hbm, 538, rfl⟩
abbrev main_v452 : Ref sig .tc := ⟨.hbm, 539, rfl⟩
abbrev main_v453 : Ref sig .tc := ⟨.hbm, 540, rfl⟩
abbrev main_cst_57 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_call20_cst : Ref sig .tc := ⟨.hbm, 545, rfl⟩
abbrev main_call20_v0 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_cst_58 : Ref sig .tc := ⟨.hbm, 553, rfl⟩
abbrev main_call22_v0 : Ref sig .tc := ⟨.hbm, 554, rfl⟩
abbrev main_call22_v1 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_v468 : Ref sig .tc := ⟨.hbm, 561, rfl⟩
abbrev main_v469 : Ref sig .tc := ⟨.hbm, 562, rfl⟩
abbrev main_c_59 : Ref sig .tc := ⟨.hbm, 563, rfl⟩
abbrev main_call23_v0 : Ref sig .tc := ⟨.hbm, 564, rfl⟩
abbrev main_v470 : Ref sig .tc := ⟨.hbm, 565, rfl⟩
abbrev main_v471 : Ref sig .tc := ⟨.hbm, 566, rfl⟩
abbrev main_c_60 : Ref sig .tc := ⟨.hbm, 567, rfl⟩
abbrev main_call24_v0 : Ref sig .tc := ⟨.hbm, 568, rfl⟩
abbrev main_v472 : Ref sig .tc := ⟨.hbm, 569, rfl⟩
abbrev main_v473 : Ref sig .tc := ⟨.hbm, 570, rfl⟩
abbrev main_c_61 : Ref sig .tc := ⟨.hbm, 571, rfl⟩
abbrev main_call25_v0 : Ref sig .tc := ⟨.hbm, 572, rfl⟩
abbrev main_v474 : Ref sig .tc := ⟨.hbm, 573, rfl⟩
abbrev main_v475 : Ref sig .tc := ⟨.hbm, 574, rfl⟩
abbrev main_c_62 : Ref sig .tc := ⟨.hbm, 575, rfl⟩
abbrev main_call26_v0 : Ref sig .tc := ⟨.hbm, 576, rfl⟩
abbrev main_v476 : Ref sig .tc := ⟨.hbm, 577, rfl⟩
abbrev main_v477 : Ref sig .tc := ⟨.hbm, 578, rfl⟩
abbrev main_v478 : Ref sig .tc := ⟨.hbm, 579, rfl⟩
abbrev main_cst_63 : Ref sig .tc := ⟨.hbm, 580, rfl⟩
abbrev main_v479 : Ref sig .tc := ⟨.hbm, 581, rfl⟩
abbrev main_v480 : Ref sig .tc := ⟨.hbm, 582, rfl⟩
abbrev main_v481 : Ref sig .tc := ⟨.hbm, 583, rfl⟩
abbrev main_v482 : Ref sig .tc := ⟨.hbm, 584, rfl⟩
abbrev main_v483 : Ref sig .tc := ⟨.hbm, 585, rfl⟩
abbrev main_cst_64 : Ref sig .tc := ⟨.hbm, 586, rfl⟩
abbrev main_v484 : Ref sig .tc := ⟨.hbm, 587, rfl⟩
abbrev main_v485 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_cst_65 : Ref sig .tc := ⟨.hbm, 592, rfl⟩
abbrev main_v489 : Ref sig .tc := ⟨.hbm, 593, rfl⟩
abbrev main_v490 : Ref sig .tc := ⟨.hbm, 594, rfl⟩
abbrev main_v491 : Ref sig .tc := ⟨.hbm, 595, rfl⟩
abbrev main_call27_cst : Ref sig .tc := ⟨.hbm, 596, rfl⟩
abbrev main_call27_v0 : Ref sig .tc := ⟨.hbm, 597, rfl⟩
abbrev main_v492 : Ref sig .tc := ⟨.hbm, 598, rfl⟩
abbrev main_v493 : Ref sig .tc := ⟨.hbm, 599, rfl⟩
abbrev main_cst_66 : Ref sig .tc := ⟨.hbm, 600, rfl⟩
abbrev main_v494 : Ref sig .tc := ⟨.hbm, 601, rfl⟩
abbrev main_v495 : Ref sig .tc := ⟨.hbm, 602, rfl⟩
abbrev main_v496 : Ref sig .tc := ⟨.hbm, 603, rfl⟩
abbrev main_call28_cst : Ref sig .tc := ⟨.hbm, 604, rfl⟩
abbrev main_call28_v0 : Ref sig .tc := ⟨.hbm, 605, rfl⟩
abbrev main_v497 : Ref sig .tc := ⟨.hbm, 606, rfl⟩
abbrev main_v498 : Ref sig .tc := ⟨.hbm, 607, rfl⟩
abbrev main_v499 : Ref sig .tc := ⟨.hbm, 608, rfl⟩
abbrev main_v500 : Ref sig .tc := ⟨.hbm, 609, rfl⟩
abbrev main_v501 : Ref sig .tc := ⟨.hbm, 610, rfl⟩
abbrev main_v502 : Ref sig .tc := ⟨.hbm, 611, rfl⟩
abbrev main_cst_67 : Ref sig .tc := ⟨.hbm, 612, rfl⟩
abbrev main_call30_v0 : Ref sig .tc := ⟨.hbm, 613, rfl⟩
abbrev main_call30_v1 : Ref sig .tc := ⟨.hbm, 614, rfl⟩
abbrev main_v503 : Ref sig .tc := ⟨.hbm, 615, rfl⟩
abbrev main_v504 : Ref sig .tc := ⟨.hbm, 616, rfl⟩
abbrev main_v505 : Ref sig .tc := ⟨.hbm, 617, rfl⟩
abbrev main_v506 : Ref sig .tc := ⟨.hbm, 618, rfl⟩
abbrev main_v507 : Ref sig .tc := ⟨.hbm, 619, rfl⟩
abbrev main_v508 : Ref sig .tc := ⟨.hbm, 620, rfl⟩
abbrev main_v509 : Ref sig .tc := ⟨.hbm, 621, rfl⟩
abbrev main_c_68 : Ref sig .tc := ⟨.hbm, 622, rfl⟩
abbrev main_call31_v0 : Ref sig .tc := ⟨.hbm, 623, rfl⟩
abbrev main_v510 : Ref sig .tc := ⟨.hbm, 624, rfl⟩
abbrev main_v511 : Ref sig .tc := ⟨.hbm, 625, rfl⟩
abbrev main_c_69 : Ref sig .tc := ⟨.hbm, 626, rfl⟩
abbrev main_call32_v0 : Ref sig .tc := ⟨.hbm, 627, rfl⟩
abbrev main_v512 : Ref sig .tc := ⟨.hbm, 628, rfl⟩
abbrev main_v513 : Ref sig .tc := ⟨.hbm, 629, rfl⟩
abbrev main_c_70 : Ref sig .tc := ⟨.hbm, 630, rfl⟩
abbrev main_call33_v0 : Ref sig .tc := ⟨.hbm, 631, rfl⟩
abbrev main_v514 : Ref sig .tc := ⟨.hbm, 632, rfl⟩
abbrev main_v515 : Ref sig .tc := ⟨.hbm, 633, rfl⟩
abbrev main_c_71 : Ref sig .tc := ⟨.hbm, 634, rfl⟩
abbrev main_call34_v0 : Ref sig .tc := ⟨.hbm, 635, rfl⟩
abbrev main_v516 : Ref sig .tc := ⟨.hbm, 636, rfl⟩
abbrev main_v517 : Ref sig .tc := ⟨.hbm, 637, rfl⟩
abbrev main_v518 : Ref sig .tc := ⟨.hbm, 638, rfl⟩
abbrev main_cst_72 : Ref sig .tc := ⟨.hbm, 639, rfl⟩
abbrev main_v519 : Ref sig .tc := ⟨.hbm, 640, rfl⟩
abbrev main_v520 : Ref sig .tc := ⟨.hbm, 641, rfl⟩
abbrev main_v521 : Ref sig .tc := ⟨.hbm, 642, rfl⟩
abbrev main_v522 : Ref sig .tc := ⟨.hbm, 643, rfl⟩
abbrev main_v523 : Ref sig .tc := ⟨.hbm, 644, rfl⟩
abbrev main_cst_73 : Ref sig .tc := ⟨.hbm, 645, rfl⟩
abbrev main_v524 : Ref sig .tc := ⟨.hbm, 646, rfl⟩
abbrev main_v525 : Ref sig .tc := ⟨.hbm, 647, rfl⟩
abbrev main_v526 : Ref sig .tc := ⟨.hbm, 648, rfl⟩
abbrev main_v527 : Ref sig .tc := ⟨.hbm, 649, rfl⟩
abbrev main_v528 : Ref sig .tc := ⟨.hbm, 650, rfl⟩
abbrev main_cst_74 : Ref sig .tc := ⟨.hbm, 651, rfl⟩
abbrev main_v529 : Ref sig .tc := ⟨.hbm, 652, rfl⟩
abbrev main_v530 : Ref sig .tc := ⟨.hbm, 653, rfl⟩
abbrev main_v531 : Ref sig .tc := ⟨.hbm, 654, rfl⟩
abbrev main_call35_cst : Ref sig .tc := ⟨.hbm, 655, rfl⟩
abbrev main_call35_v0 : Ref sig .tc := ⟨.hbm, 656, rfl⟩
abbrev main_v532 : Ref sig .tc := ⟨.hbm, 657, rfl⟩
abbrev main_v533 : Ref sig .tc := ⟨.hbm, 658, rfl⟩
abbrev main_v534 : Ref sig .tc := ⟨.hbm, 659, rfl⟩
abbrev main_v535 : Ref sig .tc := ⟨.hbm, 660, rfl⟩
abbrev main_v536 : Ref sig .tc := ⟨.hbm, 661, rfl⟩
abbrev main_v537 : Ref sig .tc := ⟨.hbm, 662, rfl⟩
abbrev main_cst_75 : Ref sig .tc := ⟨.hbm, 663, rfl⟩
abbrev main_call37_v0 : Ref sig .tc := ⟨.hbm, 664, rfl⟩
abbrev main_call37_v1 : Ref sig .tc := ⟨.hbm, 665, rfl⟩
abbrev main_v538 : Ref sig .tc := ⟨.hbm, 666, rfl⟩
abbrev main_v539 : Ref sig .tc := ⟨.hbm, 667, rfl⟩
abbrev main_v540 : Ref sig .tc := ⟨.hbm, 668, rfl⟩
abbrev main_v541 : Ref sig .tc := ⟨.hbm, 669, rfl⟩
abbrev main_v542 : Ref sig .tc := ⟨.hbm, 670, rfl⟩
abbrev main_v543 : Ref sig .tc := ⟨.hbm, 671, rfl⟩
abbrev main_v544 : Ref sig .tc := ⟨.hbm, 672, rfl⟩
abbrev main_c_76 : Ref sig .tc := ⟨.hbm, 673, rfl⟩
abbrev main_call38_v0 : Ref sig .tc := ⟨.hbm, 674, rfl⟩
abbrev main_v545 : Ref sig .tc := ⟨.hbm, 675, rfl⟩
abbrev main_v546 : Ref sig .tc := ⟨.hbm, 676, rfl⟩
abbrev main_c_77 : Ref sig .tc := ⟨.hbm, 677, rfl⟩
abbrev main_call39_v0 : Ref sig .tc := ⟨.hbm, 678, rfl⟩
abbrev main_v547 : Ref sig .tc := ⟨.hbm, 679, rfl⟩
abbrev main_v548 : Ref sig .tc := ⟨.hbm, 680, rfl⟩
abbrev main_c_78 : Ref sig .tc := ⟨.hbm, 681, rfl⟩
abbrev main_call40_v0 : Ref sig .tc := ⟨.hbm, 682, rfl⟩
abbrev main_v549 : Ref sig .tc := ⟨.hbm, 683, rfl⟩
abbrev main_v550 : Ref sig .tc := ⟨.hbm, 684, rfl⟩
abbrev main_c_79 : Ref sig .tc := ⟨.hbm, 685, rfl⟩
abbrev main_call41_v0 : Ref sig .tc := ⟨.hbm, 686, rfl⟩
abbrev main_v551 : Ref sig .tc := ⟨.hbm, 687, rfl⟩
abbrev main_v552 : Ref sig .tc := ⟨.hbm, 688, rfl⟩
abbrev main_v553 : Ref sig .tc := ⟨.hbm, 689, rfl⟩
abbrev main_cst_80 : Ref sig .tc := ⟨.hbm, 690, rfl⟩
abbrev main_v554 : Ref sig .tc := ⟨.hbm, 691, rfl⟩
abbrev main_v555 : Ref sig .tc := ⟨.hbm, 692, rfl⟩
abbrev main_v556 : Ref sig .tc := ⟨.hbm, 693, rfl⟩
abbrev main_v557 : Ref sig .tc := ⟨.hbm, 694, rfl⟩
abbrev main_v558 : Ref sig .tc := ⟨.hbm, 695, rfl⟩
abbrev main_cst_81 : Ref sig .tc := ⟨.hbm, 696, rfl⟩
abbrev main_v559 : Ref sig .tc := ⟨.hbm, 697, rfl⟩
abbrev main_v560 : Ref sig .tc := ⟨.hbm, 698, rfl⟩
abbrev main_v561 : Ref sig .tc := ⟨.hbm, 699, rfl⟩
abbrev main_v562 : Ref sig .tc := ⟨.hbm, 700, rfl⟩
abbrev main_v563 : Ref sig .tc := ⟨.hbm, 701, rfl⟩
abbrev main_cst_82 : Ref sig .tc := ⟨.hbm, 702, rfl⟩
abbrev main_v564 : Ref sig .tc := ⟨.hbm, 703, rfl⟩
abbrev main_v565 : Ref sig .tc := ⟨.hbm, 704, rfl⟩
abbrev main_v566 : Ref sig .tc := ⟨.hbm, 705, rfl⟩
abbrev main_call42_cst : Ref sig .tc := ⟨.hbm, 706, rfl⟩
abbrev main_call42_v0 : Ref sig .tc := ⟨.hbm, 707, rfl⟩
abbrev main_v567 : Ref sig .tc := ⟨.hbm, 708, rfl⟩
abbrev main_v568 : Ref sig .tc := ⟨.hbm, 709, rfl⟩
abbrev main_cst_83 : Ref sig .tc := ⟨.hbm, 710, rfl⟩
abbrev main_v569 : Ref sig .tc := ⟨.hbm, 711, rfl⟩
abbrev main_v570 : Ref sig .tc := ⟨.hbm, 712, rfl⟩
abbrev main_v571 : Ref sig .tc := ⟨.hbm, 713, rfl⟩
abbrev main_call43_cst : Ref sig .tc := ⟨.hbm, 714, rfl⟩
abbrev main_call43_v0 : Ref sig .tc := ⟨.hbm, 715, rfl⟩
abbrev main_v572 : Ref sig .tc := ⟨.hbm, 716, rfl⟩
abbrev main_v573 : Ref sig .tc := ⟨.hbm, 717, rfl⟩
abbrev main_v574 : Ref sig .tc := ⟨.hbm, 718, rfl⟩
abbrev main_v575 : Ref sig .tc := ⟨.hbm, 719, rfl⟩
abbrev main_v576 : Ref sig .tc := ⟨.hbm, 720, rfl⟩
abbrev main_v577 : Ref sig .tc := ⟨.hbm, 721, rfl⟩
abbrev main_cst_84 : Ref sig .tc := ⟨.hbm, 722, rfl⟩
abbrev main_call45_v0 : Ref sig .tc := ⟨.hbm, 723, rfl⟩
abbrev main_call45_v1 : Ref sig .tc := ⟨.hbm, 724, rfl⟩
abbrev main_v578 : Ref sig .tc := ⟨.hbm, 725, rfl⟩
abbrev main_v579 : Ref sig .tc := ⟨.hbm, 726, rfl⟩
abbrev main_cst_85 : Ref sig .tc := ⟨.hbm, 727, rfl⟩
abbrev main_v580 : Ref sig .tc := ⟨.hbm, 728, rfl⟩
abbrev main_v581 : Ref sig .tc := ⟨.hbm, 729, rfl⟩
abbrev main_v582 : Ref sig .tc := ⟨.hbm, 730, rfl⟩
abbrev main_cst_86 : Ref sig .tc := ⟨.hbm, 731, rfl⟩
abbrev main_call46_v0 : Ref sig .tc := ⟨.hbm, 732, rfl⟩
abbrev main_call46_v1 : Ref sig .tc := ⟨.hbm, 733, rfl⟩
abbrev main_v583 : Ref sig .tc := ⟨.hbm, 734, rfl⟩
abbrev main_v584 : Ref sig .tc := ⟨.hbm, 735, rfl⟩

abbrev nD : Nat := 1
abbrev τ : Topo := Topo.v7x

variable {F : FTy → Type} [FloatOps F]
-- ==== Proof.Lift.lean ====
/-
  Arrays of real numbers.

  But for the mask and what smooths it, every array either program computes holds finite numbers only, so it is the array `lift x` of a function `x` from
  coordinates (a function of the axis number) to the reals. The lemmas below say what each array operation does to
  such arrays: they turn a program's text into one function on the reals, whatever the rank.
-/
module

public import Idealize.ShloMosaic.Lib.Pointwise
public import Idealize.ShloMosaic.Lib.Pipeline.Value
public import Idealize.ShloMosaic.PureOps.Ideal.Laws

@[expose] public section

noncomputable section

namespace Cert.Canny

open Idealize.ShloMosaic

/-! ### Coordinates -/

/-- The coordinates of an index as natural numbers, zero past the last axis. -/
def co {s : Shape} (i : s.Idx) (k : ℕ) : ℕ := if h : k < s.rank then (i ⟨k, h⟩).val else 0

/-- Per-axis numbers (sizes, offsets) as a function of the axis number, zero past the last axis. -/
def ax {n : ℕ} (f : Fin n → ℕ) (k : ℕ) : ℕ := if h : k < n then f ⟨k, h⟩ else 0

/-- Coordinates with the one on axis `a` replaced. -/
def upd (v : ℕ → ℕ) (a n : ℕ) : ℕ → ℕ := fun k => if k = a then n else v k

/-- The coordinates `p`, `q`. -/
def at2 (p q : ℕ) : ℕ → ℕ
  | 0 => p
  | 1 => q
  | _ => 0

/-- The coordinates `p`, `q`, `r`. -/
def at3 (p q r : ℕ) : ℕ → ℕ
  | 0 => p
  | 1 => q
  | 2 => r
  | _ => 0

/-- The coordinates `p`, `q`, `r`, `t`. -/
def at4 (p q r t : ℕ) : ℕ → ℕ
  | 0 => p
  | 1 => q
  | 2 => r
  | 3 => t
  | _ => 0

theorem co_lt {s : Shape} (i : s.Idx) {k : ℕ} (h : k < s.rank) : co i k = (i ⟨k, h⟩).val := dif_pos h
theorem co_ge {s : Shape} (i : s.Idx) {k : ℕ} (h : ¬ k < s.rank) : co i k = 0 := dif_neg h
theorem ax_lt {n : ℕ} (f : Fin n → ℕ) {k : ℕ} (h : k < n) : ax f k = f ⟨k, h⟩ := dif_pos h
theorem ax_ge {n : ℕ} (f : Fin n → ℕ) {k : ℕ} (h : ¬ k < n) : ax f k = 0 := dif_neg h

/-- The array of the reals `x`. -/
def lift {s : Shape} (x : (ℕ → ℕ) → ℝ) : FVec Ideal s .f32 := fun i => ((x (co i) : ℝ) : EReal)

open Classical in
/-- The array of truth values `p`. -/
def liftB {s : Shape} (p : (ℕ → ℕ) → Prop) : IVec s 1 := fun i => BitVec.ofBool (decide (p (co i)))

/-- Two functions with the same values inside the shape give the same array. -/
theorem lift_congr {s : Shape} {x y : (ℕ → ℕ) → ℝ} (h : ∀ v, (∀ k : Fin s.rank, v k < s.size k) → x v = y v) :
    (lift x : FVec Ideal s .f32) = lift y := by
  funext i
  have := h (co i) fun k => by unfold co; rw [dif_pos k.isLt]; exact (i k).isLt
  simp only [lift, this]

theorem liftB_congr {s : Shape} {p q : (ℕ → ℕ) → Prop} (h : ∀ v, (∀ k : Fin s.rank, v k < s.size k) → (p v ↔ q v)) :
    (liftB p : IVec s 1) = liftB q := by
  funext i
  have := h (co i) fun k => by unfold co; rw [dif_pos k.isLt]; exact (i k).isLt
  by_cases hp : p (co i)
  · have hq := this.mp hp; simp [liftB, hp, hq]
  · have hq : ¬ q (co i) := fun hq => hp (this.mpr hq); simp [liftB, hp, hq]

/-! ### Element by element -/

section Elementwise
variable {s : Shape} (x y : (ℕ → ℕ) → ℝ) (p q : (ℕ → ℕ) → Prop)

theorem addf_lift : addf (lift x : FVec Ideal s .f32) (lift y) = lift fun v => x v + y v :=
  funext fun _ => (EReal.coe_add _ _).symm

theorem subf_lift : subf (lift x : FVec Ideal s .f32) (lift y) = lift fun v => x v - y v :=
  funext fun _ => (EReal.coe_sub _ _).symm

theorem mulf_lift : mulf (lift x : FVec Ideal s .f32) (lift y) = lift fun v => x v * y v :=
  funext fun _ => (EReal.coe_mul _ _).symm

theorem coe_max (a b : ℝ) : max (a : EReal) (b : EReal) = ((max a b : ℝ) : EReal) :=
  (EReal.coe_strictMono.monotone.map_max).symm

theorem maximumf_lift : maximumf (lift x : FVec Ideal s .f32) (lift y) = lift fun v => max (x v) (y v) :=
  funext fun _ => coe_max _ _

theorem negf_lift : negf (lift x : FVec Ideal s .f32) = lift fun v => -x v :=
  funext fun _ => (EReal.coe_neg _).symm

theorem hostNegf_lift : Host.negf (lift x : FVec Ideal s .f32) = lift fun v => -x v :=
  funext fun _ => (EReal.coe_neg _).symm

theorem abs_coe (a : ℝ) : max (a : EReal) (-(a : EReal)) = ((|a| : ℝ) : EReal) := by
  rw [← EReal.coe_neg, coe_max]; rfl

theorem absf_lift : absf (lift x : FVec Ideal s .f32) = lift fun v => |x v| :=
  funext fun _ => abs_coe _

theorem hostAbsf_lift : Host.absf (lift x : FVec Ideal s .f32) = lift fun v => |x v| :=
  funext fun _ => abs_coe _

theorem div_coe_coe {a b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

theorem divf_lift (h : ∀ v, y v ≠ 0) : divf (lift x : FVec Ideal s .f32) (lift y) = lift fun v => x v / y v :=
  funext fun _ => div_coe_coe (h _)

theorem hostDivf_lift (h : ∀ v, y v ≠ 0) : Host.divf (lift x : FVec Ideal s .f32) (lift y) = lift fun v => x v / y v :=
  funext fun _ => div_coe_coe (h _)

theorem sqrt_coe {a : ℝ} (h : 0 ≤ a) : Ideal.sqrt (a : EReal) = ((Real.sqrt a : ℝ) : EReal) :=
  if_neg (not_lt.mpr h)

theorem sqrt_lift (h : ∀ v, 0 ≤ x v) : sqrt (lift x : FVec Ideal s .f32) = lift fun v => Real.sqrt (x v) :=
  funext fun _ => sqrt_coe (h _)

theorem hostSqrt_lift (h : ∀ v, 0 ≤ x v) : Host.sqrt (lift x : FVec Ideal s .f32) = lift fun v => Real.sqrt (x v) :=
  funext fun _ => sqrt_coe (h _)

theorem broadcast_lift (c : ℝ) : (broadcast s ((c : ℝ) : EReal) : FVec Ideal s .f32) = lift fun _ => c := rfl

theorem ogt_lift : cmpf .ogt (lift x : FVec Ideal s .f32) (lift y) = liftB fun v => y v < x v := by
  funext i; simp only [cmpf, Ideal.cmpf_def, Ideal.cmp, lift, liftB, EReal.coe_lt_coe_iff]
theorem oge_lift : cmpf .oge (lift x : FVec Ideal s .f32) (lift y) = liftB fun v => y v ≤ x v := by
  funext i; simp only [cmpf, Ideal.cmpf_def, Ideal.cmp, lift, liftB, EReal.coe_le_coe_iff]
theorem ole_lift : cmpf .ole (lift x : FVec Ideal s .f32) (lift y) = liftB fun v => x v ≤ y v := by
  funext i; simp only [cmpf, Ideal.cmpf_def, Ideal.cmp, lift, liftB, EReal.coe_le_coe_iff]
theorem one_lift : cmpf .one (lift x : FVec Ideal s .f32) (lift y) = liftB fun v => x v ≠ y v := by
  funext i; by_cases h : x (co i) = y (co i) <;> simp [cmpf, Ideal.cmpf_def, Ideal.cmp, lift, liftB, h]
theorem une_lift : cmpf .une (lift x : FVec Ideal s .f32) (lift y) = liftB fun v => x v ≠ y v := by
  funext i; by_cases h : x (co i) = y (co i) <;> simp [cmpf, Ideal.cmpf_def, Ideal.cmp, lift, liftB, h]

theorem andi_lift : andi (liftB p : IVec s 1) (liftB q) = liftB fun v => p v ∧ q v := by
  funext i
  by_cases hp : p (co i) <;> by_cases hq : q (co i) <;> simp [andi, liftB, IntOp.andi, hp, hq]

theorem ori_lift : ori (liftB p : IVec s 1) (liftB q) = liftB fun v => p v ∨ q v := by
  funext i
  by_cases hp : p (co i) <;> by_cases hq : q (co i) <;> simp [ori, liftB, IntOp.ori, hp, hq]

open Classical in
theorem select_lift : select (liftB p : IVec s 1) (lift x : FVec Ideal s .f32) (lift y)
    = lift fun v => if p v then x v else y v := by
  funext i
  by_cases hp : p (co i) <;> simp [select, Scalar.select, liftB, lift, hp]

theorem selectB_lift (r : (ℕ → ℕ) → Prop) : select (liftB r : IVec s 1) (liftB p : IVec s 1) (liftB q)
    = liftB fun v => (r v ∧ p v) ∨ (¬ r v ∧ q v) := by
  funext i
  by_cases hp : p (co i) <;> by_cases hq : q (co i) <;> by_cases hr : r (co i) <;>
    simp [select, Scalar.select, liftB, hp, hq, hr]

open Classical in
/-- A truth value widened to a word and converted is `1` or `0`. -/
theorem sitofp_lift (h : 1 < 32) : (sitofp .f32 (extui 32 (liftB p : IVec s 1) h) : FVec Ideal s .f32)
    = lift fun v => if p v then 1 else 0 := by
  funext i
  by_cases hp : p (co i) <;> simp [sitofp, extui, liftB, lift, hp, FloatOps.sitofp]

open Classical in
theorem uitofp_lift : (uitofp .f32 (liftB p : IVec s 1) : FVec Ideal s .f32)
    = lift fun v => if p v then 1 else 0 := by
  funext i
  by_cases hp : p (co i) <;> simp [uitofp, liftB, lift, hp, FloatOps.uitofp]

end Elementwise

/-! ### Moving elements -/

section Layout
variable {α : Type} {s t : Shape}

theorem slice_lift (off : Fin s.rank → ℕ) (x : (ℕ → ℕ) → ℝ) (h : s.Slices off t) :
    extractStridedSlice t off (lift x : FVec Ideal s .f32) h = lift fun v => x fun k => v k + ax off k := by
  funext j
  simp only [extractStridedSlice, lift]
  congr 2; funext k
  have := h.1
  by_cases hk : k < s.rank
  · rw [co_lt _ hk, co_lt _ (by omega), ax_lt _ hk]; exact Nat.add_comm _ _
  · rw [co_ge _ hk, co_ge _ (by omega), ax_ge _ hk]

/-- A host slice at unit strides. -/
theorem hostSlice_lift (off st : Fin s.rank → ℕ) (hst : ∀ a, st a = 1) (x : (ℕ → ℕ) → ℝ) (h : s.SlicesBy off st t) :
    Host.slice t off st (lift x : FVec Ideal s .f32) h = lift fun v => x fun k => v k + ax off k := by
  funext j
  simp only [Host.slice, lift, hst, Nat.one_mul]
  congr 2; funext k
  have := h.1
  by_cases hk : k < s.rank
  · rw [co_lt _ hk, co_lt _ (by omega), ax_lt _ hk]; exact Nat.add_comm _ _
  · rw [co_ge _ hk, co_ge _ (by omega), ax_ge _ hk]

/-- Padding with a constant, nothing between the elements. -/
theorem pad_lift (lo hi int : Fin s.rank → ℕ) (hint : ∀ a, int a = 0) (x : (ℕ → ℕ) → ℝ) {u : Shape} (c : ℝ)
    (h : s.Pads lo hi int t) (hu : 0 < u.numel) :
    pad t lo hi int (lift x : FVec Ideal s .f32) (lift (fun _ => c) : FVec Ideal u .f32) h hu
      = lift fun v => if ∀ k < s.rank, ax lo k ≤ v k ∧ v k < ax lo k + ax s.size k then x fun k => v k - ax lo k else c := by
  funext j
  have hr := h.1
  have hc : (∀ a : Fin s.rank, lo a ≤ (j (a.cast h.1)).val ∧ ((j (a.cast h.1)).val - lo a) % (int a + 1) = 0
        ∧ ((j (a.cast h.1)).val - lo a) / (int a + 1) < s.size a)
      ↔ ∀ k < s.rank, ax lo k ≤ co j k ∧ co j k < ax lo k + ax s.size k := by
    constructor
    · intro H k hk
      have := H ⟨k, hk⟩
      rw [hint] at this
      rw [ax_lt _ hk, ax_lt _ hk, co_lt _ (by omega)]
      simp only [Fin.cast_mk, Nat.zero_add, Nat.div_one, Nat.mod_one] at this
      omega
    · intro H a
      have := H a a.isLt
      rw [hint]
      rw [ax_lt _ a.isLt, ax_lt _ a.isLt, co_lt _ (by omega)] at this
      simp only [Nat.zero_add, Nat.div_one, Nat.mod_one, true_and]
      have e : (j (a.cast h.1)).val = (j ⟨a.val, by omega⟩).val := rfl
      rw [e]
      simp only [Fin.eta] at this
      omega
  unfold pad
  rw [show (lift (fun v => if ∀ k < s.rank, ax lo k ≤ v k ∧ v k < ax lo k + ax s.size k then x fun k => v k - ax lo k else c) : FVec Ideal t .f32) j
    = ((if ∀ k < s.rank, ax lo k ≤ co j k ∧ co j k < ax lo k + ax s.size k then x fun k => co j k - ax lo k else c : ℝ) : EReal) from rfl]
  by_cases hh : ∀ k < s.rank, ax lo k ≤ co j k ∧ co j k < ax lo k + ax s.size k
  · rw [dif_pos (hc.mpr hh), if_pos hh]
    refine congrArg (fun r : ℝ => (r : EReal)) (congrArg x (funext fun k => ?_))
    by_cases hk : k < s.rank
    · rw [co_lt _ hk, co_lt _ (by omega), ax_lt _ hk]; simp only [hint, Nat.zero_add, Nat.div_one]; rfl
    · rw [co_ge _ hk, co_ge _ (by omega), ax_ge _ hk]
  · rw [dif_neg fun h' => hh (hc.mp h'), if_neg hh]; rfl

/-- Reading a piece of a concatenation. -/
theorem lift_piece (x : (ℕ → ℕ) → ℝ) (a : Fin t.rank) (j : t.Idx) (i : s.Idx) (hr : s.rank = t.rank) (c : ℕ)
    (hi : ∀ b, (i b).val = if b.val = a.val then c else (j (b.cast hr)).val) :
    (lift x : FVec Ideal s .f32) i = ((x (upd (co j) a c) : ℝ) : EReal) := by
  refine congrArg (fun r : ℝ => (r : EReal)) (congrArg x (funext fun k => ?_))
  unfold upd
  by_cases hk : k < s.rank
  · rw [co_lt _ hk, hi, co_lt _ (by omega)]; rfl
  · have := a.isLt
    rw [co_ge _ hk, co_ge _ (by omega), if_neg (by omega)]

theorem upd_self (j : t.Idx) (a : Fin t.rank) : upd (co j) a (j a).val = co j := by
  funext k; unfold upd
  by_cases hk : k = a.val
  · subst hk; rw [if_pos rfl, co_lt _ a.isLt]
  · rw [if_neg hk]

theorem co_fin (j : t.Idx) (a : Fin t.rank) : co j a = (j a).val := co_lt j a.isLt

theorem ax_fin {n : ℕ} (f : Fin n → ℕ) (a : Fin n) : ax f a = f a := ax_lt f a.isLt

theorem ax_cast {m n : ℕ} (h : m = n) (f : Fin n → ℕ) (a : Fin m) : ax f a = f (a.cast h) := by
  subst h; exact ax_fin f a

/-- Two arrays one after the other along an axis. -/
theorem concat2_lift {s₁ s₂ : Shape} (a : Fin t.rank) (x y : (ℕ → ℕ) → ℝ)
    (h : Shape.Concatenates (([⟨s₁, lift x⟩, ⟨s₂, lift y⟩] : List ((s : Shape) × FVec Ideal s .f32)).map (·.1)) t a) :
    (concatenate t a [⟨s₁, (lift x : FVec Ideal s₁ .f32)⟩, ⟨s₂, (lift y : FVec Ideal s₂ .f32)⟩] h : FVec Ideal t .f32)
      = lift fun v => if v a < ax s₁.size a then x v else y (upd v a (v a - ax s₁.size a)) := by
  funext j
  have h1 : ∃ h' : s₁.rank = t.rank, _ := h.2.1 s₁ (by simp)
  refine (concatenate_apply t a _ h j).trans ((concatenateAt_cons a j _ _ _ _ _ _).trans ?_)
  rw [show (lift (fun v => if v a < ax s₁.size a then x v else y (upd v a (v a - ax s₁.size a))) : FVec Ideal t .f32) j
    = ((if co j a < ax s₁.size a then x (co j) else y (upd (co j) a (co j a - ax s₁.size a)) : ℝ) : EReal) from rfl]
  rw [ax_cast h1.1.symm, co_fin]
  by_cases hh : (j a).val < s₁.size (a.cast h1.1.symm)
  · rw [dif_pos hh, if_pos hh]
    exact (lift_piece x a j _ h1.1 (j a).val (fun b => rfl)).trans (by rw [upd_self])
  · rw [dif_neg hh, if_neg hh]
    exact (concatenateAt_singleton a j _ _ _ _).trans (lift_piece y a j _ (h.2.1 s₂ (by simp)).1 _ (fun b => rfl))

/-- Three arrays one after the other along an axis. -/
theorem concat3_lift {s₁ s₂ s₃ : Shape} (a : Fin t.rank) (x y z : (ℕ → ℕ) → ℝ)
    (h : Shape.Concatenates (([⟨s₁, lift x⟩, ⟨s₂, lift y⟩, ⟨s₃, lift z⟩] : List ((s : Shape) × FVec Ideal s .f32)).map (·.1)) t a) :
    (concatenate t a [⟨s₁, (lift x : FVec Ideal s₁ .f32)⟩, ⟨s₂, (lift y : FVec Ideal s₂ .f32)⟩, ⟨s₃, (lift z : FVec Ideal s₃ .f32)⟩] h : FVec Ideal t .f32)
      = lift fun v => if v a < ax s₁.size a then x v
          else if v a - ax s₁.size a < ax s₂.size a then y (upd v a (v a - ax s₁.size a))
          else z (upd v a (v a - ax s₁.size a - ax s₂.size a)) := by
  funext j
  have h1 : ∃ h' : s₁.rank = t.rank, _ := h.2.1 s₁ (by simp)
  have h2 : ∃ h' : s₂.rank = t.rank, _ := h.2.1 s₂ (by simp)
  refine (concatenate_apply t a _ h j).trans ((concatenateAt_cons a j _ _ _ _ _ _).trans ?_)
  rw [show (lift (fun v => if v a < ax s₁.size a then x v
          else if v a - ax s₁.size a < ax s₂.size a then y (upd v a (v a - ax s₁.size a))
          else z (upd v a (v a - ax s₁.size a - ax s₂.size a))) : FVec Ideal t .f32) j
    = ((if co j a < ax s₁.size a then x (co j)
          else if co j a - ax s₁.size a < ax s₂.size a then y (upd (co j) a (co j a - ax s₁.size a))
          else z (upd (co j) a (co j a - ax s₁.size a - ax s₂.size a)) : ℝ) : EReal) from rfl]
  rw [ax_cast h1.1.symm, ax_cast h2.1.symm, co_fin]
  by_cases hh : (j a).val < s₁.size (a.cast h1.1.symm)
  · rw [dif_pos hh, if_pos hh]
    exact (lift_piece x a j _ h1.1 (j a).val (fun b => rfl)).trans (by rw [upd_self])
  · rw [dif_neg hh, if_neg hh]
    refine (concatenateAt_cons a j _ _ _ _ _ _).trans ?_
    by_cases hh' : (j a).val - s₁.size (a.cast h1.1.symm) < s₂.size (a.cast h2.1.symm)
    · rw [dif_pos hh', if_pos hh']
      exact lift_piece y a j _ h2.1 _ (fun b => rfl)
    · rw [dif_neg hh', if_neg hh']
      exact (concatenateAt_singleton a j _ _ _ _).trans (lift_piece z a j _ (h.2.1 s₃ (by simp)).1 _ (fun b => rfl))

end Layout

end Cert.Canny

end

end
-- ==== Proof.Rows.lean ====
/-
  The tile arrays of the kernel: what its payloads compose to.

  A tile is `[32, 32, 128]`: rows, columns, batch lanes. The kernel multiplies each row of a tile by a 32 × 32 matrix
  and stacks the 32 products; its text writes the 32 products out one by one. `mmRows` is that stack, and the lemmas
  below say which stacks the payloads are, and what follows each stack in its payload.
-/
module

public import proofs.«01_k».proof.Proof.Gen.KernelIdeal.Skeleton
public import proofs.«01_k».proof.Proof.Lift

@[expose] public section

set_option maxRecDepth 16384

noncomputable section

namespace Cert.Canny

open Idealize.ShloMosaic Cert.KernelIdeal Cert.KernelIdeal.Gen

/-- Row `n` of a tile is a slice of it. -/
theorem slices_row (n : Fin 32) : S32x32x128.Slices ![n.val, 0, 0] S1x32x128 :=
  ⟨rfl, fun a => by revert a n; decide⟩

/-- Row `n` of the tile `X` multiplied by the matrix `A`. -/
def mmRow (A : FVec Ideal S32x32 .f32) (X : FVec Ideal S32x32x128 .f32) (n : Fin 32) : FVec Ideal S1x32x128 .f32 :=
  shapeCast S1x32x128 (matmul dot_S32x32_S32x128_S32x128_1_0_0_1_n_n (some .fp32) A
    (shapeCast S32x128 (extractStridedSlice S1x32x128 ![n.val, 0, 0] X (slices_row n)) shapeCasts_S1x32x128_S32x128)
    (constant S32x128 .f32 0x00000000#32)) shapeCasts_S32x128_S1x32x128

/-- Every row of the tile `X` multiplied by the matrix `A`. -/
def mmRows (A : FVec Ideal S32x32 .f32) (X : FVec Ideal S32x32x128 .f32) : FVec Ideal S32x32x128 .f32 :=
  concatenate S32x32x128 0 (List.ofFn fun n : Fin 32 => ⟨S1x32x128, mmRow A X n⟩) concatenates_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S1x32x128_S32x32x128_d0

/-- The smoothed and normalised tile: the rows of `X` smoothed along the columns, scaled and shifted. -/
def smoothT (ag : FVec Ideal S32x32 .f32) (ib ad : FVec Ideal S32x32x1 .f32) (X : FVec Ideal S32x32x128 .f32) :
    FVec Ideal S32x32x128 .f32 :=
  addf (mulf (mmRows ag X) (broadcastTo S32x32x128 ib broadcasts_S32x32x1_S32x32x128)) (broadcastTo S32x32x128 ad broadcasts_S32x32x1_S32x32x128)

/-- The tile with its first and last row repeated. -/
def edgeT (X : FVec Ideal S32x32x128 .f32) : FVec Ideal S34x32x128 .f32 := k0_pay103 X

/-- The `1, 2, 1` sum along the rows. -/
def minorT (X : FVec Ideal S32x32x128 .f32) : FVec Ideal S32x32x128 .f32 :=
  addf (addf (extractStridedSlice S32x32x128 ![0, 0, 0] (edgeT X) slices_S34x32x128_o0_0_0_S32x32x128)
      (extractStridedSlice S32x32x128 ![2, 0, 0] (edgeT X) slices_S34x32x128_o2_0_0_S32x32x128))
    (mulf (broadcast S32x32x128 (Scalar.ofBits .f32 0x40000000#32))
      (extractStridedSlice S32x32x128 ![1, 0, 0] (edgeT X) slices_S34x32x128_o1_0_0_S32x32x128))

/-- The `-1, 0, 1` difference along the rows. -/
def majorT (X : FVec Ideal S32x32x128 .f32) : FVec Ideal S32x32x128 .f32 :=
  k0_pay105 (k0_pay103 X) (k0_pay104 X)

theorem smooth_rows (ag : FVec Ideal S32x32 .f32) (ib ad : FVec Ideal S32x32x1 .f32) (xp : FVec Ideal S40x32x128 .f32)
    (s a : FVec Ideal S32x32x128 .f32) (g : Elt Ideal .f32) :
      k0_pay66 ag ib ad (k0_pay36 xp s a g) (k0_pay37 ag xp s a g) (k0_pay38 ag xp s a g) (k0_pay39 ag xp s a g)
      (k0_pay40 ag xp s a g) (k0_pay41 ag xp s a g) (k0_pay42 ag xp s a g) (k0_pay43 ag xp s a g) (k0_pay44 ag xp s a
      g) (k0_pay45 ag xp s a g) (k0_pay46 ag xp s a g) (k0_pay47 ag xp s a g) (k0_pay48 ag xp s a g) (k0_pay50 ag
      (k0_pay49 xp s a g) (constant S32x128 .f32 0x00000000#32)) (k0_pay51 ag (k0_pay36 xp s a g)) (k0_pay52 ag
      (k0_pay36 xp s a g)) (k0_pay53 ag (k0_pay36 xp s a g)) (k0_pay54 ag (k0_pay36 xp s a g)) (k0_pay55 ag (k0_pay36
      xp s a g)) (k0_pay56 ag (k0_pay36 xp s a g)) (k0_pay57 ag (k0_pay36 xp s a g)) (k0_pay58 ag (k0_pay36 xp s a g))
      (k0_pay59 ag (k0_pay36 xp s a g)) (k0_pay60 ag (k0_pay36 xp s a g)) (k0_pay61 ag (k0_pay36 xp s a g)) (k0_pay62
      ag (k0_pay36 xp s a g)) (k0_pay63 ag (k0_pay36 xp s a g)) (k0_pay64 ag (k0_pay36 xp s a g)) (k0_pay65 (k0_pay36
      xp s a g)) (constant S32x128 .f32 0x00000000#32)
    = smoothT ag ib ad (k0_pay36 xp s a g) := rfl

theorem minor_rows (X : FVec Ideal S32x32x128 .f32) (am : FVec Ideal S32x32 .f32) :
      k0_pay101 X am (k0_pay69 am (extractStridedSlice S1x32x128 ![0, 0, 0] X slices_S32x32x128_o0_0_0_S1x32x128))
      (k0_pay70 X am) (k0_pay71 X am) (k0_pay72 X am) (k0_pay73 X am) (k0_pay74 X am) (k0_pay75 X am) (k0_pay76 X am)
      (k0_pay77 X am) (k0_pay78 X am) (k0_pay79 X am) (k0_pay80 X am) (k0_pay81 X am) (k0_pay82 X am) (k0_pay83 X am)
      (k0_pay85 am (k0_pay84 X)) (k0_pay86 X am) (k0_pay87 X am) (k0_pay88 X am) (k0_pay89 X am) (k0_pay90 X am)
      (k0_pay91 X am) (k0_pay92 X am) (k0_pay93 X am) (k0_pay94 X am) (k0_pay95 X am) (k0_pay96 X am) (k0_pay97 X am)
      (k0_pay98 X am) (k0_pay99 X am) (k0_pay100 X)
    = minorT (mmRows am X) := rfl

theorem major_rows (P : FVec Ideal S34x32x128 .f32) (Q : FVec Ideal S32x32x128 .f32) (ai : FVec Ideal S32x32 .f32) :
      k0_pay137 ai (k0_pay105 P Q) (k0_pay106 ai P Q) (k0_pay107 ai P Q) (k0_pay108 ai P Q) (k0_pay109 ai P Q)
      (k0_pay110 ai P Q) (k0_pay111 ai P Q) (k0_pay112 ai P Q) (k0_pay113 ai P Q) (k0_pay114 ai P Q) (k0_pay115 ai P
      Q) (k0_pay116 ai P Q) (k0_pay117 ai P Q) (k0_pay118 ai P Q) (k0_pay119 ai P Q) (k0_pay121 ai (k0_pay120 P Q))
      (k0_pay122 ai (k0_pay105 P Q)) (k0_pay123 ai (k0_pay105 P Q)) (k0_pay124 ai (k0_pay105 P Q)) (k0_pay125 ai
      (k0_pay105 P Q)) (k0_pay126 ai (k0_pay105 P Q)) (k0_pay127 ai (k0_pay105 P Q)) (k0_pay128 ai (k0_pay105 P Q))
      (k0_pay129 ai (k0_pay105 P Q)) (k0_pay130 ai (k0_pay105 P Q)) (k0_pay131 ai (k0_pay105 P Q)) (k0_pay132 ai
      (k0_pay105 P Q)) (k0_pay133 ai (k0_pay105 P Q)) (k0_pay134 ai (k0_pay105 P Q)) (k0_pay135 ai (k0_pay105 P Q))
      (k0_pay136 (k0_pay105 P Q))
    = mmRows ai (k0_pay105 P Q) := rfl

theorem plus_rows (M : FVec Ideal S32x32x128 .f32) (L : FVec Ideal S1x32x32 .f32) :
      k0_pay198 (k0_pay165 M (k0_pay154 L)) (k0_pay166 M (k0_pay154 L)) (k0_pay167 M (k0_pay154 L)) (k0_pay168 M
      (k0_pay154 L)) (k0_pay169 M (k0_pay154 L)) (k0_pay170 M (k0_pay154 L)) (k0_pay171 M (k0_pay154 L)) (k0_pay172 M
      (k0_pay154 L)) (k0_pay173 M (k0_pay154 L)) (k0_pay174 M (k0_pay154 L)) (k0_pay176 (k0_pay154 L) (k0_pay175 M))
      (k0_pay177 M (k0_pay154 L)) (k0_pay178 M (k0_pay154 L)) (k0_pay179 M (k0_pay154 L)) (k0_pay180 M (k0_pay154 L))
      (k0_pay181 M (k0_pay154 L)) (k0_pay182 M (k0_pay154 L)) (k0_pay183 M (k0_pay154 L)) (k0_pay184 M (k0_pay154 L))
      (k0_pay185 M (k0_pay154 L)) (k0_pay186 M (k0_pay154 L)) (k0_pay187 M (k0_pay154 L)) (k0_pay188 M (k0_pay154 L))
      (k0_pay189 (k0_pay155 M L)) (k0_pay190 (k0_pay156 M L)) (k0_pay191 (k0_pay157 M L)) (k0_pay192 (k0_pay158 M L))
      (k0_pay193 (k0_pay160 (k0_pay154 L) (k0_pay159 M))) (k0_pay194 (k0_pay161 M (k0_pay154 L))) (k0_pay195
      (k0_pay162 M (k0_pay154 L))) (k0_pay196 (k0_pay163 M (k0_pay154 L))) (k0_pay197 (k0_pay164 M (k0_pay154 L)))
    = k0_pay153 (mmRows (k0_pay154 L) M) := rfl

theorem minus_rows (M : FVec Ideal S32x32x128 .f32) (L : FVec Ideal S1x32x32 .f32) :
      k0_pay252 (k0_pay220 M (k0_pay199 L)) (k0_pay221 M (k0_pay199 L)) (k0_pay222 M (k0_pay199 L)) (k0_pay223 M
      (k0_pay199 L)) (k0_pay224 M (k0_pay199 L)) (k0_pay225 M (k0_pay199 L)) (k0_pay226 M (k0_pay199 L)) (k0_pay227 M
      (k0_pay199 L)) (k0_pay228 M (k0_pay199 L)) (k0_pay229 M (k0_pay199 L)) (k0_pay230 M (k0_pay199 L)) (k0_pay231 M
      (k0_pay199 L)) (k0_pay232 (k0_pay200 M L)) (k0_pay233 (k0_pay201 M L)) (k0_pay234 (k0_pay202 M L)) (k0_pay235
      (k0_pay203 M L)) (k0_pay236 (k0_pay204 M L)) (k0_pay237 (k0_pay205 M L)) (k0_pay238 (k0_pay206 M L)) (k0_pay239
      (k0_pay207 M (k0_pay199 L))) (k0_pay240 (k0_pay208 M (k0_pay199 L))) (k0_pay241 (k0_pay209 M (k0_pay199 L)))
      (k0_pay242 (k0_pay210 M (k0_pay199 L))) (k0_pay243 (k0_pay211 M (k0_pay199 L))) (k0_pay244 (k0_pay212 M
      (k0_pay199 L))) (k0_pay245 (k0_pay213 M (k0_pay199 L))) (k0_pay246 (k0_pay214 M (k0_pay199 L))) (k0_pay247
      (k0_pay215 M (k0_pay199 L))) (k0_pay248 (k0_pay216 M (k0_pay199 L))) (k0_pay249 (k0_pay217 M (k0_pay199 L)))
      (k0_pay250 (k0_pay218 M (k0_pay199 L))) (k0_pay251 (k0_pay219 M (k0_pay199 L)))
    = k0_pay153 (mmRows (k0_pay199 L) M) := rfl

end Cert.Canny
-- ==== Proof.Casts.lean ====
/-
  Shape casts and broadcasts of arrays of real numbers, and the stack of 32 matrix products.

  The two programs only insert and drop axes of size one, so a shape cast is a renaming of the coordinates.
-/
module

public import proofs.«01_k».proof.Proof.Rows

@[expose] public section

noncomputable section

namespace Cert.Canny

open Idealize.ShloMosaic Cert.KernelIdeal Cert.KernelIdeal.Gen

theorem co2 {d : Fin 2 → ℕ} (j : (⟨2, d⟩ : Shape).Idx) : co j = at2 (j 0).val (j 1).val := by
  funext k
  match k with
  | 0 => rfl
  | 1 => rfl
  | k + 2 => exact co_ge j (show ¬ k + 2 < 2 by omega)

theorem co3 {d : Fin 3 → ℕ} (j : (⟨3, d⟩ : Shape).Idx) : co j = at3 (j 0).val (j 1).val (j 2).val := by
  funext k
  match k with
  | 0 => rfl
  | 1 => rfl
  | 2 => rfl
  | k + 3 => exact co_ge j (show ¬ k + 3 < 3 by omega)

theorem co4 {d : Fin 4 → ℕ} (j : (⟨4, d⟩ : Shape).Idx) : co j = at4 (j 0).val (j 1).val (j 2).val (j 3).val := by
  funext k
  match k with
  | 0 => rfl
  | 1 => rfl
  | 2 => rfl
  | 3 => rfl
  | k + 4 => exact co_ge j (show ¬ k + 4 < 4 by omega)

/-- A shape cast, given which operand index each result index reads. -/
theorem shapeCast_lift {s t : Shape} (x y : (ℕ → ℕ) → ℝ) (h : s.ShapeCasts t)
    (hk : ∀ j : t.Idx, ∃ k : s.Idx, (s.rowMajor k).val = (t.rowMajor j).val ∧ x (co k) = y (co j)) :
    shapeCast t (lift x : FVec Ideal s .f32) h = lift y := by
  funext j
  obtain ⟨k, hk, hxy⟩ := hk j
  rw [shapeCast_apply _ h j k hk]
  exact congrArg (fun r : ℝ => (r : EReal)) hxy

section
variable {a b c : ℕ} (x : (ℕ → ℕ) → ℝ)

theorem cast_same {s : Shape} (h : s.ShapeCasts s) :
    shapeCast s (lift x : FVec Ideal s .f32) h = lift x :=
  shapeCast_lift x x h fun j => ⟨j, rfl, rfl⟩

theorem cast_add0 (h : (⟨2, ![a, b]⟩ : Shape).ShapeCasts ⟨3, ![1, a, b]⟩) :
    shapeCast ⟨3, ![1, a, b]⟩ (lift x : FVec Ideal ⟨2, ![a, b]⟩ .f32) h = lift fun v => x (at2 (v 1) (v 2)) :=
  shapeCast_lift x _ h fun j => ⟨ix2 (n0 := a) (n1 := b) (j 1) (j 2), by
    rw [Shape.rowMajor_val_two, Shape.rowMajor_val_three]
    have h0 : (j 0).val < 1 := (j 0).isLt
    have h0' : (j 0).val = 0 := by omega
    simp [h0'], by rw [co2, co3]; rfl⟩

theorem cast_drop0 (h : (⟨3, ![1, a, b]⟩ : Shape).ShapeCasts ⟨2, ![a, b]⟩) :
    shapeCast ⟨2, ![a, b]⟩ (lift x : FVec Ideal ⟨3, ![1, a, b]⟩ .f32) h = lift fun v => x (at3 0 (v 0) (v 1)) :=
  shapeCast_lift x _ h fun j => ⟨ix3 (n0 := 1) (n1 := a) (n2 := b) 0 (j 0) (j 1), by
    rw [Shape.rowMajor_val_two, Shape.rowMajor_val_three]; simp, by rw [co2, co3]; rfl⟩

theorem cast_add2 (h : (⟨2, ![a, b]⟩ : Shape).ShapeCasts ⟨3, ![a, b, 1]⟩) :
    shapeCast ⟨3, ![a, b, 1]⟩ (lift x : FVec Ideal ⟨2, ![a, b]⟩ .f32) h = lift fun v => x (at2 (v 0) (v 1)) :=
  shapeCast_lift x _ h fun j => ⟨ix2 (n0 := a) (n1 := b) (j 0) (j 1), by
    rw [Shape.rowMajor_val_two, Shape.rowMajor_val_three]
    have h0 : (j 2).val < 1 := (j 2).isLt
    have h0' : (j 2).val = 0 := by omega
    simp [h0'], by rw [co2, co3]; rfl⟩

theorem cast_drop2 (h : (⟨3, ![a, b, 1]⟩ : Shape).ShapeCasts ⟨2, ![a, b]⟩) :
    shapeCast ⟨2, ![a, b]⟩ (lift x : FVec Ideal ⟨3, ![a, b, 1]⟩ .f32) h = lift fun v => x (at3 (v 0) (v 1) 0) :=
  shapeCast_lift x _ h fun j => ⟨ix3 (n0 := a) (n1 := b) (n2 := 1) (j 0) (j 1) 0, by
    rw [Shape.rowMajor_val_two, Shape.rowMajor_val_three]; simp, by rw [co2, co3]; rfl⟩

theorem cast_lead (h : (⟨3, ![a, b, c]⟩ : Shape).ShapeCasts ⟨4, ![1, a, b, c]⟩) :
    shapeCast ⟨4, ![1, a, b, c]⟩ (lift x : FVec Ideal ⟨3, ![a, b, c]⟩ .f32) h
      = lift fun v => x (at3 (v 1) (v 2) (v 3)) :=
  shapeCast_lift x _ h fun j => ⟨ix3 (n0 := a) (n1 := b) (n2 := c) (j 1) (j 2) (j 3), by
    rw [Shape.rowMajor_val_three, Shape.rowMajor_val_four]
    have h0 : (j 0).val < 1 := (j 0).isLt
    have h0' : (j 0).val = 0 := by omega
    simp [h0'], by rw [co3, co4]; rfl⟩

theorem cast_drop1 (h : (⟨4, ![a, 1, b, c]⟩ : Shape).ShapeCasts ⟨3, ![a, b, c]⟩) :
    shapeCast ⟨3, ![a, b, c]⟩ (lift x : FVec Ideal ⟨4, ![a, 1, b, c]⟩ .f32) h
      = lift fun v => x (at4 (v 0) 0 (v 1) (v 2)) :=
  shapeCast_lift x _ h fun j => ⟨ix4 (n0 := a) (n1 := 1) (n2 := b) (n3 := c) (j 0) 0 (j 1) (j 2), by
    rw [Shape.rowMajor_val_three, Shape.rowMajor_val_four]; simp, by rw [co3, co4]; rfl⟩

end

/-- A matrix with a unit axis, the same in every lane. -/
theorem lanes_lift (x : (ℕ → ℕ) → ℝ) (h : S32x32x1.Broadcasts S32x32x128) :
    broadcastTo S32x32x128 (lift x : FVec Ideal S32x32x1 .f32) h = lift fun v => x (at3 (v 0) (v 1) 0) := by
  funext j
  rw [broadcastTo_apply _ h j (ix3 (n0 := 32) (n1 := 32) (n2 := 1) (j 0) (j 1) 0) (by
    intro a
    match a with
    | ⟨0, _⟩ => rfl
    | ⟨1, _⟩ => rfl
    | ⟨2, _⟩ => rfl)]
  refine congrArg (fun r : ℝ => (r : EReal)) ?_
  rw [co3, co3]; rfl

theorem coe_sum_range (n : ℕ) (f : ℕ → ℝ) :
    (∑ k : Fin n, ((f k : ℝ) : EReal)) = ((∑ k ∈ Finset.range n, f k : ℝ) : EReal) := by
  induction n with
  | zero => simp
  | succ n ih => rw [Fin.sum_univ_castSucc, Finset.sum_range_succ, EReal.coe_add, ← ih]; rfl

/-- A 32 × 32 matrix times a row of a tile. -/
theorem matmul_lift (A X : (ℕ → ℕ) → ℝ) :
    matmul dot_S32x32_S32x128_S32x128_1_0_0_1_n_n (some .fp32) (lift A : FVec Ideal S32x32 .f32)
        (lift X : FVec Ideal S32x128 .f32) (constant S32x128 .f32 0x00000000#32)
      = (lift fun v => ∑ c ∈ Finset.range 32, A (at2 (v 0) c) * X (at2 c (v 1)) : FVec Ideal S32x128 .f32) := by
  funext j
  pointwise
  have e : ∀ k : Fin 32, (lift A : FVec Ideal S32x32 .f32) (ix2 (j 0) k) * (lift X : FVec Ideal S32x128 .f32) (ix2 k (j 1))
      = ((A (at2 (j 0).val k.val) * X (at2 k.val (j 1).val) : ℝ) : EReal) := by
    intro k
    rw [EReal.coe_mul]
    show ((A (co _) : ℝ) : EReal) * ((X (co _) : ℝ) : EReal) = _
    rw [co2, co2]; rfl
  rw [Finset.sum_congr rfl fun k _ => e k,
    coe_sum_range 32 fun k => A (at2 (j 0).val k) * X (at2 k (j 1).val)]
  show _ = ((∑ c ∈ Finset.range 32, A (at2 (co j 0) c) * X (at2 c (co j 1)) : ℝ) : EReal)
  rw [co2]; rfl

/-- The stack of the products, at a coordinate. -/
theorem mmRows_lift (A X : (ℕ → ℕ) → ℝ) :
    mmRows (lift A) (lift X)
      = lift fun v => ∑ c ∈ Finset.range 32, A (at2 (v 1) c) * X (at3 (v 0) c (v 2)) := by
  funext j
  refine (concatenate_ofFn_unit_apply (t := S32x32x128) (s₁ := S1x32x128) 0 (mmRow (lift A) (lift X)) _ rfl rfl j (j 0) rfl
    (ix3 (n0 := 1) (n1 := 32) (n2 := 128) 0 (j 1) (j 2)) ?_).trans ?_
  · intro b hb
    match b with
    | ⟨0, _⟩ => exact absurd rfl hb
    | ⟨1, _⟩ => rfl
    | ⟨2, _⟩ => rfl
  · unfold mmRow
    rw [slice_lift, cast_drop0, matmul_lift, cast_add0]
    refine congrArg (fun r : ℝ => (r : EReal)) ?_
    rw [co3, co3]
    refine Finset.sum_congr rfl fun c _ => ?_
    refine congrArg₂ (· * ·) rfl (congrArg X (funext fun k => ?_))
    match k with
    | 0 => exact Nat.zero_add _
    | 1 => rfl
    | 2 => rfl
    | k + 3 => rfl

end Cert.Canny
-- ==== Proof.Consts.lean ====
/-
  The numbers the two programs' constant words stand for.
-/
module

public import proofs.«01_k».proof.Proof.Lift

@[expose] public section

noncomputable section

namespace Cert.Canny

open Idealize.ShloMosaic

/-- Added to the smoothed mask before the division. -/
def kTiny : ℝ := 9223372 * (2 : ℝ) ^ (-63 : ℤ)

/-- Added under the square root and to a divisor. -/
def kEps : ℝ := 9007199 * (2 : ℝ) ^ (-53 : ℤ)

/-- The margin of the soft suppression. -/
def kGamma : ℝ := 10737418 * (2 : ℝ) ^ (-31 : ℤ)

/-- The threshold of the hard edges. -/
def kThr : ℝ := 13421773 * (2 : ℝ) ^ (-26 : ℤ)

theorem kTiny_pos : 0 < kTiny := by unfold kTiny; positivity
theorem kEps_pos : 0 < kEps := by unfold kEps; positivity

theorem word_zero : (FloatOps.ofBits .f32 0x00000000#32 : Ideal .f32) = ((0 : ℝ) : EReal) :=
  Ideal.ofBits_zero_f32
theorem word_one : (FloatOps.ofBits .f32 0x3F800000#32 : Ideal .f32) = ((1 : ℝ) : EReal) :=
  Ideal.ofBits_one_f32
theorem word_half : (FloatOps.ofBits .f32 0x3F000000#32 : Ideal .f32) = ((1 / 2 : ℝ) : EReal) := by
  show Ideal.ofBits .f32 0x3F000000#32 = _
  simp [Ideal.ofBits, Ideal.ieee]; rw [← EReal.coe_mul]; norm_num
theorem word_two : (FloatOps.ofBits .f32 0x40000000#32 : Ideal .f32) = ((2 : ℝ) : EReal) := by
  show Ideal.ofBits .f32 0x40000000#32 = _
  simp [Ideal.ofBits, Ideal.ieee]; rw [← EReal.coe_mul]; norm_num
theorem word_tiny : (FloatOps.ofBits .f32 0x2B8CBCCC#32 : Ideal .f32) = ((kTiny : ℝ) : EReal) := by
  show Ideal.ofBits .f32 0x2B8CBCCC#32 = _
  simp [Ideal.ofBits, Ideal.ieee, kTiny]
theorem word_eps : (FloatOps.ofBits .f32 0x3089705F#32 : Ideal .f32) = ((kEps : ℝ) : EReal) := by
  show Ideal.ofBits .f32 0x3089705F#32 = _
  simp [Ideal.ofBits, Ideal.ieee, kEps]
theorem word_gamma : (FloatOps.ofBits .f32 0x3BA3D70A#32 : Ideal .f32) = ((kGamma : ℝ) : EReal) := by
  show Ideal.ofBits .f32 0x3BA3D70A#32 = _
  simp [Ideal.ofBits, Ideal.ieee, kGamma]
theorem word_thr : (FloatOps.ofBits .f32 0x3E4CCCCD#32 : Ideal .f32) = ((kThr : ℝ) : EReal) := by
  show Ideal.ofBits .f32 0x3E4CCCCD#32 = _
  simp [Ideal.ofBits, Ideal.ieee, kThr]

end Cert.Canny
-- ==== Proof.Spec.lean ====
/-
  The edge detector over the real numbers.

  An image is a function of its row and column. `zr p f n` reads a line of 32 numbers padded by `p` zeros on both
  sides. The functions below are the mathematics both programs compute, written on numbers.
-/
module

public import proofs.«01_k».proof.Proof.Consts

@[expose] public section

noncomputable section

namespace Cert.Canny

/-- Position `n` of the 32 numbers `f` with `p` zeros put before and after them. -/
def zr (p : ℕ) (f : ℕ → ℝ) (n : ℕ) : ℝ := if n < p then 0 else if n - p < 32 then f (n - p) else 0

/-- Nine taps. -/
def taps (g : ℕ → ℝ) (s : ℕ → ℝ) : ℝ := ∑ k ∈ Finset.range 9, g k * s k

/-- Smoothing along the rows, then along the columns, the image zero outside. -/
def blurI (g : ℕ → ℝ) (f : ℕ → ℕ → ℝ) (i j : ℕ) : ℝ := taps g fun k => zr 4 (fun i => f i j) (i + k)
def blurJ (g : ℕ → ℝ) (f : ℕ → ℕ → ℝ) (i j : ℕ) : ℝ := taps g fun k => zr 4 (fun j => f i j) (j + k)
def blur (g : ℕ → ℝ) (f : ℕ → ℕ → ℝ) : ℕ → ℕ → ℝ := blurJ g (blurI g f)

/-- The same of numbers that may be infinite, for the mask. -/
def zrW (p : ℕ) (f : ℕ → EReal) (n : ℕ) : EReal := if n < p then 0 else if n - p < 32 then f (n - p) else 0
def tapsW (g : ℕ → ℝ) (s : ℕ → EReal) : EReal := ∑ k ∈ Finset.range 9, (g k : EReal) * s k
def blurIW (g : ℕ → ℝ) (f : ℕ → ℕ → EReal) (i j : ℕ) : EReal := tapsW g fun k => zrW 4 (fun i => f i j) (i + k)
def blurJW (g : ℕ → ℝ) (f : ℕ → ℕ → EReal) (i j : ℕ) : EReal := tapsW g fun k => zrW 4 (fun j => f i j) (j + k)
def blurW (g : ℕ → ℝ) (f : ℕ → ℕ → EReal) : ℕ → ℕ → EReal := blurJW g (blurIW g f)

/-- What the smoothed image is divided by: the smoothed mask, and a little; and its inverse, zero where it is infinite. -/
def den (g : ℕ → ℝ) (m : ℕ → ℕ → EReal) (i j : ℕ) : EReal := blurW g m i j + kTiny
def recip (g : ℕ → ℝ) (m : ℕ → ℕ → EReal) (i j : ℕ) : ℝ := ((den g m i j)⁻¹).toReal

/-- The image brought to `0 … 1`, smoothed, and normalised by the smoothed mask. -/
def smooth (g : ℕ → ℝ) (m : ℕ → ℕ → EReal) (f : ℕ → ℕ → ℝ) (i j : ℕ) : ℝ :=
  blur g (fun i j => 1 / 2 * f i j + 1 / 2) i j * recip g m i j

/-- Index `n` of a line of 34 numbers, the first and last of 32 repeated. -/
def clampIdx (n : ℕ) : ℕ := min (n - 1) 31

/-- The difference and the `1, 2, 1` sum along the rows and along the columns, the edges repeated. -/
def diffI (f : ℕ → ℕ → ℝ) (i j : ℕ) : ℝ := f (clampIdx (i + 2)) j - f (clampIdx i) j
def diffJ (f : ℕ → ℕ → ℝ) (i j : ℕ) : ℝ := f i (clampIdx (j + 2)) - f i (clampIdx j)
def sumI (f : ℕ → ℕ → ℝ) (i j : ℕ) : ℝ := f (clampIdx i) j + 2 * f i j + f (clampIdx (i + 2)) j
def sumJ (f : ℕ → ℕ → ℝ) (i j : ℕ) : ℝ := f i (clampIdx j) + 2 * f i j + f i (clampIdx (j + 2))

/-- The two derivatives. -/
def gradI (s : ℕ → ℕ → ℝ) : ℕ → ℕ → ℝ := sumJ (diffI s)
def gradJ (s : ℕ → ℕ → ℝ) : ℕ → ℕ → ℝ := sumI (diffJ s)

/-- The squared length of the gradient, and its length. -/
def mag2 (s : ℕ → ℕ → ℝ) (i j : ℕ) : ℝ := gradI s i j * gradI s i j + gradJ s i j * gradJ s i j
def mag (s : ℕ → ℕ → ℝ) (i j : ℕ) : ℝ := Real.sqrt (mag2 s i j + kEps)

/-- The number at `(i - 1 + p, j - 1 + q)`, zero outside the image. -/
def near (f : ℕ → ℕ → ℝ) (p q i j : ℕ) : ℝ := zr 1 (fun i => zr 1 (fun j => f i j) (j + q)) (i + p)
def nearW (f : ℕ → ℕ → EReal) (p q i j : ℕ) : EReal := zrW 1 (fun i => zrW 1 (fun j => f i j) (j + q)) (i + p)

/-- The pixels looked at: the nine mask values around are not zero, and the first image `s₀` of the batch has a
    gradient there. -/
def inner (m : ℕ → ℕ → EReal) (s₀ : ℕ → ℕ → ℝ) (i j : ℕ) : Prop :=
  (∀ p < 3, ∀ q < 3, nearW m p q i j ≠ 0) ∧ 0 < mag2 s₀ i j

/-- The interpolated neighbour, and whether the pixel is a local maximum against both of them. -/
def mix (w a b : ℝ) : ℝ := b * w + a * (1 - w)

/-- How far the larger neighbour exceeds the pixel, with a margin, never negative. -/
def excess (m c : ℝ) : ℝ := max (-m + kGamma + c) 0

end Cert.Canny
-- ==== Proof.Wide.lean ====
/-
  Arrays whose numbers may be infinite: the mask is only asked not to be negative. The lemmas say what the operations that
  meet it do, and that the number it is divided by has a real inverse.
-/
module

public import proofs.«01_k».proof.Proof.Spec

@[expose] public section

noncomputable section

namespace Cert.Canny

open Idealize.ShloMosaic

/-- The array of the numbers `x`, of which some may be infinite. -/
def wide {s : Shape} (x : (ℕ → ℕ) → EReal) : FVec Ideal s .f32 := fun i => x (co i)

theorem wide_congr {s : Shape} {x y : (ℕ → ℕ) → EReal} (h : ∀ v, (∀ k : Fin s.rank, v k < s.size k) → x v = y v) :
    (wide x : FVec Ideal s .f32) = wide y := by
  funext i
  exact h (co i) fun k => by unfold co; rw [dif_pos k.isLt]; exact (i k).isLt

theorem lift_wide {s : Shape} (x : (ℕ → ℕ) → ℝ) : (lift x : FVec Ideal s .f32) = wide fun v => ((x v : ℝ) : EReal) := rfl

section
variable {s : Shape} (x y : (ℕ → ℕ) → EReal)

theorem addf_wide : addf (wide x : FVec Ideal s .f32) (wide y) = wide fun v => x v + y v := rfl
theorem mulf_wide : mulf (wide x : FVec Ideal s .f32) (wide y) = wide fun v => x v * y v := rfl
theorem broadcast_wide (c : EReal) : (broadcast s c : FVec Ideal s .f32) = wide fun _ => c := rfl

theorem one_wide : cmpf .one (wide x : FVec Ideal s .f32) (wide y) = liftB fun v => x v ≠ y v := by
  funext i; by_cases h : x (co i) = y (co i) <;> simp [cmpf, Ideal.cmpf_def, Ideal.cmp, wide, liftB, h]
theorem une_wide : cmpf .une (wide x : FVec Ideal s .f32) (wide y) = liftB fun v => x v ≠ y v := by
  funext i; by_cases h : x (co i) = y (co i) <;> simp [cmpf, Ideal.cmpf_def, Ideal.cmp, wide, liftB, h]
end

section
variable {s t : Shape}

theorem slice_wide (off : Fin s.rank → ℕ) (x : (ℕ → ℕ) → EReal) (h : s.Slices off t) :
    extractStridedSlice t off (wide x : FVec Ideal s .f32) h = wide fun v => x fun k => v k + ax off k := by
  funext j
  simp only [extractStridedSlice, wide]
  congr 1; funext k
  have := h.1
  by_cases hk : k < s.rank
  · rw [co_lt _ hk, co_lt _ (by omega), ax_lt _ hk]; exact Nat.add_comm _ _
  · rw [co_ge _ hk, co_ge _ (by omega), ax_ge _ hk]

/-- Padding with a constant, nothing between the elements. -/
theorem pad_wide (lo hi int : Fin s.rank → ℕ) (hint : ∀ a, int a = 0) (x : (ℕ → ℕ) → EReal) {u : Shape} (c : EReal)
    (h : s.Pads lo hi int t) (hu : 0 < u.numel) :
    pad t lo hi int (wide x : FVec Ideal s .f32) (wide (fun _ => c) : FVec Ideal u .f32) h hu
      = wide fun v => if ∀ k < s.rank, ax lo k ≤ v k ∧ v k < ax lo k + ax s.size k then x fun k => v k - ax lo k else c := by
  funext j
  have hr := h.1
  have hc : (∀ a : Fin s.rank, lo a ≤ (j (a.cast h.1)).val ∧ ((j (a.cast h.1)).val - lo a) % (int a + 1) = 0
        ∧ ((j (a.cast h.1)).val - lo a) / (int a + 1) < s.size a)
      ↔ ∀ k < s.rank, ax lo k ≤ co j k ∧ co j k < ax lo k + ax s.size k := by
    constructor
    · intro H k hk
      have := H ⟨k, hk⟩
      rw [hint] at this
      rw [ax_lt _ hk, ax_lt _ hk, co_lt _ (by omega)]
      simp only [Fin.cast_mk, Nat.zero_add, Nat.div_one, Nat.mod_one] at this
      omega
    · intro H a
      have := H a a.isLt
      rw [hint]
      rw [ax_lt _ a.isLt, ax_lt _ a.isLt, co_lt _ (by omega)] at this
      simp only [Nat.zero_add, Nat.div_one, Nat.mod_one, true_and]
      have e : (j (a.cast h.1)).val = (j ⟨a.val, by omega⟩).val := rfl
      rw [e]
      simp only [Fin.eta] at this
      omega
  unfold pad
  rw [show (wide (fun v => if ∀ k < s.rank, ax lo k ≤ v k ∧ v k < ax lo k + ax s.size k then x fun k => v k - ax lo k else c) : FVec Ideal t .f32) j
    = (if ∀ k < s.rank, ax lo k ≤ co j k ∧ co j k < ax lo k + ax s.size k then x fun k => co j k - ax lo k else c) from rfl]
  by_cases hh : ∀ k < s.rank, ax lo k ≤ co j k ∧ co j k < ax lo k + ax s.size k
  · rw [dif_pos (hc.mpr hh), if_pos hh]
    refine congrArg x (funext fun k => ?_)
    by_cases hk : k < s.rank
    · rw [co_lt _ hk, co_lt _ (by omega), ax_lt _ hk]; simp only [hint, Nat.zero_add, Nat.div_one]; rfl
    · rw [co_ge _ hk, co_ge _ (by omega), ax_ge _ hk]
  · rw [dif_neg fun h' => hh (hc.mp h'), if_neg hh]; rfl

/-- Reading a piece of a concatenation. -/
theorem wide_piece (x : (ℕ → ℕ) → EReal) (a : Fin t.rank) (j : t.Idx) (i : s.Idx) (hr : s.rank = t.rank) (c : ℕ)
    (hi : ∀ b, (i b).val = if b.val = a.val then c else (j (b.cast hr)).val) :
    (wide x : FVec Ideal s .f32) i = x (upd (co j) a c) := by
  refine congrArg x (funext fun k => ?_)
  unfold upd
  by_cases hk : k < s.rank
  · rw [co_lt _ hk, hi, co_lt _ (by omega)]; rfl
  · have := a.isLt
    rw [co_ge _ hk, co_ge _ (by omega), if_neg (by omega)]

/-- Three arrays one after the other along an axis. -/
theorem concat3_wide {s₁ s₂ s₃ : Shape} (a : Fin t.rank) (x y z : (ℕ → ℕ) → EReal)
    (h : Shape.Concatenates (([⟨s₁, wide x⟩, ⟨s₂, wide y⟩, ⟨s₃, wide z⟩] : List ((s : Shape) × FVec Ideal s .f32)).map (·.1)) t a) :
    (concatenate t a [⟨s₁, (wide x : FVec Ideal s₁ .f32)⟩, ⟨s₂, (wide y : FVec Ideal s₂ .f32)⟩, ⟨s₃, (wide z : FVec Ideal s₃ .f32)⟩] h : FVec Ideal t .f32)
      = wide fun v => if v a < ax s₁.size a then x v
          else if v a - ax s₁.size a < ax s₂.size a then y (upd v a (v a - ax s₁.size a))
          else z (upd v a (v a - ax s₁.size a - ax s₂.size a)) := by
  funext j
  have h1 : ∃ h' : s₁.rank = t.rank, _ := h.2.1 s₁ (by simp)
  have h2 : ∃ h' : s₂.rank = t.rank, _ := h.2.1 s₂ (by simp)
  refine (concatenate_apply t a _ h j).trans ((concatenateAt_cons a j _ _ _ _ _ _).trans ?_)
  rw [show (wide (fun v => if v a < ax s₁.size a then x v
          else if v a - ax s₁.size a < ax s₂.size a then y (upd v a (v a - ax s₁.size a))
          else z (upd v a (v a - ax s₁.size a - ax s₂.size a))) : FVec Ideal t .f32) j
    = (if co j a < ax s₁.size a then x (co j)
          else if co j a - ax s₁.size a < ax s₂.size a then y (upd (co j) a (co j a - ax s₁.size a))
          else z (upd (co j) a (co j a - ax s₁.size a - ax s₂.size a))) from rfl]
  rw [ax_cast h1.1.symm, ax_cast h2.1.symm, co_fin]
  by_cases hh : (j a).val < s₁.size (a.cast h1.1.symm)
  · rw [dif_pos hh, if_pos hh]
    exact (wide_piece x a j _ h1.1 (j a).val (fun b => rfl)).trans (by rw [upd_self])
  · rw [dif_neg hh, if_neg hh]
    refine (concatenateAt_cons a j _ _ _ _ _ _).trans ?_
    by_cases hh' : (j a).val - s₁.size (a.cast h1.1.symm) < s₂.size (a.cast h2.1.symm)
    · rw [dif_pos hh', if_pos hh']
      exact wide_piece y a j _ h2.1 _ (fun b => rfl)
    · rw [dif_neg hh', if_neg hh']
      exact (concatenateAt_singleton a j _ _ _ _).trans (wide_piece z a j _ (h.2.1 s₃ (by simp)).1 _ (fun b => rfl))

end

/-! ### The smoothed mask -/

/-- The nine taps the way the kernel pairs them. -/
def symW (g : ℕ → ℝ) (s : ℕ → EReal) : EReal :=
  (g 4 : EReal) * s 4 + (g 5 : EReal) * (s 3 + s 5) + (g 6 : EReal) * (s 2 + s 6) + (g 7 : EReal) * (s 1 + s 7)
    + (g 8 : EReal) * (s 0 + s 8)

theorem symW_taps {g : ℕ → ℝ} (hg : ∀ k < 9, g k = g (8 - k)) {s : ℕ → EReal} (hs : ∀ n, 0 ≤ s n) : symW g s = tapsW g s := by
  have h0 := hg 0 (by omega); have h1 := hg 1 (by omega); have h2 := hg 2 (by omega); have h3 := hg 3 (by omega)
  norm_num at h0 h1 h2 h3
  simp only [symW, tapsW, Finset.sum_range_succ, Finset.sum_range_zero, h0, h1, h2, h3,
    EReal.left_distrib_of_nonneg (hs _) (hs _)]
  abel

def symIW (g : ℕ → ℝ) (f : ℕ → ℕ → EReal) (i j : ℕ) : EReal := symW g fun k => zrW 4 (fun i => f i j) (i + k)
def symJW (g : ℕ → ℝ) (f : ℕ → ℕ → EReal) (i j : ℕ) : EReal := symW g fun k => zrW 4 (fun j => f i j) (j + k)

theorem zrW_nonneg {p : ℕ} {f : ℕ → EReal} (h : ∀ n, 0 ≤ f n) (n : ℕ) : 0 ≤ zrW p f n := by
  unfold zrW; split_ifs
  · exact le_rfl
  · exact h _
  · exact le_rfl

theorem tapsW_nonneg {g : ℕ → ℝ} {s : ℕ → EReal} (hg : ∀ k, 0 ≤ g k) (h : ∀ n, 0 ≤ s n) : 0 ≤ tapsW g s :=
  Finset.sum_nonneg fun k _ => mul_nonneg (EReal.coe_nonneg.mpr (hg k)) (h k)

section
variable {g : ℕ → ℝ} {m : ℕ → ℕ → EReal} (hs : ∀ k < 9, g k = g (8 - k)) (hg : ∀ k, 0 ≤ g k) (hm : ∀ i j, 0 ≤ m i j)

include hg hm in
theorem blurIW_nonneg (i j : ℕ) : 0 ≤ blurIW g m i j := tapsW_nonneg hg fun _ => zrW_nonneg (fun i => hm i _) _

include hs hg hm in
/-- The kernel's pairs smooth the mask. -/
theorem sym_blurW (i j : ℕ) : symJW g (symIW g m) i j = blurW g m i j := by
  have e : symIW g m = blurIW g m := by
    funext i j; exact symW_taps hs fun n => zrW_nonneg (fun i => hm i _) _
  rw [e]
  exact symW_taps hs fun n => zrW_nonneg (fun j => blurIW_nonneg hg hm i j) _

include hg hm in
theorem den_pos (i j : ℕ) : 0 < den g m i j :=
  (EReal.coe_pos.mpr kTiny_pos).trans_le
    (le_add_of_nonneg_left (tapsW_nonneg hg fun _ => zrW_nonneg (fun j => blurIW_nonneg hg hm i j) _))

/-- Dividing by a positive number is multiplying by its inverse, zero if it is infinite. -/
theorem div_pos_wide (a : ℝ) {d : EReal} (h : 0 < d) : Ideal.div (a : EReal) d = ((a * (d⁻¹).toReal : ℝ) : EReal) := by
  unfold Ideal.div
  rw [if_neg h.ne', EReal.coe_mul, EReal.coe_toReal]
  · intro e
    induction d with
    | bot => simp at h
    | top => simp at e
    | coe r => rw [← EReal.coe_inv] at e; exact EReal.coe_ne_top _ e
  · intro e
    induction d with
    | bot => simp at h
    | top => simp at e
    | coe r => rw [← EReal.coe_inv] at e; exact EReal.coe_ne_bot _ e

include hg hm in
theorem div_den (a : ℝ) (i j : ℕ) : Ideal.div (a : EReal) (den g m i j) = ((a * recip g m i j : ℝ) : EReal) :=
  div_pos_wide a (den_pos hg hm i j)

end

end Cert.Canny
-- ==== Proof.Blur.lean ====
/-
  The smoothing along the rows in the kernel, and the mask's smoothing.
-/
module

public import proofs.«01_k».proof.Proof.Rows
public import proofs.«01_k».proof.Proof.Casts
public import proofs.«01_k».proof.Proof.Wide

@[expose] public section

set_option maxHeartbeats 4000000

noncomputable section

namespace Cert.Canny

open Idealize.ShloMosaic Cert.KernelIdeal Cert.KernelIdeal.Gen

/-- An array of rank three by its three coordinates. -/
def T {s : Shape} (f : ℕ → ℕ → ℕ → ℝ) : FVec Ideal s .f32 := lift fun v => f (v 0) (v 1) (v 2)
def TW {s : Shape} (f : ℕ → ℕ → ℕ → EReal) : FVec Ideal s .f32 := wide fun v => f (v 0) (v 1) (v 2)

/-- The nine taps the way the kernel pairs them. -/
def sym (g s : ℕ → ℝ) : ℝ :=
  g 4 * s 4 + g 5 * (s 3 + s 5) + g 6 * (s 2 + s 6) + g 7 * (s 1 + s 7) + g 8 * (s 0 + s 8)

theorem sym_taps {g : ℕ → ℝ} (hg : ∀ k < 9, g k = g (8 - k)) (s : ℕ → ℝ) : sym g s = taps g s := by
  have h0 := hg 0 (by omega); have h1 := hg 1 (by omega); have h2 := hg 2 (by omega); have h3 := hg 3 (by omega)
  norm_num at h0 h1 h2 h3
  simp only [sym, taps, Finset.sum_range_succ, Finset.sum_range_zero, h0, h1, h2, h3]
  ring

section
@[simp] theorem ax2_0 (a b : ℕ) : ax ![a, b] 0 = a := rfl
@[simp] theorem ax2_1 (a b : ℕ) : ax ![a, b] 1 = b := rfl
@[simp] theorem ax3_0 (a b c : ℕ) : ax ![a, b, c] 0 = a := rfl
@[simp] theorem ax3_1 (a b c : ℕ) : ax ![a, b, c] 1 = b := rfl
@[simp] theorem ax3_2 (a b c : ℕ) : ax ![a, b, c] 2 = c := rfl
@[simp] theorem ax4_0 (a b c d : ℕ) : ax ![a, b, c, d] 0 = a := rfl
@[simp] theorem ax4_1 (a b c d : ℕ) : ax ![a, b, c, d] 1 = b := rfl
@[simp] theorem ax4_2 (a b c d : ℕ) : ax ![a, b, c, d] 2 = c := rfl
@[simp] theorem ax4_3 (a b c d : ℕ) : ax ![a, b, c, d] 3 = d := rfl
@[simp] theorem at2_0 (a b : ℕ) : at2 a b 0 = a := rfl
@[simp] theorem at2_1 (a b : ℕ) : at2 a b 1 = b := rfl
@[simp] theorem at3_0 (a b c : ℕ) : at3 a b c 0 = a := rfl
@[simp] theorem at3_1 (a b c : ℕ) : at3 a b c 1 = b := rfl
@[simp] theorem at3_2 (a b c : ℕ) : at3 a b c 2 = c := rfl
@[simp] theorem at4_0 (a b c d : ℕ) : at4 a b c d 0 = a := rfl
@[simp] theorem at4_1 (a b c d : ℕ) : at4 a b c d 1 = b := rfl
@[simp] theorem at4_2 (a b c d : ℕ) : at4 a b c d 2 = c := rfl
@[simp] theorem at4_3 (a b c d : ℕ) : at4 a b c d 3 = d := rfl
theorem upd_same (v : ℕ → ℕ) (a n : ℕ) : upd v a n a = n := if_pos rfl
theorem upd_other (v : ℕ → ℕ) (a n : ℕ) {k : ℕ} (h : k ≠ a) : upd v a n k = v k := if_neg h
end

theorem cast_self {α : Type} {s : Shape} (x : s.Idx → α) (h : s.ShapeCasts s) : shapeCast s x h = x := by
  funext j
  exact shapeCast_apply x h j j rfl

/-- Three arrays one after the other. -/
def cat3 {α : Type} {t s₁ s₂ s₃ : Shape} (a : Fin t.rank) (x : s₁.Idx → α) (y : s₂.Idx → α) (z : s₃.Idx → α)
    (h : Shape.Concatenates [s₁, s₂, s₃] t a) : t.Idx → α :=
  concatenate t a [⟨s₁, x⟩, ⟨s₂, y⟩, ⟨s₃, z⟩] h

theorem cat3_def {α : Type} {t s₁ s₂ s₃ : Shape} (a : Fin t.rank) (x : s₁.Idx → α) (y : s₂.Idx → α) (z : s₃.Idx → α)
    (h : Shape.Concatenates [s₁, s₂, s₃] t a) :
    concatenate t a [⟨s₁, x⟩, ⟨s₂, y⟩, ⟨s₃, z⟩] h = cat3 a x y z h := rfl

theorem cat3_lift {t s₁ s₂ s₃ : Shape} (a : Fin t.rank) (x y z : (ℕ → ℕ) → ℝ)
    (h : Shape.Concatenates [s₁, s₂, s₃] t a) :
    (cat3 a (lift x : FVec Ideal s₁ .f32) (lift y : FVec Ideal s₂ .f32) (lift z : FVec Ideal s₃ .f32) h : FVec Ideal t .f32)
      = lift fun v => if v a < ax s₁.size a then x v
          else if v a - ax s₁.size a < ax s₂.size a then y (upd v a (v a - ax s₁.size a))
          else z (upd v a (v a - ax s₁.size a - ax s₂.size a)) := concat3_lift a x y z h

/-- Zeros put before and after 32 rows, and 32 columns. -/
theorem pad0_lift {n p b c : ℕ} (x : (ℕ → ℕ) → ℝ)
    (h : Shape.Concatenates [⟨3, ![p, b, c]⟩, ⟨3, ![32, b, c]⟩, ⟨3, ![p, b, c]⟩] ⟨3, ![n, b, c]⟩ 0) :
    (cat3 0 (lift fun _ => 0 : FVec Ideal ⟨3, ![p, b, c]⟩ .f32) (lift x : FVec Ideal ⟨3, ![32, b, c]⟩ .f32)
      (lift fun _ => 0 : FVec Ideal ⟨3, ![p, b, c]⟩ .f32) h : FVec Ideal ⟨3, ![n, b, c]⟩ .f32)
      = lift fun v => zr p (fun i => x (upd v 0 i)) (v 0) := by
  rw [cat3_lift]; rfl

theorem pad1_lift {n p a c : ℕ} (x : (ℕ → ℕ) → ℝ)
    (h : Shape.Concatenates [⟨3, ![a, p, c]⟩, ⟨3, ![a, 32, c]⟩, ⟨3, ![a, p, c]⟩] ⟨3, ![a, n, c]⟩ 1) :
    (cat3 1 (lift fun _ => 0 : FVec Ideal ⟨3, ![a, p, c]⟩ .f32) (lift x : FVec Ideal ⟨3, ![a, 32, c]⟩ .f32)
      (lift fun _ => 0 : FVec Ideal ⟨3, ![a, p, c]⟩ .f32) h : FVec Ideal ⟨3, ![a, n, c]⟩ .f32)
      = lift fun v => zr p (fun i => x (upd v 1 i)) (v 1) := by
  rw [cat3_lift]; rfl

theorem cat3_wide {t s₁ s₂ s₃ : Shape} (a : Fin t.rank) (x y z : (ℕ → ℕ) → EReal)
    (h : Shape.Concatenates [s₁, s₂, s₃] t a) :
    (cat3 a (wide x : FVec Ideal s₁ .f32) (wide y : FVec Ideal s₂ .f32) (wide z : FVec Ideal s₃ .f32) h : FVec Ideal t .f32)
      = wide fun v => if v a < ax s₁.size a then x v
          else if v a - ax s₁.size a < ax s₂.size a then y (upd v a (v a - ax s₁.size a))
          else z (upd v a (v a - ax s₁.size a - ax s₂.size a)) := concat3_wide a x y z h

theorem pad0_wide {n p b c : ℕ} (x : (ℕ → ℕ) → EReal)
    (h : Shape.Concatenates [⟨3, ![p, b, c]⟩, ⟨3, ![32, b, c]⟩, ⟨3, ![p, b, c]⟩] ⟨3, ![n, b, c]⟩ 0) :
    (cat3 0 (wide fun _ => ((0 : ℝ) : EReal) : FVec Ideal ⟨3, ![p, b, c]⟩ .f32) (wide x : FVec Ideal ⟨3, ![32, b, c]⟩ .f32)
      (wide fun _ => ((0 : ℝ) : EReal) : FVec Ideal ⟨3, ![p, b, c]⟩ .f32) h : FVec Ideal ⟨3, ![n, b, c]⟩ .f32)
      = wide fun v => zrW p (fun i => x (upd v 0 i)) (v 0) := by
  rw [cat3_wide]; rfl

theorem pad1_wide {n p a c : ℕ} (x : (ℕ → ℕ) → EReal)
    (h : Shape.Concatenates [⟨3, ![a, p, c]⟩, ⟨3, ![a, 32, c]⟩, ⟨3, ![a, p, c]⟩] ⟨3, ![a, n, c]⟩ 1) :
    (cat3 1 (wide fun _ => ((0 : ℝ) : EReal) : FVec Ideal ⟨3, ![a, p, c]⟩ .f32) (wide x : FVec Ideal ⟨3, ![a, 32, c]⟩ .f32)
      (wide fun _ => ((0 : ℝ) : EReal) : FVec Ideal ⟨3, ![a, p, c]⟩ .f32) h : FVec Ideal ⟨3, ![a, n, c]⟩ .f32)
      = wide fun v => zrW p (fun i => x (upd v 1 i)) (v 1) := by
  rw [cat3_wide]; rfl

@[simp] theorem upd_00 (v : ℕ → ℕ) (n : ℕ) : upd v 0 n 0 = n := rfl
@[simp] theorem upd_01 (v : ℕ → ℕ) (n : ℕ) : upd v 0 n 1 = v 1 := rfl
@[simp] theorem upd_02 (v : ℕ → ℕ) (n : ℕ) : upd v 0 n 2 = v 2 := rfl
@[simp] theorem upd_10 (v : ℕ → ℕ) (n : ℕ) : upd v 1 n 0 = v 0 := rfl
@[simp] theorem upd_11 (v : ℕ → ℕ) (n : ℕ) : upd v 1 n 1 = n := rfl
@[simp] theorem upd_12 (v : ℕ → ℕ) (n : ℕ) : upd v 1 n 2 = v 2 := rfl

/-- The tile with four rows of zeros on both sides. -/
theorem pay33_lift (f : ℕ → ℕ → ℕ → ℝ) :
    k0_pay33 (F := Ideal) (T f) = T fun i j l => zr 4 (fun i => f i j l) i := by
  unfold k0_pay33; dsimp only
  simp only [word_zero, T, cast_self, broadcast_lift, ↓cat3_def, pad0_lift, upd_00, upd_01, upd_02]

theorem blurI_tile (f : ℕ → ℕ → ℕ → ℝ) (g : ℕ → ℝ) :
    k0_pay36 (F := Ideal) (k0_pay33 (T f)) (k0_pay34 (T f) ((g 4 : ℝ) : EReal) ((g 5 : ℝ) : EReal) ((g 6 : ℝ) : EReal))
      (k0_pay35 (T f) ((g 7 : ℝ) : EReal)) ((g 8 : ℝ) : EReal)
      = T fun i j l => sym g fun k => zr 4 (fun i => f i j l) (i + k) := by
  unfold k0_pay36 k0_pay34 k0_pay35; dsimp only
  simp only [pay33_lift]
  simp only [T, broadcast_lift, slice_lift, addf_lift, mulf_lift, ax3_0, ax3_1, ax3_2, sym, add_zero]

/-- Smoothing along the columns of what is smoothed along the rows, by the kernel's pairs. -/
def symI (g : ℕ → ℝ) (f : ℕ → ℕ → ℝ) (i j : ℕ) : ℝ := sym g fun k => zr 4 (fun i => f i j) (i + k)
def symJ (g : ℕ → ℝ) (f : ℕ → ℕ → ℝ) (i j : ℕ) : ℝ := sym g fun k => zr 4 (fun j => f i j) (j + k)

theorem symI_eq {g : ℕ → ℝ} (hg : ∀ k < 9, g k = g (8 - k)) (f : ℕ → ℕ → ℝ) : symI g f = blurI g f := by
  funext i j; exact sym_taps hg _
theorem symJ_eq {g : ℕ → ℝ} (hg : ∀ k < 9, g k = g (8 - k)) (f : ℕ → ℕ → ℝ) : symJ g f = blurJ g f := by
  funext i j; exact sym_taps hg _

/-- The mask smoothed along the rows, with four columns of zeros on both sides. -/
theorem maskI (g : ℕ → ℝ) (m : ℕ → ℕ → EReal) :
    k0_pay19 (F := Ideal) (TW fun i j _ => m i j) ((g 4 : ℝ) : EReal) ((g 5 : ℝ) : EReal) ((g 6 : ℝ) : EReal)
      ((g 7 : ℝ) : EReal) ((g 8 : ℝ) : EReal) = TW fun i j _ => zrW 4 (fun j => symIW g m i j) j := by
  unfold k0_pay19; dsimp only
  simp only [word_zero, TW, cast_self, broadcast_wide, ↓cat3_def, pad0_wide, pad1_wide, slice_wide, addf_wide, mulf_wide,
    upd_00, upd_01, upd_02, upd_10, upd_11, upd_12, ax3_0, ax3_1, ax3_2, add_zero]
  simp only [symIW, symW, add_zero]

/-- One half over the smoothed mask and a little. -/
theorem maskJ {g : ℕ → ℝ} {m : ℕ → ℕ → EReal} (hs : ∀ k < 9, g k = g (8 - k)) (hg : ∀ k, 0 ≤ g k) (hm : ∀ i j, 0 ≤ m i j) :
    k0_pay20 (F := Ideal) (TW fun i j _ => zrW 4 (fun j => symIW g m i j) j)
      ((g 4 : ℝ) : EReal) ((g 5 : ℝ) : EReal) ((g 6 : ℝ) : EReal)
      ((g 7 : ℝ) : EReal) ((g 8 : ℝ) : EReal) = T fun i j _ => 1 / 2 * recip g m i j := by
  have hd : ∀ i j, den g m i j = symJW g (symIW g m) i j + kTiny := fun i j => by
    rw [sym_blurW hs hg hm]; rfl
  unfold k0_pay20; dsimp only
  simp only [word_half, word_tiny, TW, cast_self, broadcast_wide, slice_wide, addf_wide, mulf_wide, ax3_0, ax3_1,
    ax3_2, add_zero]
  funext i
  have h := div_den hg hm (1 / 2) (co i 0) (co i 1)
  rw [hd] at h
  simp only [symJW, symW, add_zero] at h
  exact h

/-- The smoothed image of ones, over twice the smoothed mask. -/
theorem onesJ {g : ℕ → ℝ} (hs : ∀ k < 9, g k = g (8 - k)) (q : ℕ → ℕ → ℝ) :
    (let p21 := k0_pay21 (F := Ideal)
     let p22 := k0_pay22 (F := Ideal) ((g 4 : ℝ) : EReal)
     let p23 := k0_pay23 (F := Ideal) ((g 5 : ℝ) : EReal)
     k0_pay29 (F := Ideal) (T fun i j _ => q i j)
      (k0_pay24 p21 p22 p23 ((g 6 : ℝ) : EReal) ((g 7 : ℝ) : EReal) ((g 8 : ℝ) : EReal))
      (k0_pay25 p21 p22 p23 ((g 6 : ℝ) : EReal) ((g 7 : ℝ) : EReal) ((g 8 : ℝ) : EReal)
        ((g 4 : ℝ) : EReal) ((g 5 : ℝ) : EReal) ((g 6 : ℝ) : EReal) ((g 7 : ℝ) : EReal))
      ((g 8 : ℝ) : EReal)
      (k0_pay26 p21 p22 p23 ((g 6 : ℝ) : EReal) ((g 7 : ℝ) : EReal) ((g 8 : ℝ) : EReal)))
    = T fun _ i j => blur g (fun _ _ => 1) i j * q i j := by
  have hb : blur g (fun _ _ => 1) = symJ g (symI g fun _ _ => 1) := by
    rw [symI_eq hs, symJ_eq hs]; rfl
  have h24 : k0_pay24 (F := Ideal) k0_pay21 (k0_pay22 ((g 4 : ℝ) : EReal)) (k0_pay23 ((g 5 : ℝ) : EReal))
      ((g 6 : ℝ) : EReal) ((g 7 : ℝ) : EReal) ((g 8 : ℝ) : EReal)
        = T fun i j _ => zr 4 (fun j => symI g (fun _ _ => 1) i j) j := by
    unfold k0_pay24 k0_pay23 k0_pay22 k0_pay21; dsimp only
    simp only [word_zero, word_one, T, cast_self, broadcast_lift, ↓cat3_def, pad0_lift, pad1_lift, slice_lift, addf_lift, mulf_lift,
    upd_00, upd_01, upd_02, upd_10, upd_11, upd_12, ax3_0, ax3_1, ax3_2, add_zero]
    simp only [symI, sym, add_zero]
  dsimp only
  rw [h24]
  unfold k0_pay29 k0_pay25 k0_pay26; dsimp only
  rw [h24]
  simp only [T, broadcast_lift, slice_lift, addf_lift, mulf_lift, ax3_0, ax3_1, ax3_2, add_zero]
  rw [cast_drop2, cast_add0, hb]
  refine lift_congr fun v hv => ?_
  simp only [symJ, sym, at2_0, at2_1, at3_0, at3_1, add_zero]

/-- One half over the smoothed mask, stored. -/
theorem storeN (q : ℕ → ℕ → ℝ) : k0_pay28 (F := Ideal) (T fun i j _ => q i j) = T fun _ i j => q i j := by
  unfold k0_pay28; dsimp only
  simp only [T]
  rw [cast_drop2, cast_add0]
  rfl

end Cert.Canny
-- ==== Proof.Matrices.lean ====
/-
  The five 32 × 32 matrices the kernel keeps, and what multiplying the rows of a tile by each of them computes.
-/
module

public import proofs.«01_k».proof.Proof.Blur

@[expose] public section

set_option maxHeartbeats 4000000

noncomputable section

namespace Cert.Canny

open Idealize.ShloMosaic Cert.KernelIdeal Cert.KernelIdeal.Gen

/-- A matrix of truth values, read off entry by entry. -/
theorem mask_of (m : IVec S32x32 1) (P : ℕ → ℕ → Prop) [∀ a b, Decidable (P a b)]
    (h : ∀ a b : Fin 32, m (ix2 (n0 := 32) (n1 := 32) a b) = BitVec.ofBool (decide (P a.val b.val))) :
    m = liftB fun v => P (v 0) (v 1) := by
  funext j
  have hj : j = ix2 (n0 := 32) (n1 := 32) (j 0) (j 1) := by
    funext k
    match k with
    | 0 => rfl
    | 1 => rfl
  rw [hj, h (j 0) (j 1)]
  unfold liftB
  rw [co2]
  congr 1
  exact decide_eq_decide.mpr Iff.rfl

/-- Two arrays one after the other. -/
def cat2 {α : Type} {t s₁ s₂ : Shape} (a : Fin t.rank) (x : s₁.Idx → α) (y : s₂.Idx → α)
    (h : Shape.Concatenates [s₁, s₂] t a) : t.Idx → α :=
  concatenate t a [⟨s₁, x⟩, ⟨s₂, y⟩] h

theorem cat2_def {α : Type} {t s₁ s₂ : Shape} (a : Fin t.rank) (x : s₁.Idx → α) (y : s₂.Idx → α)
    (h : Shape.Concatenates [s₁, s₂] t a) : concatenate t a [⟨s₁, x⟩, ⟨s₂, y⟩] h = cat2 a x y h := rfl

theorem cat2_lift {t s₁ s₂ : Shape} (a : Fin t.rank) (x y : (ℕ → ℕ) → ℝ) (h : Shape.Concatenates [s₁, s₂] t a) :
    (cat2 a (lift x : FVec Ideal s₁ .f32) (lift y : FVec Ideal s₂ .f32) h : FVec Ideal t .f32)
      = lift fun v => if v a < ax s₁.size a then x v else y (upd v a (v a - ax s₁.size a)) := concat2_lift a x y h

/-- The diagonal at distance `k - 4`. -/
theorem diag (k : Fin 9) : cmpi .eq k0_pay3 (broadcast S32x32 (BitVec.ofNat 32 k.val - 4#32))
    = liftB fun v => v 1 + 4 = v 0 + k.val :=
  mask_of _ (fun a b => b + 4 = a + k.val) (by revert k; decide +kernel)

theorem diag0 : cmpi .eq k0_pay3 (broadcast S32x32 4294967292#32) = liftB fun v => v 1 + 4 = v 0 + 0 := diag 0
theorem diag1 : cmpi .eq k0_pay3 (broadcast S32x32 4294967293#32) = liftB fun v => v 1 + 4 = v 0 + 1 := diag 1
theorem diag2 : cmpi .eq k0_pay3 (broadcast S32x32 4294967294#32) = liftB fun v => v 1 + 4 = v 0 + 2 := diag 2
theorem diag3 : cmpi .eq k0_pay3 (broadcast S32x32 4294967295#32) = liftB fun v => v 1 + 4 = v 0 + 3 := diag 3
theorem diag4 : cmpi .eq k0_pay3 (broadcast S32x32 0#32) = liftB fun v => v 1 + 4 = v 0 + 4 := diag 4
theorem diag5 : cmpi .eq k0_pay3 (broadcast S32x32 1#32) = liftB fun v => v 1 + 4 = v 0 + 5 := diag 5
theorem diag6 : cmpi .eq k0_pay3 (broadcast S32x32 2#32) = liftB fun v => v 1 + 4 = v 0 + 6 := diag 6
theorem diag7 : cmpi .eq k0_pay3 (broadcast S32x32 3#32) = liftB fun v => v 1 + 4 = v 0 + 7 := diag 7
theorem diag8 : cmpi .eq k0_pay3 (broadcast S32x32 4#32) = liftB fun v => v 1 + 4 = v 0 + 8 := diag 8

/-- The row and column numbers, as the kernel writes them. -/
def rowNo : IVec S32x32 32 := iota .tc S32x32 32 [0] iota_S32x32_d0_w32
def colNo : IVec S32x32 32 := iota .tc S32x32 32 [1] iota_S32x32_d1_w32

theorem lowMask : k0_pay7 rowNo colNo = liftB fun v => v 1 = clampIdx (v 0) :=
  mask_of _ (fun a b => b = min (a - 1) 31) (by decide +kernel)
theorem midMask : k0_pay8 rowNo colNo = liftB fun v => v 1 = v 0 :=
  mask_of _ (fun a b => b = a) (by decide +kernel)
theorem highMask : k0_pay9 rowNo colNo = liftB fun v => v 1 = clampIdx (v 0 + 2) :=
  mask_of _ (fun a b => b = min (a + 2 - 1) 31) (by decide +kernel)

/-- The number `c` where the column is `n`, otherwise zero. -/
def hot (b n : ℕ) (c : ℝ) : ℝ := @ite ℝ (b = n) (Classical.propDecidable _) c 0

theorem ite_hot (b n : ℕ) (c : ℝ) (d : Decidable (b = n)) : @ite ℝ (b = n) d c 0 = hot b n c := by
  unfold hot; congr

/-- The matrices: nine taps, the difference, the `1, 2, 1` sum, and the two shifts. -/
def bandG (g : ℕ → ℝ) (a b : ℕ) : ℝ := ∑ k ∈ Finset.range 9, hot (b + 4) (a + k) (g k)
def matD (a b : ℕ) : ℝ := hot b (clampIdx (a + 2)) 1 - hot b (clampIdx a) 1
def matS (a b : ℕ) : ℝ := hot b (clampIdx a) 1 + hot b (clampIdx (a + 2)) 1 + hot b a 2
def matP (a b : ℕ) : ℝ := hot (b + 1) (a + 2) 1
def matM (a b : ℕ) : ℝ := hot (b + 1) a 1

/-- A matrix kept as one block of the scratch array. -/
def M2 (A : ℕ → ℕ → ℝ) : FVec Ideal S1x32x32 .f32 := lift fun v => A (v 1) (v 2)

theorem storeG (g : ℕ → ℝ) :
    k0_pay13 (F := Ideal) (k0_pay6 k0_pay3 (k0_pay4 ((g 0 : ℝ) : EReal) ((g 1 : ℝ) : EReal) ((g 2 : ℝ) : EReal)
      ((g 3 : ℝ) : EReal) ((g 4 : ℝ) : EReal)) k0_pay5 ((g 5 : ℝ) : EReal) ((g 6 : ℝ) : EReal) ((g 7 : ℝ) : EReal)
      ((g 8 : ℝ) : EReal)) = M2 (bandG g) := by
  unfold k0_pay13 k0_pay6 k0_pay5 k0_pay4; dsimp only
  simp only [word_zero, broadcast_lift, diag0, diag1, diag2, diag3, diag4, diag5, diag6, diag7, diag8, select_lift, addf_lift]
  rw [cast_add0]
  refine lift_congr fun v _ => ?_
  simp only [bandG, hot, Finset.sum_range_succ, Finset.sum_range_zero, at2_0, at2_1]
  rfl

theorem storeD : k0_pay14 (F := Ideal) (k0_pay10 rowNo colNo) (k0_pay11 rowNo colNo) = M2 matD := by
  unfold k0_pay14 k0_pay10 k0_pay11; dsimp only
  simp only [word_zero, word_one, broadcast_lift, lowMask, highMask, select_lift, subf_lift]
  rw [cast_add0]
  refine lift_congr fun v _ => ?_
  simp only [matD, hot, at2_0, at2_1]
  rfl

theorem storeS : k0_pay15 (F := Ideal) (k0_pay7 rowNo colNo) (k0_pay8 rowNo colNo) (k0_pay9 rowNo colNo) = M2 matS := by
  unfold k0_pay15; dsimp only
  simp only [word_zero, word_one, word_two, broadcast_lift, lowMask, midMask, highMask, select_lift, addf_lift]
  rw [cast_add0]
  refine lift_congr fun v _ => ?_
  simp only [matS, hot, at2_0, at2_1]
  rfl

theorem storeP : k0_pay17 (F := Ideal) (k0_pay16 k0_pay3) = M2 matP := by
  unfold k0_pay17 k0_pay16 k0_pay12; dsimp only
  simp only [word_zero, word_one, broadcast_lift, diag3, diag5, select_lift, ↓cat2_def, cat2_lift, slice_lift]
  rw [cast_add0]
  refine lift_congr fun v hv => ?_
  have h1 : v 1 < 32 := hv 1
  simp [matP, h1, ite_hot]
  unfold hot; congr 1; simp

theorem storeM : k0_pay18 (F := Ideal) (k0_pay12 k0_pay3) = M2 matM := by
  unfold k0_pay18 k0_pay12; dsimp only
  simp only [word_zero, word_one, broadcast_lift, diag3, diag5, select_lift, ↓cat2_def, cat2_lift, slice_lift]
  rw [cast_add0]
  refine lift_congr fun v hv => ?_
  have h1 : v 1 < 32 := hv 1
  simp [matM, h1, ite_hot]

/-- A kept matrix, loaded. -/
theorem load2 (A : ℕ → ℕ → ℝ) : shapeCast S32x32 (M2 A) shapeCasts_S1x32x32_S32x32 = lift fun v => A (v 0) (v 1) := by
  rw [M2, cast_drop0]; rfl

/-- Picking one entry of a line. -/
theorem pick (p n : ℕ) (c : ℝ) (X : ℕ → ℝ) : ∑ b ∈ Finset.range 32, hot (b + p) n c * X b = c * zr p X n := by
  unfold zr hot
  split_ifs with h1 h2
  · rw [mul_zero]; exact Finset.sum_eq_zero fun b hb => by rw [if_neg (by omega), zero_mul]
  · rw [Finset.sum_eq_single (n - p), if_pos (by omega)]
    · intro b _ hb; rw [if_neg (by omega), zero_mul]
    · intro hb; exact absurd (Finset.mem_range.mpr h2) hb
  · rw [mul_zero]
    exact Finset.sum_eq_zero fun b hb => by rw [if_neg (by have := Finset.mem_range.mp hb; omega), zero_mul]

theorem pick0 {n : ℕ} (hn : n < 32) (c : ℝ) (X : ℕ → ℝ) : ∑ b ∈ Finset.range 32, hot b n c * X b = c * X n := by
  have := pick 0 n c X
  simpa [zr, hn] using this

theorem clampIdx_lt (n : ℕ) : clampIdx n < 32 := by unfold clampIdx; omega

theorem sum_bandG (g : ℕ → ℝ) (j : ℕ) (X : ℕ → ℝ) :
    ∑ b ∈ Finset.range 32, bandG g j b * X b = taps g fun k => zr 4 X (j + k) := by
  unfold bandG taps
  simp only [Finset.sum_mul]
  rw [Finset.sum_comm]
  exact Finset.sum_congr rfl fun k _ => pick 4 (j + k) (g k) X

theorem sum_matD (j : ℕ) (X : ℕ → ℝ) :
    ∑ b ∈ Finset.range 32, matD j b * X b = X (clampIdx (j + 2)) - X (clampIdx j) := by
  simp only [matD, sub_mul, Finset.sum_sub_distrib, pick0 (clampIdx_lt _), one_mul]

theorem sum_matS {j : ℕ} (hj : j < 32) (X : ℕ → ℝ) :
    ∑ b ∈ Finset.range 32, matS j b * X b = X (clampIdx j) + 2 * X j + X (clampIdx (j + 2)) := by
  simp only [matS, add_mul, Finset.sum_add_distrib, pick0 (clampIdx_lt _), pick0 hj, one_mul]; ring

theorem sum_matP (j : ℕ) (X : ℕ → ℝ) : ∑ b ∈ Finset.range 32, matP j b * X b = zr 1 X (j + 2) := by
  simp only [matP, pick, one_mul]
theorem sum_matM (j : ℕ) (X : ℕ → ℝ) : ∑ b ∈ Finset.range 32, matM j b * X b = zr 1 X j := by
  simp only [matM, pick, one_mul]

end Cert.Canny
-- ==== Proof.Tile.lean ====
/-
  The tile arrays of the kernel as images: for every lane `l` of a tile, `S l` is an image.
-/
module

public import proofs.«01_k».proof.Proof.Matrices

@[expose] public section

set_option maxHeartbeats 4000000

noncomputable section

namespace Cert.Canny

open Idealize.ShloMosaic Cert.KernelIdeal Cert.KernelIdeal.Gen

/-- The tile whose lane `l` is the image `S l`. -/
def L {s : Shape} (S : ℕ → ℕ → ℕ → ℝ) : FVec Ideal s .f32 := lift fun v => S (v 2) (v 0) (v 1)

/-- The matrix `A`. -/
def M (A : ℕ → ℕ → ℝ) : FVec Ideal S32x32 .f32 := lift fun v => A (v 0) (v 1)

theorem load30 (A : ℕ → ℕ → ℝ) : k0_pay30 (F := Ideal) (M2 A) = M A := load2 A
theorem load67 (A : ℕ → ℕ → ℝ) : k0_pay67 (F := Ideal) (M2 A) = M A := load2 A
theorem load102 (A : ℕ → ℕ → ℝ) : k0_pay102 (F := Ideal) (M2 A) = M A := load2 A
theorem load154 (A : ℕ → ℕ → ℝ) : k0_pay154 (F := Ideal) (M2 A) = M A := load2 A
theorem load199 (A : ℕ → ℕ → ℝ) : k0_pay199 (F := Ideal) (M2 A) = M A := load2 A

theorem load31 (q : ℕ → ℕ → ℝ) : k0_pay31 (F := Ideal) (M2 q) = L fun _ => q := by
  unfold k0_pay31; dsimp only
  rw [load2, cast_add2]; rfl
theorem load32 (q : ℕ → ℕ → ℝ) : k0_pay32 (F := Ideal) (M2 q) = L fun _ => q := load31 q

theorem mm_L (A : ℕ → ℕ → ℝ) (S : ℕ → ℕ → ℕ → ℝ) :
    mmRows (M A) (L S) = L fun l i j => ∑ c ∈ Finset.range 32, A j c * S l i c := by
  unfold M L; rw [mmRows_lift]; rfl

theorem blurJ_L (g : ℕ → ℝ) (S : ℕ → ℕ → ℕ → ℝ) : mmRows (M (bandG g)) (L S) = L fun l => blurJ g (S l) := by
  rw [mm_L]; exact lift_congr fun v _ => sum_bandG _ _ _
theorem diffJ_L (S : ℕ → ℕ → ℕ → ℝ) : mmRows (M matD) (L S) = L fun l => diffJ (S l) := by
  rw [mm_L]; exact lift_congr fun v _ => sum_matD _ _
theorem sumJ_L (S : ℕ → ℕ → ℕ → ℝ) : mmRows (M matS) (L S) = L fun l => sumJ (S l) := by
  rw [mm_L]; exact lift_congr fun v hv => sum_matS (hv 1) _

/-- The first and last rows repeated. -/
theorem edge_L (S : ℕ → ℕ → ℕ → ℝ) : k0_pay103 (F := Ideal) (L S) = L fun l n j => S l (clampIdx n) j := by
  unfold k0_pay103; dsimp only
  simp only [L, slice_lift, ↓cat3_def, cat3_lift]
  refine lift_congr fun v hv => ?_
  have h0 : v 0 < 34 := hv 0
  simp only [Fin.val_zero, ax3_0, ax3_1, ax3_2, upd_00, upd_01, upd_02, add_zero]
  split_ifs with h1 h2
  · congr 1; unfold clampIdx; omega
  · congr 1; unfold clampIdx; omega
  · congr 1; unfold clampIdx; omega

theorem minor_L (S : ℕ → ℕ → ℕ → ℝ) : minorT (L S) = L fun l => sumI (S l) := by
  unfold minorT edgeT
  rw [edge_L, word_two, broadcast_lift]
  simp only [L, slice_lift, addf_lift, mulf_lift, ax3_0, ax3_1, ax3_2, add_zero]
  refine lift_congr fun v hv => ?_
  have h0 : v 0 < 32 := hv 0
  have : clampIdx (v 0 + 1) = v 0 := by unfold clampIdx; omega
  simp only [sumI, this]; ring

theorem major_L (S : ℕ → ℕ → ℕ → ℝ) : majorT (L S) = L fun l => diffI (S l) := by
  unfold majorT k0_pay104 k0_pay105; dsimp only
  rw [edge_L]
  simp only [L, slice_lift, subf_lift, ax3_0, ax3_1, ax3_2, add_zero]
  rfl

/-- A row of zeros before and after. -/
theorem pad_L (S : ℕ → ℕ → ℕ → ℝ) : k0_pay153 (F := Ideal) (L S) = L fun l n j => zr 1 (fun i => S l i j) n := by
  unfold k0_pay153; dsimp only
  simp only [L, word_zero, broadcast_lift, ↓cat3_def, pad0_lift, upd_00, upd_01, upd_02]

theorem zr_congr {p n : ℕ} {f f' : ℕ → ℝ} (h : ∀ k, f k = f' k) : zr p f n = zr p f' n := by
  rw [show f = f' from funext h]

theorem plus_L (S : ℕ → ℕ → ℕ → ℝ) : k0_pay153 (F := Ideal) (mmRows (M matP) (L S))
    = L fun l n j => zr 1 (fun i => zr 1 (fun j => S l i j) (j + 2)) n := by
  rw [mm_L, pad_L]
  exact lift_congr fun v _ => zr_congr fun i => sum_matP _ _
theorem minus_L (S : ℕ → ℕ → ℕ → ℝ) : k0_pay153 (F := Ideal) (mmRows (M matM) (L S))
    = L fun l n j => zr 1 (fun i => zr 1 (fun j => S l i j) (j + 0)) n := by
  rw [mm_L, pad_L]
  exact lift_congr fun v _ => zr_congr fun i => sum_matM _ _

/-- The rows smoothed. -/
theorem blurI_L {g : ℕ → ℝ} (hs : ∀ k < 9, g k = g (8 - k)) (S : ℕ → ℕ → ℕ → ℝ) :
    k0_pay36 (F := Ideal) (k0_pay33 (L S)) (k0_pay34 (L S) ((g 4 : ℝ) : EReal) ((g 5 : ℝ) : EReal) ((g 6 : ℝ) : EReal))
      (k0_pay35 (L S) ((g 7 : ℝ) : EReal)) ((g 8 : ℝ) : EReal) = L fun l => blurI g (S l) := by
  refine (blurI_tile (fun i j l => S l i j) g).trans ?_
  exact lift_congr fun v _ => sym_taps hs _

theorem zr_lin (p : ℕ) (a b : ℝ) (f f' : ℕ → ℝ) (n : ℕ) :
    zr p (fun k => a * f k + b * f' k) n = a * zr p f n + b * zr p f' n := by
  unfold zr; split_ifs <;> ring

theorem taps_lin (g : ℕ → ℝ) (a b : ℝ) (f f' : ℕ → ℝ) :
    taps g (fun k => a * f k + b * f' k) = a * taps g f + b * taps g f' := by
  unfold taps; rw [Finset.mul_sum, Finset.mul_sum, ← Finset.sum_add_distrib]
  exact Finset.sum_congr rfl fun _ _ => by ring

theorem blur_lin (g : ℕ → ℝ) (a b : ℝ) (f f' : ℕ → ℕ → ℝ) (i j : ℕ) :
    blur g (fun i j => a * f i j + b * f' i j) i j = a * blur g f i j + b * blur g f' i j := by
  have h : blurI g (fun i j => a * f i j + b * f' i j) = fun i j => a * blurI g f i j + b * blurI g f' i j := by
    funext i j; simp only [blurI, zr_lin, taps_lin]
  unfold blur; rw [h]; simp only [blurJ, zr_lin, taps_lin]

/-- The tile normalised. -/
theorem smooth_L (g : ℕ → ℝ) (m : ℕ → ℕ → EReal) (S : ℕ → ℕ → ℕ → ℝ) :
    smoothT (M (bandG g)) (L fun _ i j => 1 / 2 * recip g m i j)
      (L fun _ i j => blur g (fun _ _ => 1) i j * (1 / 2 * recip g m i j)) (L fun l => blurI g (S l))
      = L fun l => smooth g m (S l) := by
  unfold smoothT
  rw [blurJ_L]
  simp only [L]
  rw [lanes_lift, lanes_lift, mulf_lift, addf_lift]
  refine lift_congr fun v _ => ?_
  have := blur_lin g (1 / 2) (1 / 2) (S (v 2)) (fun _ _ => 1) (v 0) (v 1)
  simp only [mul_one] at this
  simp only [smooth, this, at3_0, at3_1, at3_2]
  rw [show blurJ g (blurI g (S (v 2))) (v 0) (v 1) = blur g (S (v 2)) (v 0) (v 1) from rfl]
  ring

end Cert.Canny
-- ==== Proof.Pixel.lean ====
/-
  One pixel: its four quadrants as the reference writes them, and the same written the kernel's way.
-/
module

public import proofs.«01_k».proof.Proof.Spec

@[expose] public section

noncomputable section

namespace Cert.Canny

/-- The derivatives have the same sign, or opposite signs; zero counts for both. -/
def same (I J : ℝ) : Prop := (0 ≤ I ∧ 0 ≤ J) ∨ (I ≤ 0 ∧ J ≤ 0)
def opp (I J : ℝ) : Prop := (I ≤ 0 ∧ 0 ≤ J) ∨ (0 ≤ I ∧ J ≤ 0)

theorem same_iff (I J : ℝ) : 0 ≤ I * J ↔ same I J := mul_nonneg_iff
theorem opp_iff (I J : ℝ) : I * J ≤ 0 ↔ opp I J := mul_nonpos_iff.trans or_comm

open Classical in
/-- A number to divide by. -/
def safe (a : ℝ) : ℝ := if 0 < a then a else 1

theorem safe_ne (a : ℝ) : safe a ≠ 0 := by
  unfold safe; split_ifs with h
  · exact h.ne'
  · exact one_ne_zero

/-- The weights of the four quadrants. -/
def wgt1 (I J : ℝ) : ℝ := |J| / (|I| + kEps)
def wgt2 (I J : ℝ) : ℝ := |I| / safe |J|
def wgt4 (I J : ℝ) : ℝ := |J| / safe |I|

/-- The pixels of the four quadrants. -/
def pts1 (E : Prop) (I J : ℝ) : Prop := (E ∧ same I J) ∧ |J| ≤ |I|
def pts2 (E : Prop) (I J : ℝ) : Prop := (E ∧ same I J) ∧ |I| ≤ |J|
def pts3 (E : Prop) (I J : ℝ) : Prop := (E ∧ opp I J) ∧ |I| ≤ |J|
def pts4 (E : Prop) (I J : ℝ) : Prop := (E ∧ opp I J) ∧ |J| ≤ |I|

/-- The interpolated neighbours on both sides; `n p q` is the gradient at the neighbour `(p - 1, q - 1)`. -/
def cp1 (I J : ℝ) (n : ℕ → ℕ → ℝ) : ℝ := mix (wgt1 I J) (n 2 1) (n 2 2)
def cm1 (I J : ℝ) (n : ℕ → ℕ → ℝ) : ℝ := mix (wgt1 I J) (n 0 1) (n 0 0)
def cp2 (I J : ℝ) (n : ℕ → ℕ → ℝ) : ℝ := mix (wgt2 I J) (n 1 2) (n 2 2)
def cm2 (I J : ℝ) (n : ℕ → ℕ → ℝ) : ℝ := mix (wgt2 I J) (n 1 0) (n 0 0)
def cp3 (I J : ℝ) (n : ℕ → ℕ → ℝ) : ℝ := mix (wgt2 I J) (n 1 2) (n 0 2)
def cm3 (I J : ℝ) (n : ℕ → ℕ → ℝ) : ℝ := mix (wgt2 I J) (n 1 0) (n 2 0)
def cp4 (I J : ℝ) (n : ℕ → ℕ → ℝ) : ℝ := mix (wgt4 I J) (n 0 1) (n 0 2)
def cm4 (I J : ℝ) (n : ℕ → ℕ → ℝ) : ℝ := mix (wgt4 I J) (n 2 1) (n 2 0)

/-- `p` where `r` holds, otherwise `q`. -/
def sel (r p q : Prop) : Prop := (r ∧ p) ∨ (¬ r ∧ q)

/-- Whether the pixel is a local maximum: what the last quadrant holding it says. -/
def pixelMax (E : Prop) (I J m : ℝ) (n : ℕ → ℕ → ℝ) : Prop :=
  sel (pts4 E I J) (cp4 I J n ≤ m ∧ cm4 I J n ≤ m)
    (sel (pts3 E I J) (cp3 I J n ≤ m ∧ cm3 I J n ≤ m)
      (sel (pts2 E I J) (cp2 I J n ≤ m ∧ cm2 I J n ≤ m)
        (sel (pts1 E I J) (cp1 I J n ≤ m ∧ cm1 I J n ≤ m) False)))

/-- The hard edge: the gradient at a local maximum over the threshold. -/
def pixelEdge (E : Prop) (I J m : ℝ) (n : ℕ → ℕ → ℝ) : ℝ :=
  @ite ℝ (pixelMax E I J m n ∧ kThr ≤ m) (Classical.propDecidable _) m 0

open Classical in
/-- The soft edge: the sum over the quadrants holding the pixel; the third looks at one side only. -/
def pixelSoft (E : Prop) (I J m : ℝ) (n : ℕ → ℕ → ℝ) : ℝ :=
  0 + (if pts1 E I J then max (excess m (cp1 I J n)) (excess m (cm1 I J n)) else 0)
    + (if pts2 E I J then max (excess m (cp2 I J n)) (excess m (cm2 I J n)) else 0)
    + (if pts3 E I J then max (excess m (cp3 I J n)) (excess m (cp3 I J n)) else 0)
    + (if pts4 E I J then max (excess m (cp4 I J n)) (excess m (cm4 I J n)) else 0)

/-- The neighbours interpolated the kernel's way. -/
theorem mix_eq (w a b : ℝ) : a + w * (b - a) = mix w a b := by unfold mix; ring

/-- The larger of the two excesses is the excess of the larger neighbour. -/
theorem excess_max (m a b : ℝ) : max (excess m a) (excess m b) = max (kGamma - m + max a b) 0 := by
  unfold excess
  rw [← max_add_add_left, ← max_max_max_comm, max_self]
  ring_nf

theorem excess_one (m a : ℝ) : max (excess m a) (excess m a) = max (kGamma - m + a) 0 := by
  unfold excess; rw [max_self]; ring_nf

open Classical in
/-- The flag of the kernel, kept as one or zero. -/
def flag (E : Prop) : ℝ := if E then 1 else 0

theorem flag_iff (E : Prop) : 1 / 2 < flag E ↔ E := by
  unfold flag; by_cases h : E
  · simp only [h, if_true, iff_true]; norm_num
  · simp only [h, if_false, iff_false]; norm_num

open Classical in
theorem sel_flag (r p : Prop) (q : Prop) : (if r then flag p else flag q) = flag (sel r p q) := by
  unfold sel flag; by_cases hr : r <;> by_cases hp : p <;> by_cases hq : q <;> simp [hr, hp, hq]

end Cert.Canny
-- ==== Proof.Out.lean ====
/-
  The two results of a tile from its gradients: the hard edge and the soft edge.
-/
module

public import proofs.«01_k».proof.Proof.Tile
public import proofs.«01_k».proof.Proof.Pixel

@[expose] public section

set_option maxHeartbeats 4000000

noncomputable section

namespace Cert.Canny

open Idealize.ShloMosaic Cert.KernelIdeal Cert.KernelIdeal.Gen

/-- The gradients of the lanes, shifted by `q - 1` columns, with a row of zeros before and after. -/
def NB {s : Shape} (q : ℕ) (S : ℕ → ℕ → ℕ → ℝ) : FVec Ideal s .f32 :=
  L fun l n j => zr 1 (fun i => zr 1 (fun j => S l i j) (j + q)) n

theorem pad_NB (S : ℕ → ℕ → ℕ → ℝ) : k0_pay153 (F := Ideal) (L S) = NB 1 S := by
  rw [pad_L]
  unfold NB L
  refine lift_congr fun v hv => zr_congr fun i => ?_
  have h1 : v 1 < 32 := hv 1
  simp [zr, h1]

/-- Rows `k …` of a tile with a row before and after. -/
def row0 (X : FVec Ideal S34x32x128 .f32) : FVec Ideal S32x32x128 .f32 :=
  extractStridedSlice S32x32x128 ![0, 0, 0] X slices_S34x32x128_o0_0_0_S32x32x128
def row1 (X : FVec Ideal S34x32x128 .f32) : FVec Ideal S32x32x128 .f32 :=
  extractStridedSlice S32x32x128 ![1, 0, 0] X slices_S34x32x128_o1_0_0_S32x32x128
def row2 (X : FVec Ideal S34x32x128 .f32) : FVec Ideal S32x32x128 .f32 :=
  extractStridedSlice S32x32x128 ![2, 0, 0] X slices_S34x32x128_o2_0_0_S32x32x128

section
variable (q : ℕ) (S : ℕ → ℕ → ℕ → ℝ)
theorem row0_NB : row0 (NB q S) = L fun l i j => near (S l) 0 q i j := by
  unfold row0 NB L; rw [slice_lift]; rfl
theorem row1_NB : row1 (NB q S) = L fun l i j => near (S l) 1 q i j := by
  unfold row1 NB L; rw [slice_lift]; rfl
theorem row2_NB : row2 (NB q S) = L fun l i j => near (S l) 2 q i j := by
  unfold row2 NB L; rw [slice_lift]; rfl
theorem p253_NB : k0_pay253 (F := Ideal) (NB q S) = L fun l i j => near (S l) 2 q i j := row2_NB q S
theorem p255_NB : k0_pay255 (F := Ideal) (NB q S) = L fun l i j => near (S l) 0 q i j := row0_NB q S
theorem p257_NB : k0_pay257 (F := Ideal) (NB q S) = L fun l i j => near (S l) 1 q i j := row1_NB q S
theorem p259_NB : k0_pay259 (F := Ideal) (NB q S) = L fun l i j => near (S l) 0 q i j := row0_NB q S
end

/-- `a` moved by the weight `w` towards `b`. -/
def mixT (w a b : FVec Ideal S32x32x128 .f32) : FVec Ideal S32x32x128 .f32 := addf a (mulf w (subf b a))

/-- The larger interpolated neighbour of the first and of the second quadrant. -/
def big1 (w : FVec Ideal S32x32x128 .f32) (X P N : FVec Ideal S34x32x128 .f32) : FVec Ideal S32x32x128 .f32 :=
  maximumf (mixT w (row2 X) (row2 P)) (mixT w (row0 X) (row0 N))
def big2 (w : FVec Ideal S32x32x128 .f32) (P N : FVec Ideal S34x32x128 .f32) : FVec Ideal S32x32x128 .f32 :=
  maximumf (mixT w (row1 P) (row2 P)) (mixT w (row1 N) (row0 N))

/-- The maximum test and the soft sum of the first quadrant. -/
def max1 (m c : FVec Ideal S32x32x128 .f32) (p q : IVec S32x32x128 1) : FVec Ideal S32x32x128 .f32 :=
  select (k0_pay261 p q) (select (cmpf .ole c m) (broadcast S32x32x128 (Scalar.ofBits .f32 0x3F800000#32))
    (broadcast S32x32x128 (Scalar.ofBits .f32 0x00000000#32))) (broadcast S32x32x128 (Scalar.ofBits .f32 0x00000000#32))
def soft1 (g c : FVec Ideal S32x32x128 .f32) (p q : IVec S32x32x128 1) : FVec Ideal S32x32x128 .f32 :=
  addf (broadcast S32x32x128 (Scalar.ofBits .f32 0x00000000#32))
    (select (k0_pay261 p q) (maximumf (addf g c) (broadcast S32x32x128 (Scalar.ofBits .f32 0x00000000#32)))
      (broadcast S32x32x128 (Scalar.ofBits .f32 0x00000000#32)))

/-- The maximum flags of a tile. -/
def lmT (m I J e : FVec Ideal S32x32x128 .f32) (X P N : FVec Ideal S34x32x128 .f32) : FVec Ideal S32x32x128 .f32 :=
  k0_pay272 m (k0_pay146 J I e) (k0_pay147 (absf I) (absf J)) (k0_pay148 (absf I) (absf J))
    (k0_pay150 (absf I) (absf J)) (k0_pay151 (absf I) (absf J)) (k0_pay253 X) (k0_pay255 X) (k0_pay257 P) (row1 N)
    (k0_pay259 P) (row2 N)
    (max1 m (big1 (k0_pay149 (absf I) (absf J)) X P N) (k0_pay145 J I e) (k0_pay147 (absf I) (absf J)))
    (k0_pay265 (k0_pay145 J I e) (k0_pay148 (absf I) (absf J)))
    (big2 (k0_pay150 (absf I) (absf J)) P N)

/-- The soft edges of a tile. -/
def softT (m I J e : FVec Ideal S32x32x128 .f32) (X P N : FVec Ideal S34x32x128 .f32) : FVec Ideal S32x32x128 .f32 :=
  k0_pay273 (k0_pay146 J I e) (k0_pay147 (absf I) (absf J)) (k0_pay148 (absf I) (absf J))
    (k0_pay150 (absf I) (absf J)) (k0_pay151 (absf I) (absf J)) (k0_pay152 m) (k0_pay253 X) (k0_pay255 X) (k0_pay257 P)
    (k0_pay259 P) (row2 N)
    (soft1 (k0_pay152 m) (big1 (k0_pay149 (absf I) (absf J)) X P N) (k0_pay145 J I e) (k0_pay147 (absf I) (absf J)))
    (k0_pay265 (k0_pay145 J I e) (k0_pay148 (absf I) (absf J)))
    (addf (k0_pay152 m) (big2 (k0_pay150 (absf I) (absf J)) P N))

variable (m I J : ℕ → ℕ → ℕ → ℝ) (E : ℕ → ℕ → Prop)

theorem wgt1_L : k0_pay149 (F := Ideal) (absf (L I)) (absf (L J)) = L fun l i j => wgt1 (I l i j) (J l i j) := by
  unfold k0_pay149; dsimp only
  simp only [L, word_eps, broadcast_lift, absf_lift, addf_lift]
  rw [divf_lift]
  · rfl
  · intro v; have := kEps_pos; positivity

theorem safe_L (X : ℕ → ℕ → ℕ → ℝ) : select (cmpf .ogt (L X : FVec Ideal S32x32x128 .f32) (lift fun _ => 0)) (L X) (lift fun _ => 1)
    = L fun l i j => safe (X l i j) := by
  simp only [L, ogt_lift, select_lift]; rfl

theorem abs_L : absf (L I : FVec Ideal S32x32x128 .f32) = L fun l i j => |I l i j| := by
  simp only [L, absf_lift]

theorem wgt2_L : k0_pay150 (F := Ideal) (absf (L I)) (absf (L J)) = L fun l i j => wgt2 (I l i j) (J l i j) := by
  unfold k0_pay150; dsimp only
  rw [word_zero, word_one, broadcast_lift, broadcast_lift, abs_L, abs_L, safe_L]
  exact divf_lift _ _ fun v => safe_ne _
theorem wgt4_L : k0_pay151 (F := Ideal) (absf (L I)) (absf (L J)) = L fun l i j => wgt4 (I l i j) (J l i j) := by
  unfold k0_pay151; dsimp only
  rw [word_zero, word_one, broadcast_lift, broadcast_lift, abs_L, abs_L, safe_L]
  exact divf_lift _ _ fun v => safe_ne _

/-- Truth values of a tile. -/
def B (P : ℕ → ℕ → ℕ → Prop) : IVec S32x32x128 1 := liftB fun v => P (v 2) (v 0) (v 1)

theorem flag_L : k0_pay143 (F := Ideal) (L fun _ i j => flag (E i j)) = B fun _ => E := by
  unfold k0_pay143; dsimp only
  simp only [word_half, L, broadcast_lift, ogt_lift, flag_iff]; rfl

theorem same_L : k0_pay145 (F := Ideal) (L J) (L I) (L fun _ i j => flag (E i j))
    = B fun l i j => E i j ∧ same (I l i j) (J l i j) := by
  unfold k0_pay145 k0_pay144; dsimp only
  rw [flag_L]
  simp only [word_zero, L, B, broadcast_lift, mulf_lift, oge_lift, andi_lift, same_iff]
theorem opp_L : k0_pay146 (F := Ideal) (L J) (L I) (L fun _ i j => flag (E i j))
    = B fun l i j => E i j ∧ opp (I l i j) (J l i j) := by
  unfold k0_pay146 k0_pay144; dsimp only
  rw [flag_L]
  simp only [word_zero, L, B, broadcast_lift, mulf_lift, ole_lift, andi_lift, opp_iff]
theorem ge_L : k0_pay147 (F := Ideal) (absf (L I)) (absf (L J)) = B fun l i j => |J l i j| ≤ |I l i j| := by
  unfold k0_pay147; dsimp only
  simp only [L, B, absf_lift, oge_lift]
theorem le_L : k0_pay148 (F := Ideal) (absf (L I)) (absf (L J)) = B fun l i j => |I l i j| ≤ |J l i j| := by
  unfold k0_pay148; dsimp only
  simp only [L, B, absf_lift, ole_lift]

theorem mix_L (w a b : ℕ → ℕ → ℕ → ℝ) : mixT (L w) (L a) (L b) = L fun l i j => mix (w l i j) (a l i j) (b l i j) := by
  unfold mixT; simp only [L, subf_lift, mulf_lift, addf_lift, mix_eq]

theorem flag_def (p : Prop) (d : Decidable p) : @ite ℝ p d 1 0 = flag p := by
  unfold flag; congr
theorem flag_sel (r p q : Prop) (d : Decidable r) : @ite ℝ r d (flag p) (flag q) = flag (sel r p q) := by
  rw [← sel_flag]; congr
theorem flag_sel0 (r p : Prop) (d : Decidable r) : @ite ℝ r d (flag p) 0 = flag (sel r p False) := by
  rw [← sel_flag, show flag False = 0 from if_neg not_false]; congr

/-- The maximum flags. -/
theorem lm_L : lmT (L m) (L I) (L J) (L fun _ i j => flag (E i j)) (NB 1 m) (NB 2 m) (NB 0 m)
    = L fun l i j => flag (pixelMax (E i j) (I l i j) (J l i j) (m l i j) fun p q => near (m l) p q i j) := by
  unfold lmT
  rw [same_L, opp_L, ge_L, le_L, wgt1_L, wgt2_L, wgt4_L, p253_NB, p255_NB, p257_NB, p259_NB, row1_NB, row2_NB]
  unfold big1 big2 max1
  rw [row0_NB, row0_NB, row1_NB, row1_NB, row2_NB, row2_NB, mix_L, mix_L, mix_L, mix_L]
  unfold k0_pay272 k0_pay271 k0_pay270 k0_pay269 k0_pay268 k0_pay265 k0_pay261; dsimp only
  simp only [L, B, word_zero, word_one, broadcast_lift, subf_lift, mulf_lift, addf_lift, mix_eq, maximumf_lift, ole_lift,
    andi_lift, select_lift, flag_def, flag_sel, flag_sel0, max_le_iff]
  rfl

/-- The soft edges. -/
theorem soft_L : softT (L m) (L I) (L J) (L fun _ i j => flag (E i j)) (NB 1 m) (NB 2 m) (NB 0 m)
    = L fun l i j => pixelSoft (E i j) (I l i j) (J l i j) (m l i j) fun p q => near (m l) p q i j := by
  unfold softT
  rw [same_L, opp_L, ge_L, le_L, wgt1_L, wgt2_L, wgt4_L, p253_NB, p255_NB, p257_NB, p259_NB, row2_NB]
  unfold big1 big2 soft1
  rw [row0_NB, row0_NB, row1_NB, row1_NB, row2_NB, row2_NB, mix_L, mix_L, mix_L, mix_L]
  unfold k0_pay273 k0_pay271 k0_pay270 k0_pay269 k0_pay268 k0_pay265 k0_pay261 k0_pay152; dsimp only
  simp only [L, B, word_zero, word_gamma, broadcast_lift, subf_lift, mulf_lift, addf_lift, mix_eq, maximumf_lift,
    andi_lift, select_lift]
  refine lift_congr fun v _ => ?_
  simp only [pixelSoft, excess_one]
  simp only [excess_max]
  rfl

/-- The hard edges, as the block of results holds them. -/
theorem edge_out : k0_pay1 (F := Ideal) (L m)
      (L fun l i j => flag (pixelMax (E i j) (I l i j) (J l i j) (m l i j) fun p q => near (m l) p q i j))
    = lift fun v => pixelEdge (E (v 1) (v 2)) (I (v 3) (v 1) (v 2)) (J (v 3) (v 1) (v 2)) (m (v 3) (v 1) (v 2))
        fun p q => near (m (v 3)) p q (v 1) (v 2) := by
  unfold k0_pay1; dsimp only
  simp only [L, word_zero, word_half, word_thr, broadcast_lift, ogt_lift, oge_lift, andi_lift, select_lift, flag_iff]
  rw [cast_lead]
  refine lift_congr fun v _ => ?_
  unfold pixelEdge; rfl

theorem soft_out (S : ℕ → ℕ → ℕ → ℝ) : k0_pay2 (F := Ideal) (L S) = lift fun v => S (v 3) (v 1) (v 2) := by
  unfold k0_pay2 L; dsimp only
  rw [cast_lead]; rfl

end Cert.Canny
-- ==== Proof.Flag.lean ====
/-
  The pixels looked at: what the kernel keeps as one or zero for every lane.
-/
module

public import proofs.«01_k».proof.Proof.Out

@[expose] public section

set_option maxHeartbeats 4000000

noncomputable section

namespace Cert.Canny

open Idealize.ShloMosaic Cert.KernelIdeal Cert.KernelIdeal.Gen

/-- A padded line of ones and zeros is over one half exactly where the padded line is not zero. -/
theorem zr_flag (p n : ℕ) (f : ℕ → ℝ) (P : ℕ → Prop) (h : ∀ k, 1 / 2 < f k ↔ P k) :
    1 / 2 < zr p f n ↔ ¬ n < p ∧ n - p < 32 ∧ P (n - p) := by
  unfold zr; split_ifs with h1 h2
  · simp [h1]
  · simp [h1, h2, ← h]
  · simp [h1, h2]

theorem zr_ne (p n : ℕ) (f : ℕ → EReal) : zrW p f n ≠ 0 ↔ ¬ n < p ∧ n - p < 32 ∧ f (n - p) ≠ 0 := by
  unfold zrW; split_ifs with h1 h2
  · simp [h1]
  · simp [h1, h2]
  · simp [h1, h2]

/-- The nine values around are marked exactly where they are not zero. -/
theorem near_flag (m : ℕ → ℕ → EReal) (p q i j : ℕ) :
    1 / 2 < near (fun i j => flag (m i j ≠ ((0 : ℝ) : EReal))) p q i j ↔ nearW m p q i j ≠ 0 :=
  (zr_flag 1 (i + p) (fun i => zr 1 (fun j => flag (m i j ≠ ((0 : ℝ) : EReal))) (j + q)) (fun i => zrW 1 (fun j => m i j) (j + q) ≠ 0)
    fun k => (zr_flag 1 (j + q) _ (fun j => m k j ≠ 0) fun _ => flag_iff _).trans (zr_ne 1 (j + q) fun j => m k j).symm).trans
    (zr_ne 1 (i + p) fun i => zrW 1 (fun j => m i j) (j + q)).symm

/-- Both orders of padding read the same number. -/
theorem near_swap (f : ℕ → ℕ → ℝ) (a b : ℕ) :
    zr 1 (fun j => zr 1 (fun i => f i j) a) b = zr 1 (fun i => zr 1 (fun j => f i j) b) a := by
  unfold zr; split_ifs <;> rfl

theorem ne_flag (p : ℝ) (d : Decidable (p ≠ 0)) : @ite ℝ (p ≠ 0) d 1 0 = flag (p ≠ 0) := flag_def _ _

/-- The mask shrunk by one pixel. -/
theorem shrink (m : ℕ → ℕ → EReal) : k0_pay27 (F := Ideal) (TW fun i j _ => m i j)
    = liftB fun v => ∀ p < 3, ∀ q < 3, nearW m p q (v 0) (v 1) ≠ 0 := by
  unfold k0_pay27; dsimp only
  have h1 : cmpf .one (shapeCast S32x32x1 (TW fun i j _ => m i j : FVec Ideal S32x32x1 .f32) shapeCasts_S32x32x1_S32x32x1)
      (broadcast S32x32x1 (Scalar.ofBits .f32 0x00000000#32)) = liftB fun v => m (v 0) (v 1) ≠ ((0 : ℝ) : EReal) := by
    rw [cast_self, show (broadcast S32x32x1 (Scalar.ofBits .f32 0x00000000#32) : FVec Ideal S32x32x1 .f32)
      = wide fun _ => ((0 : ℝ) : EReal) from funext fun _ => word_zero]
    exact one_wide _ _
  rw [h1]
  simp only [cast_self, word_zero, word_half, broadcast_lift, sitofp_lift, ↓cat3_def, pad0_lift, pad1_lift,
    slice_lift, ogt_lift, andi_lift, upd_00, upd_01, upd_02, upd_10, upd_11, upd_12, ax3_0, ax3_1, ax3_2, flag_def]
  refine liftB_congr fun v _ => ?_
  have h : ∀ p q, 1 / 2 < zr 1 (fun j => zr 1 (fun i => flag (m i j ≠ ((0 : ℝ) : EReal))) (v 0 + p)) (v 1 + q)
      ↔ nearW m p q (v 0) (v 1) ≠ 0 := fun p q => by
    rw [near_swap]; exact near_flag m p q (v 0) (v 1)
  simp only [h]
  constructor
  · rintro ⟨⟨⟨⟨⟨⟨⟨⟨h0, h1⟩, h2⟩, h3⟩, h4⟩, h5⟩, h6⟩, h7⟩, h8⟩ p hp q hq
    interval_cases p <;> interval_cases q <;> assumption
  · intro h
    exact ⟨⟨⟨⟨⟨⟨⟨⟨h 0 (by omega) 0 (by omega), h 0 (by omega) 1 (by omega)⟩, h 0 (by omega) 2 (by omega)⟩,
      h 1 (by omega) 0 (by omega)⟩, h 1 (by omega) 1 (by omega)⟩, h 1 (by omega) 2 (by omega)⟩,
      h 2 (by omega) 0 (by omega)⟩, h 2 (by omega) 1 (by omega)⟩, h 2 (by omega) 2 (by omega)⟩

/-- The kept flags of a tile from its gradients and the shrunk mask. -/
def flagT (I J : FVec Ideal S32x32x128 .f32) (e : IVec S32x32x1 1) : FVec Ideal S32x32x128 .f32 :=
  shapeCast S32x32x128 (broadcastTo S32x32x128 (shapeCast S32x32x1 (sitofp .f32 (extui 32 (andi e
    (cmpf .ogt (extractStridedSlice S32x32x1 ![0, 0, 0] (addf (mulf I I) (mulf J J)) slices_S32x32x128_o0_0_0_S32x32x1)
      (broadcast S32x32x1 (Scalar.ofBits .f32 0x00000000#32)))) natLt_1_32) : FVec Ideal S32x32x1 .f32)
    shapeCasts_S32x32x1_S32x32x1) broadcasts_S32x32x1_S32x32x128) shapeCasts_S32x32x128_S32x32x128

theorem flagT_L (m : ℕ → ℕ → EReal) (S : ℕ → ℕ → ℕ → ℝ) :
    flagT (L fun l => gradI (S l)) (L fun l => gradJ (S l)) (k0_pay27 (F := Ideal) (TW fun i j _ => m i j))
      = L fun _ i j => flag (inner m (S 0) i j) := by
  unfold flagT
  rw [shrink]
  simp only [L, cast_self, word_zero, broadcast_lift, mulf_lift, addf_lift, slice_lift, ogt_lift, andi_lift, sitofp_lift,
    flag_def, ax3_0, ax3_1, ax3_2, add_zero]
  rw [lanes_lift]
  rfl

end Cert.Canny
-- ==== Proof.Compose.lean ====
/-
  The whole computation of a tile, from what it loads.
-/
module

public import proofs.«01_k».proof.Proof.Flag

@[expose] public section

set_option maxHeartbeats 4000000

noncomputable section

namespace Cert.Canny

open Idealize.ShloMosaic Cert.KernelIdeal Cert.KernelIdeal.Gen

variable (x : FVec Ideal S32x32x128 .f32) (g4 g5 g6 g7 g8 : Elt Ideal .f32) (A D S P N : FVec Ideal S1x32x32 .f32)
  (u v : FVec Ideal S1x32x32 .f32) (e : FVec Ideal S32x32x128 .f32)

/-- The smoothed tile. -/
def xsT : FVec Ideal S32x32x128 .f32 :=
  smoothT (k0_pay30 A) (k0_pay31 u) (k0_pay32 v) (k0_pay36 (k0_pay33 x) (k0_pay34 x g4 g5 g6) (k0_pay35 x g7) g8)

/-- Its two derivatives. -/
def gradJT (X : FVec Ideal S32x32x128 .f32) : FVec Ideal S32x32x128 .f32 := minorT (mmRows (k0_pay67 D) X)
def gradIT (X : FVec Ideal S32x32x128 .f32) : FVec Ideal S32x32x128 .f32 := mmRows (k0_pay102 S) (majorT X)

/-- The length of the gradient. -/
def magT (I J : FVec Ideal S32x32x128 .f32) : FVec Ideal S32x32x128 .f32 :=
  sqrt (addf (addf (mulf I I) (mulf J J)) (broadcast S32x32x128 (Scalar.ofBits .f32 0x3089705F#32)))

/-- The gradient shifted by one column. -/
def plusT (m : FVec Ideal S32x32x128 .f32) : FVec Ideal S34x32x128 .f32 := k0_pay153 (mmRows (k0_pay154 P) m)
def minusT (m : FVec Ideal S32x32x128 .f32) : FVec Ideal S34x32x128 .f32 := k0_pay153 (mmRows (k0_pay199 N) m)

/-- The two blocks of results of a smoothed tile. -/
def edgeOut (X : FVec Ideal S32x32x128 .f32) : FVec Ideal S1x32x32x128 .f32 :=
  let I := gradIT S X
  let J := gradJT D X
  let m := magT I J
  k0_pay1 m (lmT m I J e (k0_pay153 m) (plusT P m) (minusT N m))
def softOut (X : FVec Ideal S32x32x128 .f32) : FVec Ideal S1x32x32x128 .f32 :=
  let I := gradIT S X
  let J := gradJT D X
  let m := magT I J
  k0_pay2 (softT m I J e (k0_pay153 m) (plusT P m) (minusT N m))

section
variable (s : ℕ → ℕ → ℕ → ℝ) (E : ℕ → ℕ → Prop)

theorem gradJT_L : gradJT (M2 matD) (L s) = L fun l => gradJ (s l) := by
  unfold gradJT; rw [load67, diffJ_L, minor_L]; rfl
theorem gradIT_L : gradIT (M2 matS) (L s) = L fun l => gradI (s l) := by
  unfold gradIT; rw [load102, major_L, sumJ_L]; rfl

theorem mag2_nonneg (f : ℕ → ℕ → ℝ) (i j : ℕ) : 0 ≤ mag2 f i j := by
  unfold mag2; exact add_nonneg (by first | exact sq_nonneg _ | exact mul_self_nonneg _) (by first | exact sq_nonneg _ | exact mul_self_nonneg _)

theorem magT_L : magT (L fun l => gradI (s l)) (L fun l => gradJ (s l)) = L fun l => mag (s l) := by
  unfold magT
  rw [word_eps, broadcast_lift]
  simp only [L, mulf_lift, addf_lift]
  rw [sqrt_lift]
  · rfl
  · intro v; exact add_nonneg (mag2_nonneg (s (v 2)) (v 0) (v 1)) kEps_pos.le

theorem plusT_L : plusT (M2 matP) (L s) = NB 2 s := by
  unfold plusT; rw [load154, plus_L]; rfl
theorem minusT_L : minusT (M2 matM) (L s) = NB 0 s := by
  unfold minusT; rw [load199, minus_L]; rfl

/-- The results of an image whose smoothed form is `s`, at the pixels `E`. -/
def edgeOf (E : ℕ → ℕ → Prop) (s : ℕ → ℕ → ℝ) (i j : ℕ) : ℝ :=
  pixelEdge (E i j) (gradI s i j) (gradJ s i j) (mag s i j) fun p q => near (mag s) p q i j
def softOf (E : ℕ → ℕ → Prop) (s : ℕ → ℕ → ℝ) (i j : ℕ) : ℝ :=
  pixelSoft (E i j) (gradI s i j) (gradJ s i j) (mag s i j) fun p q => near (mag s) p q i j

theorem edgeOut_L : edgeOut (M2 matD) (M2 matS) (M2 matP) (M2 matM) (L fun _ i j => flag (E i j)) (L s)
    = lift fun v => edgeOf E (s (v 3)) (v 1) (v 2) := by
  unfold edgeOut; dsimp only
  rw [gradJT_L, gradIT_L, magT_L, plusT_L, minusT_L, pad_NB, lm_L, edge_out]; rfl

theorem softOut_L : softOut (M2 matD) (M2 matS) (M2 matP) (M2 matM) (L fun _ i j => flag (E i j)) (L s)
    = lift fun v => softOf E (s (v 3)) (v 1) (v 2) := by
  unfold softOut; dsimp only
  rw [gradJT_L, gradIT_L, magT_L, plusT_L, minusT_L, pad_NB, soft_L, soft_out]; rfl

theorem xsT_L {g : ℕ → ℝ} (hs : ∀ k < 9, g k = g (8 - k)) (m : ℕ → ℕ → EReal) (f : ℕ → ℕ → ℕ → ℝ) :
    xsT (L f) ((g 4 : ℝ) : EReal) ((g 5 : ℝ) : EReal) ((g 6 : ℝ) : EReal) ((g 7 : ℝ) : EReal) ((g 8 : ℝ) : EReal)
      (M2 (bandG g)) (M2 fun i j => 1 / 2 * recip g m i j) (M2 fun i j => blur g (fun _ _ => 1) i j * (1 / 2 * recip g m i j))
    = L fun l => smooth g m (f l) := by
  unfold xsT; rw [load30, load31, load32, blurI_L hs, smooth_L]

end

end Cert.Canny
-- ==== Proof.Load.lean ====
/-
  Loads from, and stores into, memory that holds an array of reals.
-/
module

public import proofs.«01_k».proof.Proof.Compose
public import Idealize.ShloMosaic.Lib.WholeRead

@[expose] public section

noncomputable section

namespace Cert.Canny

open Idealize.ShloMosaic Cert.KernelIdeal Cert.KernelIdeal.Gen

section
variable {s : Shape} (off size : Fin s.rank → ℕ) (inb : ∀ a, off a + size a ≤ s.size a)

/-- A coordinate of a block, in the array. -/
theorem co_emb (y : (Rect.unit off size inb).shape.Idx) :
    co ((Rect.unit off size inb).toLoadRect.idx y) = fun k => co y k + ax off k := by
  funext k
  by_cases hk : k < s.rank
  · rw [co_lt _ hk, co_lt _ (show k < (Rect.unit off size inb).shape.rank from hk), ax_lt _ hk]
    show off ⟨k, hk⟩ + 1 * _ = _
    rw [Nat.one_mul, Nat.add_comm]
  · rw [co_ge _ hk, co_ge _ (show ¬ k < (Rect.unit off size inb).shape.rank from hk), ax_ge _ hk]

/-- A block of an array, loaded. -/
theorem load_at {sig : RefSig} {κ : Kind} {sp : Space} {m : Memref sig κ sp s .f32} (hm : m.IsWhole) (x : (ℕ → ℕ) → ℝ)
    (y : (Rect.unit off size inb).shape.Idx) :
    View.readAt (Elt Ideal) m.view (Rect.unit off size inb).toLoadRect (hm.unread (lift x : FVec Ideal s .f32)) y
      = ((x fun k => co y k + ax off k : ℝ) : EReal) := by
  rw [hm.readAt_unread]
  show ((x (co _) : ℝ) : EReal) = _
  rw [co_emb]

/-- A block of a stored array, read back. -/
theorem cov_at {sig : RefSig} {κ : Kind} {sp : Space} (v : View sig κ sp s .f32) (L : List (View.Piece (Elt Ideal) s .f32))
    (x : (ℕ → ℕ) → ℝ) (h : View.canon L = (lift x : FVec Ideal s .f32)) (y : (Rect.unit off size inb).shape.Idx) :
    v.readCov L (Rect.unit off size inb).toLoadRect y = ((x fun k => co y k + ax off k : ℝ) : EReal) := by
  rw [View.readCov_eq_canon', h]
  show ((x (co _) : ℝ) : EReal) = _
  rw [co_emb]

/-- A stored block that is a part of the array `z`. -/
theorem part_of (x z : (ℕ → ℕ) → ℝ)
    (h : ∀ v, (∀ k : Fin s.rank, v k < size k) → x v = z fun k => v k + ax off k) (y : (Rect.unit off size inb).shape.Idx) :
    (lift x : FVec Ideal (Rect.unit off size inb).shape .f32) y = (lift z : FVec Ideal s .f32) ((Rect.unit off size inb).emb y) := by
  have e := h (co y) fun k => by
    rw [co_lt _ (show (k : ℕ) < (Rect.unit off size inb).shape.rank from k.isLt)]; exact (y k).isLt
  show ((x (co y) : ℝ) : EReal) = ((z (co _) : ℝ) : EReal)
  rw [e]; congr 2; exact (co_emb off size inb y).symm

/-- Stores that are all parts of one array leave that array where they reach. -/
theorem canon_of {z : s.Idx → Elt Ideal .f32} (y : s.Idx) : (L : List (View.Piece (Elt Ideal) s .f32)) →
    (∀ p ∈ L, ∀ x, p.2 x = z (p.1.emb x)) → (∃ p ∈ L, y ∈ p.1.set) → View.canon L y = z y
  | [], _, h => by obtain ⟨p, hp, _⟩ := h; cases hp
  | p :: L, hz, h => by
    by_cases hy : y ∈ p.1.set
    · obtain ⟨x, rfl⟩ : ∃ x, p.1.emb x = y := by
        choose j hj e using LoadRect.mem_set _ |>.mp hy
        exact ⟨fun a => ⟨j a, hj a⟩, funext fun a => Fin.ext (e a).symm⟩
      rw [View.canon_cons_emb]; exact hz p List.mem_cons_self x
    · rw [View.canon_cons_of_not_mem _ _ hy]
      refine canon_of y L (fun q hq => hz q (List.mem_cons_of_mem _ hq)) ?_
      obtain ⟨q, hq, hm⟩ := h
      rcases List.mem_cons.mp hq with rfl | hq
      · exact absurd hm hy
      · exact ⟨q, hq, hm⟩

end

/-- The five matrices, the two norms, the two results. -/
def mats (g : ℕ → ℝ) : ℕ → ℕ → ℕ → ℝ
  | 0 => bandG g
  | 1 => matD
  | 2 => matS
  | 3 => matP
  | _ => matM

def norms (g : ℕ → ℝ) (m : ℕ → ℕ → EReal) : ℕ → ℕ → ℕ → ℝ
  | 0 => fun i j => 1 / 2 * recip g m i j
  | _ => fun i j => blur g (fun _ _ => 1) i j * (1 / 2 * recip g m i j)

def outOf (E : ℕ → ℕ → Prop) (s : ℕ → ℕ → ℝ) : ℕ → ℕ → ℕ → ℝ
  | 0 => edgeOf E s
  | _ => softOf E s

/-- A tap of a filter that is held whole. -/
theorem load_tap {sig : RefSig} {κ : Kind} {sp : Space} {a : Memref sig κ sp S9 .f32} (ha : a.IsWhole) (g : ℕ → ℝ) (k : ℕ)
    (h : ∀ a, (![k] : Fin 1 → ℕ) a + S1.size a ≤ S9.size a) (h0 : 0 < S1.numel) :
    View.readAt (Elt Ideal) a.view (Rect.unit (s := S9) ![k] S1.size h).toLoadRect
      (ha.unread (lift fun v => g (v 0) : FVec Ideal S9 .f32)) (Shape.Idx.first h0) = ((g k : ℝ) : EReal) := by
  rw [load_at]
  have : co (s := S1) (Shape.Idx.first h0) 0 = 0 := by
    have := (Shape.Idx.first h0 0).isLt
    show (Shape.Idx.first h0 0).val = 0
    have h1 : S1.size 0 = 1 := rfl
    omega
  show ((g (co (s := S1) (Shape.Idx.first h0) 0 + ax ![k] 0) : ℝ) : EReal) = _
  rw [this, Nat.zero_add]; rfl

/-- Block `k` of a stack of matrices. -/
theorem load_block {sig : RefSig} {κ : Kind} {sp : Space} {n : ℕ} {a : Memref sig κ sp ⟨3, ![n, 32, 32]⟩ .f32} (ha : a.IsWhole)
    (A : ℕ → ℕ → ℕ → ℝ) (k : ℕ) (h : ∀ a, (![k, 0, 0] : Fin 3 → ℕ) a + S1x32x32.size a ≤ (⟨3, ![n, 32, 32]⟩ : Shape).size a) :
    View.readAt (Elt Ideal) a.view (Rect.unit (s := ⟨3, ![n, 32, 32]⟩) ![k, 0, 0] S1x32x32.size h).toLoadRect
      (ha.unread (T A)) = M2 (A k) := by
  funext y
  refine (load_at _ _ _ ha _ y).trans ?_
  have h0 : co (s := S1x32x32) y 0 = 0 := by
    have h0 : (y 0).val < 1 := (y 0).isLt
    show (y 0).val = 0
    omega
  show ((A (co (s := S1x32x32) y 0 + k) (co (s := S1x32x32) y 1) (co (s := S1x32x32) y 2) : ℝ) : EReal) = _
  rw [h0, Nat.zero_add]; rfl

theorem cov_block {sig : RefSig} {κ : Kind} {sp : Space} {n : ℕ} (v : View sig κ sp ⟨3, ![n, 32, 32]⟩ .f32)
    (L : List (View.Piece (Elt Ideal) ⟨3, ![n, 32, 32]⟩ .f32)) (A : ℕ → ℕ → ℕ → ℝ) (hL : View.canon L = T A) (k : ℕ)
    (h : ∀ a, (![k, 0, 0] : Fin 3 → ℕ) a + S1x32x32.size a ≤ (⟨3, ![n, 32, 32]⟩ : Shape).size a) :
    v.readCov L (Rect.unit (s := ⟨3, ![n, 32, 32]⟩) ![k, 0, 0] S1x32x32.size h).toLoadRect = M2 (A k) := by
  funext y
  refine (cov_at _ _ _ v L _ hL y).trans ?_
  have h0 : co (s := S1x32x32) y 0 = 0 := by
    have h0 : (y 0).val < 1 := (y 0).isLt
    show (y 0).val = 0
    omega
  show ((A (co (s := S1x32x32) y 0 + k) (co (s := S1x32x32) y 1) (co (s := S1x32x32) y 2) : ℝ) : EReal) = _
  rw [h0, Nat.zero_add]; rfl

/-- No offset. -/
theorem zero3 : (![0, 0, 0] : Fin 3 → ℕ) = fun _ => 0 := by funext k; fin_cases k <;> rfl

/-- A whole array, loaded. -/
theorem load_all {sig : RefSig} {κ : Kind} {sp : Space} {a b c : ℕ} {r : Memref sig κ sp ⟨3, ![a, b, c]⟩ .f32} (hr : r.IsWhole)
    (X : FVec Ideal ⟨3, ![a, b, c]⟩ .f32) (h : ∀ k, (![0, 0, 0] : Fin 3 → ℕ) k + (⟨3, ![a, b, c]⟩ : Shape).size k ≤ (⟨3, ![a, b, c]⟩ : Shape).size k) :
    View.readAt (Elt Ideal) r.view (Rect.unit (s := ⟨3, ![a, b, c]⟩) ![0, 0, 0] (⟨3, ![a, b, c]⟩ : Shape).size h).toLoadRect
      (hr.unread X) = X := by
  rw [View.readAt_eq_ld, hr.read_unread]
  exact View.ld_unit_zero (Val := Elt Ideal) (e := .f32) (S := ⟨3, ![a, b, c]⟩) zero3 h X

/-- The two blocks of a tile of results make the results. -/
theorem out_canon (E : ℕ → ℕ → Prop) (s : ℕ → ℕ → ℕ → ℝ) (p q : FVec Ideal S1x32x32x128 .f32)
    (hp : p = lift fun v => softOf E (s (v 3)) (v 1) (v 2)) (hq : q = lift fun v => edgeOf E (s (v 3)) (v 1) (v 2))
    (y : S2x32x32x128.Idx) :
    View.canon (Val := Elt Ideal) (e := .f32) [⟨Rect.unit (s := S2x32x32x128) ![1, 0, 0, 0] S1x32x32x128.size inb_S2x32x32x128_S1x32x32x128_1_0_0_0, p⟩,
      ⟨Rect.unit (s := S2x32x32x128) ![0, 0, 0, 0] S1x32x32x128.size inb_S2x32x32x128_S1x32x32x128_0_0_0_0, q⟩] y
      = ((outOf E (s (co y 3)) (co y 0) (co y 1) (co y 2) : ℝ) : EReal) := by
  subst hp hq
  refine canon_of (z := (lift fun v => outOf E (s (v 3)) (v 0) (v 1) (v 2) : FVec Ideal S2x32x32x128 .f32)) y _ ?_ ?_
  · intro r hr x
    simp only [List.mem_cons, List.not_mem_nil, or_false] at hr
    rcases hr with rfl | rfl
    · refine part_of (s := S2x32x32x128) ![1, 0, 0, 0] S1x32x32x128.size inb_S2x32x32x128_S1x32x32x128_1_0_0_0
        (fun v => softOf E (s (v 3)) (v 1) (v 2)) (fun v => outOf E (s (v 3)) (v 0) (v 1) (v 2)) (fun v hv => ?_) x
      have h0 : v 0 < 1 := hv 0
      have : v 0 = 0 := by omega
      show _ = outOf E (s (v 3)) (v 0 + 1) (v 1) (v 2)
      rw [this]; rfl
    · refine part_of (s := S2x32x32x128) ![0, 0, 0, 0] S1x32x32x128.size inb_S2x32x32x128_S1x32x32x128_0_0_0_0
        (fun v => edgeOf E (s (v 3)) (v 1) (v 2)) (fun v => outOf E (s (v 3)) (v 0) (v 1) (v 2)) (fun v hv => ?_) x
      have h0 : v 0 < 1 := hv 0
      have : v 0 = 0 := by omega
      show _ = outOf E (s (v 3)) (v 0) (v 1) (v 2)
      rw [this]; rfl
  · have h0 : (y 0).val < 2 := (y 0).isLt
    have h1 : (y 1).val < 32 := (y 1).isLt
    have h2 : (y 2).val < 32 := (y 2).isLt
    have h3 : (y 3).val < 128 := (y 3).isLt
    by_cases h : (y 0).val = 0
    · refine ⟨_, List.mem_cons_of_mem _ List.mem_cons_self,
        (Rect.mem_set_unit (inb := inb_S2x32x32x128_S1x32x32x128_0_0_0_0)).mpr fun a => ?_⟩
      fin_cases a
      · exact ⟨by simp, by show (y 0).val < 0 + 1; omega⟩
      · exact ⟨by simp, by show (y 1).val < 0 + 32; omega⟩
      · exact ⟨by simp, by show (y 2).val < 0 + 32; omega⟩
      · exact ⟨by simp, by show (y 3).val < 0 + 128; omega⟩
    · refine ⟨_, List.mem_cons_self, (Rect.mem_set_unit (inb := inb_S2x32x32x128_S1x32x32x128_1_0_0_0)).mpr fun a => ?_⟩
      fin_cases a
      · exact ⟨by show 1 ≤ (y 0).val; omega, by show (y 0).val < 1 + 1; omega⟩
      · exact ⟨by simp, by show (y 1).val < 0 + 32; omega⟩
      · exact ⟨by simp, by show (y 2).val < 0 + 32; omega⟩
      · exact ⟨by simp, by show (y 3).val < 0 + 128; omega⟩

end Cert.Canny
-- ==== Proof.First.lean ====
/-
  The first point of the grid: what the body stores into the scratch and into
  its output, as the composition of the parts of the computation.
-/
module

public import proofs.«01_k».proof.Proof.Gen.KernelIdeal.Frame
public import proofs.«01_k».proof.Proof.Compose

@[expose] public section

set_option maxHeartbeats 4000000
set_option maxRecDepth 100000

noncomputable section

namespace Cert.Canny

open Idealize.ShloMosaic Idealize.SL Idealize.SL.Sem Cert.KernelIdeal Cert.KernelIdeal.Gen

variable (c : Dev nD) (i : grid0.Coords) (arg1 : Memref sig .tc .vmem S32x32x128 .f32) (harg1 : arg1.IsWhole) (arg2 : Memref sig .tc .vmem S32x32x1 .f32) (harg2 : arg2.IsWhole) (arg3 : Memref sig .tc .smem S9 .f32) (harg3 : arg3.IsWhole) (arg4 : Memref sig .tc .smem S3 .f32) (harg4 : arg4.IsWhole) (arg5 : Memref sig .tc .smem S3 .f32) (harg5 : arg5.IsWhole) (arg6 : Memref sig .tc .vmem S2x32x32x128 .f32) (harg6 : arg6.IsWhole) (arg7 : Memref sig .tc .vmem S32x32x128 .f32) (harg7 : arg7.IsWhole) (arg8 : Memref sig .tc .vmem S5x32x32 .f32) (harg8 : arg8.IsWhole) (arg9 : Memref sig .tc .vmem S2x32x32 .f32) (harg9 : arg9.IsWhole) (hc0 : cond0_0 i) (hc1 : cond0_1 i)
    (x0 : Vec Ideal S32x32x128 .f32) (x1 : Vec Ideal S32x32x1 .f32) (x2 : Vec Ideal S9 .f32) (x3 : Vec Ideal S3 .f32) (x4 : Vec Ideal S3 .f32)

/-- A tap of the filter. -/
def firstG (k : ℕ) (h : ∀ a, (![k] : Fin 1 → ℕ) a + S1.size a ≤ S9.size a) : Elt Ideal .f32 :=
  View.readAt (Elt Ideal) arg3.view (Rect.unit (s := S9) ![k] S1.size h).toLoadRect (harg3.unread x2) (Shape.Idx.first (show 0 < S1.numel by decide))

/-- The five matrices. -/
def firstMats : List (View.Piece (Elt Ideal) S5x32x32 .f32) :=
  [⟨Rect.unit (s := S5x32x32) ![4, 0, 0] S1x32x32.size inb_S5x32x32_S1x32x32_4_0_0, k0_pay18 (F := Ideal) (k0_pay12 k0_pay3)⟩,
    ⟨Rect.unit (s := S5x32x32) ![3, 0, 0] S1x32x32.size inb_S5x32x32_S1x32x32_3_0_0, k0_pay17 (F := Ideal) (k0_pay16 k0_pay3)⟩,
    ⟨Rect.unit (s := S5x32x32) ![2, 0, 0] S1x32x32.size inb_S5x32x32_S1x32x32_2_0_0,
      k0_pay15 (F := Ideal) (k0_pay7 rowNo colNo) (k0_pay8 rowNo colNo) (k0_pay9 rowNo colNo)⟩,
    ⟨Rect.unit (s := S5x32x32) ![1, 0, 0] S1x32x32.size inb_S5x32x32_S1x32x32_1_0_0,
      k0_pay14 (F := Ideal) (k0_pay10 rowNo colNo) (k0_pay11 rowNo colNo)⟩,
    ⟨Rect.unit (s := S5x32x32) ![0, 0, 0] S1x32x32.size inb_S5x32x32_S1x32x32_0_0_0,
      k0_pay13 (F := Ideal) (k0_pay6 k0_pay3 (k0_pay4 (firstG arg3 harg3 x2 0 inb_S9_S1_0) (firstG arg3 harg3 x2 1 inb_S9_S1_1) (firstG arg3 harg3 x2 2 inb_S9_S1_2) (firstG arg3 harg3 x2 3 inb_S9_S1_3) (firstG arg3 harg3 x2 4 inb_S9_S1_4)) k0_pay5 (firstG arg3 harg3 x2 5 inb_S9_S1_5) (firstG arg3 harg3 x2 6 inb_S9_S1_6) (firstG arg3 harg3 x2 7 inb_S9_S1_7) (firstG arg3 harg3 x2 8 inb_S9_S1_8))⟩]

/-- One half over the smoothed mask, from the mask. -/
def normT (k : FVec Ideal S32x32x1 .f32) (g4 g5 g6 g7 g8 : Elt Ideal .f32) : FVec Ideal S32x32x1 .f32 :=
  k0_pay20 (k0_pay19 k g4 g5 g6 g7 g8) g4 g5 g6 g7 g8

/-- That, times the smoothed ones. -/
def onesT (q : FVec Ideal S32x32x1 .f32) (g4 g5 g6 g7 g8 : Elt Ideal .f32) : FVec Ideal S1x32x32 .f32 :=
  let p21 := k0_pay21 (F := Ideal)
  let p22 := k0_pay22 (F := Ideal) g4
  let p23 := k0_pay23 (F := Ideal) g5
  k0_pay29 q (k0_pay24 p21 p22 p23 g6 g7 g8) (k0_pay25 p21 p22 p23 g6 g7 g8 g4 g5 g6 g7) g8 (k0_pay26 p21 p22 p23 g6 g7 g8)

/-- The two norms. -/
def firstQ : FVec Ideal S32x32x1 .f32 :=
  normT (View.readAt (Elt Ideal) arg2.view (Rect.unit (s := S32x32x1) ![0, 0, 0] S32x32x1.size inb_S32x32x1_S32x32x1_0_0_0).toLoadRect (harg2.unread x1)) (firstG arg3 harg3 x2 4 inb_S9_S1_4) (firstG arg3 harg3 x2 5 inb_S9_S1_5) (firstG arg3 harg3 x2 6 inb_S9_S1_6) (firstG arg3 harg3 x2 7 inb_S9_S1_7) (firstG arg3 harg3 x2 8 inb_S9_S1_8)
def firstNorms : List (View.Piece (Elt Ideal) S2x32x32 .f32) :=
  [⟨Rect.unit (s := S2x32x32) ![1, 0, 0] S1x32x32.size inb_S2x32x32_S1x32x32_1_0_0,
      onesT (firstQ arg2 harg2 arg3 harg3 x1 x2) (firstG arg3 harg3 x2 4 inb_S9_S1_4) (firstG arg3 harg3 x2 5 inb_S9_S1_5) (firstG arg3 harg3 x2 6 inb_S9_S1_6) (firstG arg3 harg3 x2 7 inb_S9_S1_7) (firstG arg3 harg3 x2 8 inb_S9_S1_8)⟩,
    ⟨Rect.unit (s := S2x32x32) ![0, 0, 0] S1x32x32.size inb_S2x32x32_S1x32x32_0_0_0,
      k0_pay28 (firstQ arg2 harg2 arg3 harg3 x1 x2)⟩]

/-- The matrices and the norms, read back. -/
def firstM (k : ℕ) (h : ∀ a, (![k, 0, 0] : Fin 3 → ℕ) a + S1x32x32.size a ≤ S5x32x32.size a) : FVec Ideal S1x32x32 .f32 :=
  arg8.view.readCov (firstMats arg3 harg3 x2) (Rect.unit (s := S5x32x32) ![k, 0, 0] S1x32x32.size h).toLoadRect
def firstN (k : ℕ) (h : ∀ a, (![k, 0, 0] : Fin 3 → ℕ) a + S1x32x32.size a ≤ S2x32x32.size a) : FVec Ideal S1x32x32 .f32 :=
  arg9.view.readCov (firstNorms arg2 harg2 arg3 harg3 x1 x2) (Rect.unit (s := S2x32x32) ![k, 0, 0] S1x32x32.size h).toLoadRect

/-- The smoothed tile of the first point. -/
def firstX : FVec Ideal S32x32x128 .f32 :=
  xsT (View.readAt (Elt Ideal) arg1.view (Rect.unit ![0, 0, 0] S32x32x128.size inb_S32x32x128_S32x32x128_0_0_0).toLoadRect (harg1.unread x0))
    (firstG arg3 harg3 x2 4 inb_S9_S1_4) (firstG arg3 harg3 x2 5 inb_S9_S1_5) (firstG arg3 harg3 x2 6 inb_S9_S1_6) (firstG arg3 harg3 x2 7 inb_S9_S1_7) (firstG arg3 harg3 x2 8 inb_S9_S1_8)
    (firstM arg3 harg3 arg8 x2 0 inb_S5x32x32_S1x32x32_0_0_0) (firstN arg2 harg2 arg3 harg3 arg9 x1 x2 0 inb_S2x32x32_S1x32x32_0_0_0) (firstN arg2 harg2 arg3 harg3 arg9 x1 x2 1 inb_S2x32x32_S1x32x32_1_0_0)

/-- The flags. -/
def firstE : List (View.Piece (Elt Ideal) S32x32x128 .f32) :=
  [⟨Rect.unit (s := S32x32x128) ![0, 0, 0] S32x32x128.size inb_S32x32x128_S32x32x128_0_0_0,
    flagT (gradIT (firstM arg3 harg3 arg8 x2 2 inb_S5x32x32_S1x32x32_2_0_0) (firstX arg1 harg1 arg2 harg2 arg3 harg3 arg8 arg9 x0 x1 x2)) (gradJT (firstM arg3 harg3 arg8 x2 1 inb_S5x32x32_S1x32x32_1_0_0) (firstX arg1 harg1 arg2 harg2 arg3 harg3 arg8 arg9 x0 x1 x2))
      (k0_pay27 (F := Ideal) (View.readAt (Elt Ideal) arg2.view (Rect.unit (s := S32x32x1) ![0, 0, 0] S32x32x1.size inb_S32x32x1_S32x32x1_0_0_0).toLoadRect (harg2.unread x1)))⟩]

theorem first_mats : (kernelRun0_A (F := Ideal) c i arg1 harg1 arg2 harg2 arg3 harg3 arg4 harg4 arg5 harg5 arg6 harg6 arg7 harg7 arg8 harg8 arg9 harg9 hc0 hc1 x0 x1 x2 x3 x4).2.2.1 = firstMats arg3 harg3 x2 := by
  sl_kernel_rfl

theorem first_norms : (kernelRun0_A (F := Ideal) c i arg1 harg1 arg2 harg2 arg3 harg3 arg4 harg4 arg5 harg5 arg6 harg6 arg7 harg7 arg8 harg8 arg9 harg9 hc0 hc1 x0 x1 x2 x3 x4).2.2.2.1 = firstNorms arg2 harg2 arg3 harg3 x1 x2 := by
  sl_kernel_rfl

theorem first_flags : (kernelRun0_A (F := Ideal) c i arg1 harg1 arg2 harg2 arg3 harg3 arg4 harg4 arg5 harg5 arg6 harg6 arg7 harg7 arg8 harg8 arg9 harg9 hc0 hc1 x0 x1 x2 x3 x4).2.1 = firstE arg1 harg1 arg2 harg2 arg3 harg3 arg8 arg9 x0 x1 x2 := by
  sl_kernel_rfl

theorem first_pieces :
    (kernelRun0_A (F := Ideal) c i arg1 harg1 arg2 harg2 arg3 harg3 arg4 harg4 arg5 harg5 arg6 harg6 arg7 harg7 arg8 harg8 arg9 harg9 hc0 hc1 x0 x1 x2 x3 x4).1 =
    [⟨Rect.unit (s := S2x32x32x128) ![1, 0, 0, 0] S1x32x32x128.size inb_S2x32x32x128_S1x32x32x128_1_0_0_0,
        softOut (firstM arg3 harg3 arg8 x2 1 inb_S5x32x32_S1x32x32_1_0_0) (firstM arg3 harg3 arg8 x2 2 inb_S5x32x32_S1x32x32_2_0_0) (firstM arg3 harg3 arg8 x2 3 inb_S5x32x32_S1x32x32_3_0_0) (firstM arg3 harg3 arg8 x2 4 inb_S5x32x32_S1x32x32_4_0_0)
          (arg7.view.readCov (firstE arg1 harg1 arg2 harg2 arg3 harg3 arg8 arg9 x0 x1 x2) (Rect.unit (s := S32x32x128) ![0, 0, 0] S32x32x128.size inb_S32x32x128_S32x32x128_0_0_0).toLoadRect) (firstX arg1 harg1 arg2 harg2 arg3 harg3 arg8 arg9 x0 x1 x2)⟩,
      ⟨Rect.unit (s := S2x32x32x128) ![0, 0, 0, 0] S1x32x32x128.size inb_S2x32x32x128_S1x32x32x128_0_0_0_0,
        edgeOut (firstM arg3 harg3 arg8 x2 1 inb_S5x32x32_S1x32x32_1_0_0) (firstM arg3 harg3 arg8 x2 2 inb_S5x32x32_S1x32x32_2_0_0) (firstM arg3 harg3 arg8 x2 3 inb_S5x32x32_S1x32x32_3_0_0) (firstM arg3 harg3 arg8 x2 4 inb_S5x32x32_S1x32x32_4_0_0)
          (arg7.view.readCov (firstE arg1 harg1 arg2 harg2 arg3 harg3 arg8 arg9 x0 x1 x2) (Rect.unit (s := S32x32x128) ![0, 0, 0] S32x32x128.size inb_S32x32x128_S32x32x128_0_0_0).toLoadRect) (firstX arg1 harg1 arg2 harg2 arg3 harg3 arg8 arg9 x0 x1 x2)⟩] := by
  sl_kernel_rfl

end Cert.Canny
-- ==== Proof.FirstValue.lean ====
/-
  What the first point leaves in the scratch and in its output.
-/
module

public import proofs.«01_k».proof.Proof.Load
public import proofs.«01_k».proof.Proof.First

@[expose] public section

set_option maxHeartbeats 1000000

noncomputable section

namespace Cert.Canny

open Idealize.ShloMosaic Idealize.SL Idealize.SL.Sem Cert.KernelIdeal Cert.KernelIdeal.Gen

variable (c : Dev nD) (i : grid0.Coords) (arg1 : Memref sig .tc .vmem S32x32x128 .f32) (harg1 : arg1.IsWhole) (arg2 : Memref sig .tc .vmem S32x32x1 .f32) (harg2 : arg2.IsWhole) (arg3 : Memref sig .tc .smem S9 .f32) (harg3 : arg3.IsWhole) (arg4 : Memref sig .tc .smem S3 .f32) (harg4 : arg4.IsWhole) (arg5 : Memref sig .tc .smem S3 .f32) (harg5 : arg5.IsWhole) (arg6 : Memref sig .tc .vmem S2x32x32x128 .f32) (harg6 : arg6.IsWhole) (arg7 : Memref sig .tc .vmem S32x32x128 .f32) (harg7 : arg7.IsWhole) (arg8 : Memref sig .tc .vmem S5x32x32 .f32) (harg8 : arg8.IsWhole) (arg9 : Memref sig .tc .vmem S2x32x32 .f32) (harg9 : arg9.IsWhole) (hc0 : cond0_0 i) (hc1 : cond0_1 i)
    (x3 : Vec Ideal S3 .f32) (x4 : Vec Ideal S3 .f32)
    (g : ℕ → ℝ) (m : ℕ → ℕ → EReal) (f : ℕ → ℕ → ℕ → ℝ)

/-- A block of one matrix, in the stack. -/
theorem lead (k : ℕ) (A : ℕ → ℕ → ℕ → ℝ) (v : ℕ → ℕ) (h : v 0 < 1) : A k (v 1) (v 2) = A (v 0 + k) (v 1) (v 2) := by
  rw [show v 0 = 0 by omega, Nat.zero_add]

theorem first_tap (k : ℕ) (h) : firstG arg3 harg3 (lift fun v => g (v 0) : FVec Ideal S9 .f32) k h = ((g k : ℝ) : EReal) := load_tap harg3 g k h _

include c i arg1 harg1 arg2 harg2 arg3 harg3 arg4 harg4 arg5 harg5 arg6 harg6 arg7 harg7 arg8 harg8 arg9 harg9 hc0 hc1 x3 x4 g m f in
/-- The five matrices. -/
theorem mats_canon : View.canon (firstMats arg3 harg3 (lift fun v => g (v 0) : FVec Ideal S9 .f32)) = T (mats g) := by
  funext y
  refine canon_of (z := (T (mats g) : FVec Ideal S5x32x32 .f32)) y _ ?_ ?_
  · intro r hr x
    unfold firstMats at hr
    simp only [List.mem_cons, List.not_mem_nil, or_false] at hr
    rw [first_tap, first_tap, first_tap, first_tap, first_tap, first_tap, first_tap, first_tap, first_tap,
      storeG, storeD, storeS, storeP, storeM] at hr
    rcases hr with rfl | rfl | rfl | rfl | rfl
    · exact part_of (s := S5x32x32) ![4, 0, 0] S1x32x32.size inb_S5x32x32_S1x32x32_4_0_0
        (fun v => matM (v 1) (v 2)) (fun v => mats g (v 0) (v 1) (v 2)) (fun v hv => lead 4 (mats g) v (hv 0)) x
    · exact part_of (s := S5x32x32) ![3, 0, 0] S1x32x32.size inb_S5x32x32_S1x32x32_3_0_0
        (fun v => matP (v 1) (v 2)) (fun v => mats g (v 0) (v 1) (v 2)) (fun v hv => lead 3 (mats g) v (hv 0)) x
    · exact part_of (s := S5x32x32) ![2, 0, 0] S1x32x32.size inb_S5x32x32_S1x32x32_2_0_0
        (fun v => matS (v 1) (v 2)) (fun v => mats g (v 0) (v 1) (v 2)) (fun v hv => lead 2 (mats g) v (hv 0)) x
    · exact part_of (s := S5x32x32) ![1, 0, 0] S1x32x32.size inb_S5x32x32_S1x32x32_1_0_0
        (fun v => matD (v 1) (v 2)) (fun v => mats g (v 0) (v 1) (v 2)) (fun v hv => lead 1 (mats g) v (hv 0)) x
    · exact part_of (s := S5x32x32) ![0, 0, 0] S1x32x32.size inb_S5x32x32_S1x32x32_0_0_0
        (fun v => (bandG g) (v 1) (v 2)) (fun v => mats g (v 0) (v 1) (v 2)) (fun v hv => lead 0 (mats g) v (hv 0)) x
  · have h := scover0_A_1 c i arg1 harg1 arg2 harg2 arg3 harg3 arg4 harg4 arg5 harg5 arg6 harg6 arg7 harg7 arg8 harg8 arg9 harg9 hc0 hc1 (L f : FVec Ideal S32x32x128 .f32) (TW fun i j _ => m i j : FVec Ideal S32x32x1 .f32) (lift fun v => g (v 0) : FVec Ideal S9 .f32) x3 x4 y
    rw [first_mats] at h
    exact h

theorem mats_left : sout0_A_1 (F := Ideal) c i arg1 harg1 arg2 harg2 arg3 harg3 arg4 harg4 arg5 harg5 arg6 harg6 arg7 harg7 arg8 harg8 arg9 harg9 hc0 hc1 (L f : FVec Ideal S32x32x128 .f32) (TW fun i j _ => m i j : FVec Ideal S32x32x1 .f32) (lift fun v => g (v 0) : FVec Ideal S9 .f32) x3 x4 = T (mats g) := by
  funext y
  unfold sout0_A_1
  rw [View.read_writes_junk_apply_eq_canon, first_mats, mats_canon c i arg1 harg1 arg2 harg2 arg3 harg3 arg4 harg4 arg5 harg5 arg6 harg6 arg7 harg7 arg8 harg8 arg9 harg9 hc0 hc1 x3 x4 g m f]

theorem firstQ_T (hs : ∀ k < 9, g k = g (8 - k)) (hg : ∀ k, 0 ≤ g k) (hm : ∀ i j, 0 ≤ m i j) :
    firstQ arg2 harg2 arg3 harg3 (TW fun i j _ => m i j : FVec Ideal S32x32x1 .f32) (lift fun v => g (v 0) : FVec Ideal S9 .f32) = T fun i j _ => 1 / 2 * recip g m i j := by
  unfold firstQ normT
  rw [first_tap, first_tap, first_tap, first_tap, first_tap, load_all harg2, maskI, maskJ hs hg hm]

include c i arg1 harg1 arg2 harg2 arg3 harg3 arg4 harg4 arg5 harg5 arg6 harg6 arg7 harg7 arg8 harg8 arg9 harg9 hc0 hc1 x3 x4 g m f in
/-- The two norms. -/
theorem norms_canon (hs : ∀ k < 9, g k = g (8 - k)) (hg : ∀ k, 0 ≤ g k) (hm : ∀ i j, 0 ≤ m i j) :
    View.canon (firstNorms arg2 harg2 arg3 harg3 (TW fun i j _ => m i j : FVec Ideal S32x32x1 .f32) (lift fun v => g (v 0) : FVec Ideal S9 .f32)) = T (norms g m) := by
  funext y
  refine canon_of (z := (T (norms g m) : FVec Ideal S2x32x32 .f32)) y _ ?_ ?_
  · intro r hr x
    unfold firstNorms onesT at hr
    simp only [List.mem_cons, List.not_mem_nil, or_false] at hr
    rw [firstQ_T _ _ _ _ g m hs hg hm, first_tap, first_tap, first_tap, first_tap, first_tap, onesJ hs, storeN] at hr
    rcases hr with rfl | rfl
    · exact part_of (s := S2x32x32) ![1, 0, 0] S1x32x32.size inb_S2x32x32_S1x32x32_1_0_0
        (fun v => norms g m 1 (v 1) (v 2)) (fun v => norms g m (v 0) (v 1) (v 2)) (fun v hv => lead 1 (norms g m) v (hv 0)) x
    · exact part_of (s := S2x32x32) ![0, 0, 0] S1x32x32.size inb_S2x32x32_S1x32x32_0_0_0
        (fun v => norms g m 0 (v 1) (v 2)) (fun v => norms g m (v 0) (v 1) (v 2)) (fun v hv => lead 0 (norms g m) v (hv 0)) x
  · have h := scover0_A_2 c i arg1 harg1 arg2 harg2 arg3 harg3 arg4 harg4 arg5 harg5 arg6 harg6 arg7 harg7 arg8 harg8 arg9 harg9 hc0 hc1 (L f : FVec Ideal S32x32x128 .f32) (TW fun i j _ => m i j : FVec Ideal S32x32x1 .f32) (lift fun v => g (v 0) : FVec Ideal S9 .f32) x3 x4 y
    rw [first_norms] at h
    exact h

theorem norms_left (hs : ∀ k < 9, g k = g (8 - k)) (hg : ∀ k, 0 ≤ g k) (hm : ∀ i j, 0 ≤ m i j) :
    sout0_A_2 (F := Ideal) c i arg1 harg1 arg2 harg2 arg3 harg3 arg4 harg4 arg5 harg5 arg6 harg6 arg7 harg7 arg8 harg8 arg9 harg9 hc0 hc1 (L f : FVec Ideal S32x32x128 .f32) (TW fun i j _ => m i j : FVec Ideal S32x32x1 .f32) (lift fun v => g (v 0) : FVec Ideal S9 .f32) x3 x4 = T (norms g m) := by
  funext y
  unfold sout0_A_2
  rw [View.read_writes_junk_apply_eq_canon, first_norms, norms_canon c i arg1 harg1 arg2 harg2 arg3 harg3 arg4 harg4 arg5 harg5 arg6 harg6 arg7 harg7 arg8 harg8 arg9 harg9 hc0 hc1 x3 x4 g m f hs hg hm]

include c i arg1 harg1 arg2 harg2 arg3 harg3 arg4 harg4 arg5 harg5 arg6 harg6 arg7 harg7 arg8 harg8 arg9 harg9 hc0 hc1 x3 x4 g m f in
theorem firstX_L (hs : ∀ k < 9, g k = g (8 - k)) (hg : ∀ k, 0 ≤ g k) (hm : ∀ i j, 0 ≤ m i j) :
    firstX arg1 harg1 arg2 harg2 arg3 harg3 arg8 arg9 (L f : FVec Ideal S32x32x128 .f32) (TW fun i j _ => m i j : FVec Ideal S32x32x1 .f32) (lift fun v => g (v 0) : FVec Ideal S9 .f32) = L fun l => smooth g m (f l) := by
  unfold firstX firstM firstN
  rw [first_tap, first_tap, first_tap, first_tap, first_tap, load_all harg1,
    cov_block _ _ _ (mats_canon c i arg1 harg1 arg2 harg2 arg3 harg3 arg4 harg4 arg5 harg5 arg6 harg6 arg7 harg7 arg8 harg8 arg9 harg9 hc0 hc1 x3 x4 g m f), cov_block _ _ _ (norms_canon c i arg1 harg1 arg2 harg2 arg3 harg3 arg4 harg4 arg5 harg5 arg6 harg6 arg7 harg7 arg8 harg8 arg9 harg9 hc0 hc1 x3 x4 g m f hs hg hm),
    cov_block _ _ _ (norms_canon c i arg1 harg1 arg2 harg2 arg3 harg3 arg4 harg4 arg5 harg5 arg6 harg6 arg7 harg7 arg8 harg8 arg9 harg9 hc0 hc1 x3 x4 g m f hs hg hm)]
  exact xsT_L hs m f

include c i arg1 harg1 arg2 harg2 arg3 harg3 arg4 harg4 arg5 harg5 arg6 harg6 arg7 harg7 arg8 harg8 arg9 harg9 hc0 hc1 x3 x4 g m f in
/-- The flags: the pixels of image 0 that are inside and have a gradient. -/
theorem flags_list (hs : ∀ k < 9, g k = g (8 - k)) (hg : ∀ k, 0 ≤ g k) (hm : ∀ i j, 0 ≤ m i j) :
    firstE arg1 harg1 arg2 harg2 arg3 harg3 arg8 arg9 (L f : FVec Ideal S32x32x128 .f32) (TW fun i j _ => m i j : FVec Ideal S32x32x1 .f32) (lift fun v => g (v 0) : FVec Ideal S9 .f32)
      = [⟨Rect.unit (s := S32x32x128) ![0, 0, 0] S32x32x128.size inb_S32x32x128_S32x32x128_0_0_0,
          L fun _ i j => flag (inner m (smooth g m (f 0)) i j)⟩] := by
  unfold firstE
  rw [firstX_L c i arg1 harg1 arg2 harg2 arg3 harg3 arg4 harg4 arg5 harg5 arg6 harg6 arg7 harg7 arg8 harg8 arg9 harg9 hc0 hc1 x3 x4 g m f hs hg hm]
  unfold firstM
  rw [cov_block _ _ _ (mats_canon c i arg1 harg1 arg2 harg2 arg3 harg3 arg4 harg4 arg5 harg5 arg6 harg6 arg7 harg7 arg8 harg8 arg9 harg9 hc0 hc1 x3 x4 g m f), cov_block _ _ _ (mats_canon c i arg1 harg1 arg2 harg2 arg3 harg3 arg4 harg4 arg5 harg5 arg6 harg6 arg7 harg7 arg8 harg8 arg9 harg9 hc0 hc1 x3 x4 g m f), load_all harg2]
  rw [show mats g 1 = matD from rfl, show mats g 2 = matS from rfl, gradIT_L, gradJT_L]
  rw [flagT_L]

theorem flags_left (hs : ∀ k < 9, g k = g (8 - k)) (hg : ∀ k, 0 ≤ g k) (hm : ∀ i j, 0 ≤ m i j) :
    sout0_A_0 (F := Ideal) c i arg1 harg1 arg2 harg2 arg3 harg3 arg4 harg4 arg5 harg5 arg6 harg6 arg7 harg7 arg8 harg8 arg9 harg9 hc0 hc1 (L f : FVec Ideal S32x32x128 .f32) (TW fun i j _ => m i j : FVec Ideal S32x32x1 .f32) (lift fun v => g (v 0) : FVec Ideal S9 .f32) x3 x4 = L fun _ i j => flag (inner m (smooth g m (f 0)) i j) := by
  unfold sout0_A_0
  rw [first_flags, flags_list c i arg1 harg1 arg2 harg2 arg3 harg3 arg4 harg4 arg5 harg5 arg6 harg6 arg7 harg7 arg8 harg8 arg9 harg9 hc0 hc1 x3 x4 g m f hs hg hm]
  funext y
  rw [View.read_writes_junk_apply_eq_canon, View.canon_cons_unit_zero (S := S32x32x128) zero3]

theorem first_out (hs : ∀ k < 9, g k = g (8 - k)) (hg : ∀ k, 0 ≤ g k) (hm : ∀ i j, 0 ≤ m i j) :
    out0_A_5 (F := Ideal) c i arg1 harg1 arg2 harg2 arg3 harg3 arg4 harg4 arg5 harg5 arg6 harg6 arg7 harg7 arg8 harg8 arg9 harg9 hc0 hc1 (L f : FVec Ideal S32x32x128 .f32) (TW fun i j _ => m i j : FVec Ideal S32x32x1 .f32) (lift fun v => g (v 0) : FVec Ideal S9 .f32) x3 x4
      = (lift fun v => outOf (inner m (smooth g m (f 0))) (smooth g m (f (v 3))) (v 0) (v 1) (v 2) : FVec Ideal S2x32x32x128 .f32) := by
  funext y
  unfold out0_A_5
  rw [View.read_writes_junk_apply_eq_canon, first_pieces, flags_list c i arg1 harg1 arg2 harg2 arg3 harg3 arg4 harg4 arg5 harg5 arg6 harg6 arg7 harg7 arg8 harg8 arg9 harg9 hc0 hc1 x3 x4 g m f hs hg hm, firstX_L c i arg1 harg1 arg2 harg2 arg3 harg3 arg4 harg4 arg5 harg5 arg6 harg6 arg7 harg7 arg8 harg8 arg9 harg9 hc0 hc1 x3 x4 g m f hs hg hm,
    View.readCov_unit_zero (S := S32x32x128) _ zero3]
  unfold firstM
  refine (out_canon (inner m (smooth g m (f 0))) (fun l => smooth g m (f l)) _ _ ?_ ?_ y).trans rfl
  · rw [cov_block _ _ _ (mats_canon c i arg1 harg1 arg2 harg2 arg3 harg3 arg4 harg4 arg5 harg5 arg6 harg6 arg7 harg7 arg8 harg8 arg9 harg9 hc0 hc1 x3 x4 g m f), cov_block _ _ _ (mats_canon c i arg1 harg1 arg2 harg2 arg3 harg3 arg4 harg4 arg5 harg5 arg6 harg6 arg7 harg7 arg8 harg8 arg9 harg9 hc0 hc1 x3 x4 g m f),
      cov_block _ _ _ (mats_canon c i arg1 harg1 arg2 harg2 arg3 harg3 arg4 harg4 arg5 harg5 arg6 harg6 arg7 harg7 arg8 harg8 arg9 harg9 hc0 hc1 x3 x4 g m f), cov_block _ _ _ (mats_canon c i arg1 harg1 arg2 harg2 arg3 harg3 arg4 harg4 arg5 harg5 arg6 harg6 arg7 harg7 arg8 harg8 arg9 harg9 hc0 hc1 x3 x4 g m f)]
    exact softOut_L _ _
  · rw [cov_block _ _ _ (mats_canon c i arg1 harg1 arg2 harg2 arg3 harg3 arg4 harg4 arg5 harg5 arg6 harg6 arg7 harg7 arg8 harg8 arg9 harg9 hc0 hc1 x3 x4 g m f), cov_block _ _ _ (mats_canon c i arg1 harg1 arg2 harg2 arg3 harg3 arg4 harg4 arg5 harg5 arg6 harg6 arg7 harg7 arg8 harg8 arg9 harg9 hc0 hc1 x3 x4 g m f),
      cov_block _ _ _ (mats_canon c i arg1 harg1 arg2 harg2 arg3 harg3 arg4 harg4 arg5 harg5 arg6 harg6 arg7 harg7 arg8 harg8 arg9 harg9 hc0 hc1 x3 x4 g m f), cov_block _ _ _ (mats_canon c i arg1 harg1 arg2 harg2 arg3 harg3 arg4 harg4 arg5 harg5 arg6 harg6 arg7 harg7 arg8 harg8 arg9 harg9 hc0 hc1 x3 x4 g m f)]
    exact edgeOut_L _ _

end Cert.Canny
-- ==== Proof.Later.lean ====
/-
  A later point of the grid: what the body stores, as the composition of the
  parts of the computation.
-/
module

public import proofs.«01_k».proof.Proof.Gen.KernelIdeal.Frame
public import proofs.«01_k».proof.Proof.Compose

@[expose] public section

set_option maxHeartbeats 4000000
set_option maxRecDepth 100000

noncomputable section

namespace Cert.Canny

open Idealize.ShloMosaic Idealize.SL Idealize.SL.Sem Cert.KernelIdeal Cert.KernelIdeal.Gen

variable (c : Dev nD) (i : grid0.Coords) (arg1 : Memref sig .tc .vmem S32x32x128 .f32) (harg1 : arg1.IsWhole) (arg2 : Memref sig .tc .vmem S32x32x1 .f32) (harg2 : arg2.IsWhole) (arg3 : Memref sig .tc .smem S9 .f32) (harg3 : arg3.IsWhole) (arg4 : Memref sig .tc .smem S3 .f32) (harg4 : arg4.IsWhole) (arg5 : Memref sig .tc .smem S3 .f32) (harg5 : arg5.IsWhole) (arg6 : Memref sig .tc .vmem S2x32x32x128 .f32) (harg6 : arg6.IsWhole) (arg7 : Memref sig .tc .vmem S32x32x128 .f32) (harg7 : arg7.IsWhole) (arg8 : Memref sig .tc .vmem S5x32x32 .f32) (harg8 : arg8.IsWhole) (arg9 : Memref sig .tc .vmem S2x32x32 .f32) (harg9 : arg9.IsWhole) (hc0 : ¬cond0_0 i) (hc1 : ¬cond0_1 i)
    (x0 : Vec Ideal S32x32x128 .f32) (x1 : Vec Ideal S32x32x1 .f32) (x2 : Vec Ideal S9 .f32) (x3 : Vec Ideal S3 .f32) (x4 : Vec Ideal S3 .f32) (xs0 : Vec Ideal S32x32x128 .f32) (xs1 : Vec Ideal S5x32x32 .f32) (xs2 : Vec Ideal S2x32x32 .f32)

/-- The smoothed tile of a later point. -/
def laterX : FVec Ideal S32x32x128 .f32 :=
  xsT (View.readAt (Elt Ideal) arg1.view (Rect.unit ![0, 0, 0] S32x32x128.size inb_S32x32x128_S32x32x128_0_0_0).toLoadRect (harg1.unread x0))
    (View.readAt (Elt Ideal) arg3.view (Rect.unit (s := S9) ![4] S1.size inb_S9_S1_4).toLoadRect (harg3.unread x2) (Shape.Idx.first (by decide)))
    (View.readAt (Elt Ideal) arg3.view (Rect.unit (s := S9) ![5] S1.size inb_S9_S1_5).toLoadRect (harg3.unread x2) (Shape.Idx.first (by decide)))
    (View.readAt (Elt Ideal) arg3.view (Rect.unit (s := S9) ![6] S1.size inb_S9_S1_6).toLoadRect (harg3.unread x2) (Shape.Idx.first (by decide)))
    (View.readAt (Elt Ideal) arg3.view (Rect.unit (s := S9) ![7] S1.size inb_S9_S1_7).toLoadRect (harg3.unread x2) (Shape.Idx.first (by decide)))
    (View.readAt (Elt Ideal) arg3.view (Rect.unit (s := S9) ![8] S1.size inb_S9_S1_8).toLoadRect (harg3.unread x2) (Shape.Idx.first (by decide)))
    (View.readAt (Elt Ideal) arg8.view (Rect.unit (s := S5x32x32) ![0, 0, 0] S1x32x32.size inb_S5x32x32_S1x32x32_0_0_0).toLoadRect (harg8.unread xs1))
    (View.readAt (Elt Ideal) arg9.view (Rect.unit (s := S2x32x32) ![0, 0, 0] S1x32x32.size inb_S2x32x32_S1x32x32_0_0_0).toLoadRect (harg9.unread xs2))
    (View.readAt (Elt Ideal) arg9.view (Rect.unit (s := S2x32x32) ![1, 0, 0] S1x32x32.size inb_S2x32x32_S1x32x32_1_0_0).toLoadRect (harg9.unread xs2))

/-- One of the stored matrices. -/
def laterM (k : ℕ) (h : ∀ a, (![k, 0, 0] : Fin 3 → ℕ) a + S1x32x32.size a ≤ S5x32x32.size a) : FVec Ideal S1x32x32 .f32 :=
  View.readAt (Elt Ideal) arg8.view (Rect.unit (s := S5x32x32) ![k, 0, 0] S1x32x32.size h).toLoadRect (harg8.unread xs1)

/-- The stored flags. -/
def laterE : FVec Ideal S32x32x128 .f32 :=
  View.readAt (Elt Ideal) arg7.view (Rect.unit ![0, 0, 0] S32x32x128.size inb_S32x32x128_S32x32x128_0_0_0).toLoadRect (harg7.unread xs0)

theorem later_pieces :
    (kernelRun0_B (F := Ideal) c i arg1 harg1 arg2 harg2 arg3 harg3 arg4 harg4 arg5 harg5 arg6 harg6 arg7 harg7 arg8 harg8 arg9 harg9 hc0 hc1 x0 x1 x2 x3 x4 xs0 xs1 xs2).1 =
    [⟨Rect.unit (s := S2x32x32x128) ![1, 0, 0, 0] S1x32x32x128.size inb_S2x32x32x128_S1x32x32x128_1_0_0_0,
        softOut (laterM arg8 harg8 xs1 1 inb_S5x32x32_S1x32x32_1_0_0) (laterM arg8 harg8 xs1 2 inb_S5x32x32_S1x32x32_2_0_0)
          (laterM arg8 harg8 xs1 3 inb_S5x32x32_S1x32x32_3_0_0) (laterM arg8 harg8 xs1 4 inb_S5x32x32_S1x32x32_4_0_0)
          (laterE arg7 harg7 xs0) (laterX arg1 harg1 arg3 harg3 arg8 harg8 arg9 harg9 x0 x2 xs1 xs2)⟩,
      ⟨Rect.unit (s := S2x32x32x128) ![0, 0, 0, 0] S1x32x32x128.size inb_S2x32x32x128_S1x32x32x128_0_0_0_0,
        edgeOut (laterM arg8 harg8 xs1 1 inb_S5x32x32_S1x32x32_1_0_0) (laterM arg8 harg8 xs1 2 inb_S5x32x32_S1x32x32_2_0_0)
          (laterM arg8 harg8 xs1 3 inb_S5x32x32_S1x32x32_3_0_0) (laterM arg8 harg8 xs1 4 inb_S5x32x32_S1x32x32_4_0_0)
          (laterE arg7 harg7 xs0) (laterX arg1 harg1 arg3 harg3 arg8 harg8 arg9 harg9 x0 x2 xs1 xs2)⟩] := by
  unfold kernelRun0_B; dsimp only
  sl_kernel_rfl

end Cert.Canny
-- ==== Proof.LaterValue.lean ====
/-
  What a later point leaves in its output, when the scratch holds what the first point
  left there.
-/
module

public import proofs.«01_k».proof.Proof.Load
public import proofs.«01_k».proof.Proof.Later

@[expose] public section

set_option maxHeartbeats 1000000

noncomputable section

namespace Cert.Canny

open Idealize.ShloMosaic Idealize.SL Idealize.SL.Sem Cert.KernelIdeal Cert.KernelIdeal.Gen

variable (c : Dev nD) (i : grid0.Coords) (arg1 : Memref sig .tc .vmem S32x32x128 .f32) (harg1 : arg1.IsWhole) (arg2 : Memref sig .tc .vmem S32x32x1 .f32) (harg2 : arg2.IsWhole) (arg3 : Memref sig .tc .smem S9 .f32) (harg3 : arg3.IsWhole) (arg4 : Memref sig .tc .smem S3 .f32) (harg4 : arg4.IsWhole) (arg5 : Memref sig .tc .smem S3 .f32) (harg5 : arg5.IsWhole) (arg6 : Memref sig .tc .vmem S2x32x32x128 .f32) (harg6 : arg6.IsWhole) (arg7 : Memref sig .tc .vmem S32x32x128 .f32) (harg7 : arg7.IsWhole) (arg8 : Memref sig .tc .vmem S5x32x32 .f32) (harg8 : arg8.IsWhole) (arg9 : Memref sig .tc .vmem S2x32x32 .f32) (harg9 : arg9.IsWhole) (hc0 : ¬cond0_0 i) (hc1 : ¬cond0_1 i)
    (x1 : Vec Ideal S32x32x1 .f32) (x3 : Vec Ideal S3 .f32) (x4 : Vec Ideal S3 .f32)
    (g : ℕ → ℝ) (m : ℕ → ℕ → EReal) (f : ℕ → ℕ → ℕ → ℝ) (E : ℕ → ℕ → Prop)

theorem laterX_L (hs : ∀ k < 9, g k = g (8 - k)) :
    laterX arg1 harg1 arg3 harg3 arg8 harg8 arg9 harg9 (L f : FVec Ideal S32x32x128 .f32) (lift fun v => g (v 0) : FVec Ideal S9 .f32) (T (mats g) : FVec Ideal S5x32x32 .f32) (T (norms g m) : FVec Ideal S2x32x32 .f32) = L fun l => smooth g m (f l) := by
  unfold laterX
  rw [load_tap, load_tap, load_tap, load_tap, load_tap, load_all harg1, load_block harg8, load_block harg9, load_block harg9]
  exact xsT_L hs m f

theorem later_out (hs : ∀ k < 9, g k = g (8 - k)) :
    out0_B_5 (F := Ideal) c i arg1 harg1 arg2 harg2 arg3 harg3 arg4 harg4 arg5 harg5 arg6 harg6 arg7 harg7 arg8 harg8 arg9 harg9 hc0 hc1 (L f : FVec Ideal S32x32x128 .f32) x1 (lift fun v => g (v 0) : FVec Ideal S9 .f32) x3 x4 (L fun _ i j => flag (E i j) : FVec Ideal S32x32x128 .f32) (T (mats g) : FVec Ideal S5x32x32 .f32) (T (norms g m) : FVec Ideal S2x32x32 .f32)
      = (lift fun v => outOf E (smooth g m (f (v 3))) (v 0) (v 1) (v 2) : FVec Ideal S2x32x32x128 .f32) := by
  funext y
  unfold out0_B_5
  rw [View.read_writes_junk_apply_eq_canon, later_pieces]
  refine (out_canon E (fun l => smooth g m (f l)) _ _ ?_ ?_ y).trans rfl
  · rw [laterX_L _ _ _ _ _ _ _ _ g m f hs]
    unfold laterE laterM
    rw [load_all harg7, load_block harg8, load_block harg8, load_block harg8, load_block harg8]
    exact softOut_L _ E
  · rw [laterX_L _ _ _ _ _ _ _ _ g m f hs]
    unfold laterE laterM
    rw [load_all harg7, load_block harg8, load_block harg8, load_block harg8, load_block harg8]
    exact edgeOut_L _ E

end Cert.Canny
-- ==== Proof.Blocks.lean ====
/-
  What the kernel's windows show it: the images and the mask arrive transposed (pixels first, images last), the images in
  eight blocks of 128.
-/
module

public import proofs.«01_k».proof.Proof.Gen.KernelIdeal.Frame
public import proofs.«01_k».proof.Proof.FirstValue
public import proofs.«01_k».proof.Proof.LaterValue

@[expose] public section

set_option maxRecDepth 16384

noncomputable section

namespace Cert.Canny

open Idealize.ShloMosaic Idealize.ShloMosaic.TcCoe Idealize.SL Idealize.SL.Sem Cert.KernelIdeal Cert.KernelIdeal.Gen
open Idealize.ShloMosaic.Pipeline (Window)

/-- A transpose of real numbers, given where each result coordinate comes from. -/
theorem transpose_lift {s t : Shape} (perm : List (Fin s.rank)) (x y : (ℕ → ℕ) → ℝ) (h : s.Transposes perm t)
    (hk : ∀ j : t.Idx, ∃ k : s.Idx, (∀ b : Fin t.rank, (k perm[b.cast h.2.1]).val = (j b).val) ∧ x (co k) = y (co j)) :
    transpose t perm (lift x : FVec Ideal s .f32) h = lift y := by
  funext j
  obtain ⟨k, hk, hxy⟩ := hk j
  rw [transpose_apply perm _ h j k hk]
  show ((x (co k) : ℝ) : EReal) = _
  rw [hxy]; rfl

section
variable (m : (ℓ : Loc nD τ sig) → Buf (Elt Ideal) ℓ) (c : Dev nD) (x : ℕ → ℕ → ℕ → ℝ) (k : ℕ → ℕ → EReal) (g : ℕ → ℝ)

/-- The images as launched, as the kernel is entered: pixels first. -/
theorem V_images (h : m ((c : Thread nD τ).loc main_arg0) = (lift fun v => x (v 0) (v 2) (v 3) : FVec Ideal S1024x1x32x32 .f32)) :
    V m c main_v1 = (lift fun v => x (v 2) (v 0) (v 1) : FVec Ideal S32x32x1024 .f32) := by
  have e : V m c main_v1 = transpose S32x32x1024 [1, 2, 0] (shapeCast S1024x32x32 (m ((c : Thread nD τ).loc main_arg0) : FVec Ideal S1024x1x32x32 .f32)
      shapeCasts_S1024x1x32x32_S1024x32x32) transposes_S1024x32x32_S32x32x1024_1_2_0 := by
    show StableHlo.after hostOps0 _ (Proc.devRef .tc main_v1) = _
    after_results
    rfl
  rw [e, h, cast_drop1]
  refine transpose_lift _ _ _ _ fun j => ⟨ix3 (j 2) (j 0) (j 1), ?_, ?_⟩
  · intro b; match b with
    | ⟨0, _⟩ => rfl
    | ⟨1, _⟩ => rfl
    | ⟨2, _⟩ => rfl
  · rfl

theorem V_mask (h : m ((c : Thread nD τ).loc main_arg1) = (wide fun v => k (v 2) (v 3) : FVec Ideal S1x1x32x32 .f32)) :
    V m c main_v3 = (TW fun i j _ => k i j : FVec Ideal S32x32x1 .f32) := by
  have e : V m c main_v3 = transpose S32x32x1 [1, 2, 0] (shapeCast S1x32x32 (m ((c : Thread nD τ).loc main_arg1) : FVec Ideal S1x1x32x32 .f32)
      shapeCasts_S1x1x32x32_S1x32x32) transposes_S1x32x32_S32x32x1_1_2_0 := by
    show StableHlo.after hostOps0 _ (Proc.devRef .tc main_v3) = _
    after_results
    rfl
  rw [e, h]
  funext j
  rw [transpose_apply [1, 2, 0] _ transposes_S1x32x32_S32x32x1_1_2_0 j (ix3 (n0 := 1) (n1 := 32) (n2 := 32) (j 2) (j 0) (j 1)) (by
    intro b; match b with
    | ⟨0, _⟩ => rfl
    | ⟨1, _⟩ => rfl
    | ⟨2, _⟩ => rfl)]
  rw [shapeCast_apply _ shapeCasts_S1x1x32x32_S1x32x32 (ix3 (n0 := 1) (n1 := 32) (n2 := 32) (j 2) (j 0) (j 1))
    (ix4 (n0 := 1) (n1 := 1) (n2 := 32) (n3 := 32) (j 2) 0 (j 0) (j 1)) (by
      rw [Shape.rowMajor_val_three, Shape.rowMajor_val_four]; simp)]
  rfl

/-- Block `t` of the images. -/
theorem block_images (t : Fin cfg0.N)
    (h : m ((c : Thread nD τ).loc main_arg0) = (lift fun v => x (v 0) (v 2) (v 3) : FVec Ideal S1024x1x32x32 .f32)) :
    iblk m c 0 t = (L fun l => x (128 * t.val + l) : FVec Ideal S32x32x128 .f32) := by
  have e : iblk m c 0 t = fun y => V m c main_v1 ((win0_0.rect t).emb y) := rfl
  rw [e, V_images m c x h]
  funext y
  have h0 : (((win0_0.rect t).emb y) 0 : ℕ) = y 0 := by
    rw [Window.rect_emb_val win0_0 t y 0, show win0_0.index t 0 * win0_0.size 0 = 0 by rcases fin_N0 t with rfl | rfl | rfl | rfl | rfl | rfl | rfl | rfl <;> decide +kernel]
    exact Nat.zero_add _
  have h1 : (((win0_0.rect t).emb y) 1 : ℕ) = y 1 := by
    rw [Window.rect_emb_val win0_0 t y 1, show win0_0.index t 1 * win0_0.size 1 = 0 by rcases fin_N0 t with rfl | rfl | rfl | rfl | rfl | rfl | rfl | rfl <;> decide +kernel]
    exact Nat.zero_add _
  have h2 : (((win0_0.rect t).emb y) 2 : ℕ) = 128 * t.val + y 2 := by
    rw [Window.rect_emb_val win0_0 t y 2, show win0_0.index t 2 * win0_0.size 2 = 128 * t.val by rcases fin_N0 t with rfl | rfl | rfl | rfl | rfl | rfl | rfl | rfl <;> decide +kernel]
  show ((x (((win0_0.rect t).emb y) 2 : ℕ) (((win0_0.rect t).emb y) 0 : ℕ) (((win0_0.rect t).emb y) 1 : ℕ) : ℝ) : EReal) = _
  rw [h0, h1, h2]
  rfl

/-- The mask, whole at every point. -/
theorem block_mask (t : Fin cfg0.N)
    (h : m ((c : Thread nD τ).loc main_arg1) = (wide fun v => k (v 2) (v 3) : FVec Ideal S1x1x32x32 .f32)) :
    iblk m c 1 t = (TW fun i j _ => k i j : FVec Ideal S32x32x1 .f32) := by
  have e : iblk m c 1 t = fun y => V m c main_v3 ((win0_1.rect t).emb y) := rfl
  rw [e, V_mask m c k h]
  funext y
  have h0 : (((win0_1.rect t).emb y) 0 : ℕ) = y 0 := by
    rw [Window.rect_emb_val win0_1 t y 0, show win0_1.index t 0 * win0_1.size 0 = 0 by rcases fin_N0 t with rfl | rfl | rfl | rfl | rfl | rfl | rfl | rfl <;> decide +kernel]
    exact Nat.zero_add _
  have h1 : (((win0_1.rect t).emb y) 1 : ℕ) = y 1 := by
    rw [Window.rect_emb_val win0_1 t y 1, show win0_1.index t 1 * win0_1.size 1 = 0 by rcases fin_N0 t with rfl | rfl | rfl | rfl | rfl | rfl | rfl | rfl <;> decide +kernel]
    exact Nat.zero_add _
  show k (((win0_1.rect t).emb y) 0 : ℕ) (((win0_1.rect t).emb y) 1 : ℕ) = _
  rw [h0, h1]
  rfl

/-- The filter, whole at every point. -/
theorem block_filter (t : Fin cfg0.N)
    (h : m ((c : Thread nD τ).loc main_arg2) = (lift fun v => g (v 0) : FVec Ideal S9 .f32)) :
    iblk m c 2 t = (lift fun v => g (v 0) : FVec Ideal S9 .f32) := by
  have e : iblk m c 2 t = fun y => V m c main_arg2 ((win0_2.rect t).emb y) := rfl
  rw [e, V_main_arg2, h]
  funext y
  have h0 : (((win0_2.rect t).emb y) 0 : ℕ) = y 0 := by
    rw [Window.rect_emb_val win0_2 t y 0, show win0_2.index t 0 * win0_2.size 0 = 0 by rcases fin_N0 t with rfl | rfl | rfl | rfl | rfl | rfl | rfl | rfl <;> decide +kernel]
    exact Nat.zero_add _
  show ((g (((win0_2.rect t).emb y) 0 : ℕ) : ℝ) : EReal) = _
  rw [h0]
  rfl

end

end Cert.Canny
-- ==== Proof.KernelValue.lean ====
/-
  What the kernel's program leaves: every point writes the two results of its 128 images, the flags of image 0 being what the
  first point left for the others, and the blocks tile the array, which the host then turns images first.
-/
module

public import proofs.«01_k».proof.Proof.Blocks

@[expose] public section

set_option maxRecDepth 16384

noncomputable section

namespace Cert.Canny

open Idealize.ShloMosaic Idealize.ShloMosaic.TcCoe Idealize.SL Idealize.SL.Sem Cert.KernelIdeal Cert.KernelIdeal.Gen
open Idealize.ShloMosaic.Pipeline (Window)

section
variable (m : (ℓ : Loc nD τ sig) → Buf (Elt Ideal) ℓ) (c : Dev nD) (x : ℕ → ℕ → ℕ → ℝ) (k : ℕ → ℕ → EReal) (g : ℕ → ℝ)
variable (hx : m ((c : Thread nD τ).loc main_arg0) = (lift fun v => x (v 0) (v 2) (v 3) : FVec Ideal S1024x1x32x32 .f32))
  (hk : m ((c : Thread nD τ).loc main_arg1) = (wide fun v => k (v 2) (v 3) : FVec Ideal S1x1x32x32 .f32))
  (hf : m ((c : Thread nD τ).loc main_arg2) = (lift fun v => g (v 0) : FVec Ideal S9 .f32))
  (hs : ∀ n < 9, g n = g (8 - n)) (hg : ∀ n, 0 ≤ g n) (hm : ∀ i j, 0 ≤ k i j)

/-- The pixels looked at. -/
abbrev pixels : ℕ → ℕ → Prop := inner k (smooth g k (x 0))

include hx hk hf hs hg hm

/-- After every point: the results of its images, and in the scratch buffers the flags, the matrices and the norms. -/
theorem point (n : ℕ) (hn : n < cfg0.N) :
    outsAt0 m c n hn = ((lift fun v => outOf (pixels x k g) (smooth g k (x (128 * n + v 3))) (v 0) (v 1) (v 2) : FVec Ideal S2x32x32x128 .f32),
      (L fun _ i j => flag (pixels x k g i j) : FVec Ideal S32x32x128 .f32), (T (mats g) : FVec Ideal S5x32x32 .f32),
      (T (norms g k) : FVec Ideal S2x32x32 .f32)) := by
  induction n with
  | zero =>
    have h := outsAt0_A m c ⟨0, hn⟩ (Nat.zero_mod 8) (Nat.zero_mod 8)
    rw [block_images m c x _ hx, block_mask m c k _ hk, block_filter m c g _ hf, first_out _ _ _ _ _ _ _ _ _ _ _ _ _ _ _ _ _ _ _ _ _ _ _ _ g k _ hs hg hm,
      flags_left _ _ _ _ _ _ _ _ _ _ _ _ _ _ _ _ _ _ _ _ _ _ _ _ g k _ hs hg hm, mats_left, norms_left _ _ _ _ _ _ _ _ _ _ _ _ _ _ _ _ _ _ _ _ _ _ _ _ g k _ hs hg hm] at h
    exact h
  | succ n ih =>
    have hN : n + 1 < 8 := Nat.lt_of_lt_of_eq hn (show cfg0.N = 8 from N_0)
    have hne : ¬ (⟨n + 1, hn⟩ : Fin cfg0.N).val % 8 = 0 := by show ¬ (n + 1) % 8 = 0; omega
    have h := outsAt0_B m c ⟨n + 1, hn⟩ hne hne
    have ih : outsAt0 m c ((⟨n + 1, hn⟩ : Fin cfg0.N).val - 1) (Nat.lt_of_le_of_lt (Nat.sub_le _ _) hn) = _ := ih (Nat.lt_of_succ_lt hn)
    rw [ih, block_images m c x _ hx, block_filter m c g _ hf] at h
    dsimp only at h
    rw [later_out _ _ _ _ _ _ _ _ _ _ _ _ _ _ _ _ _ _ _ _ _ _ _ _ _ g k _ _ hs] at h
    exact h

/-- The array the kernel's results go to. -/
abbrev results : FVec Ideal S2x32x32x1024 .f32 :=
  lift fun v => outOf (pixels x k g) (smooth g k (x (v 3))) (v 0) (v 1) (v 2)

/-- What point `t` writes back is block `t` of the results. -/
theorem flushed_block (t : Fin cfg0.N) : (dats m 0 c).flushed 5 t = (win0_5.blk t).view.read (Elt Ideal) (results x k g) := by
  show (cfg0.win 5).cut (grid0.coords t) ((dats m 0 c).after 5 t) = _
  rw [after0_5, point m c x k g hx hk hf hs hg hm]
  funext y
  have h0 : (((win0_5.rect t).emb y) 0 : ℕ) = y 0 := by
    rw [Window.rect_emb_val win0_5 t y 0, show win0_5.index t 0 * win0_5.size 0 = 0 by rcases fin_N0 t with rfl | rfl | rfl | rfl | rfl | rfl | rfl | rfl <;> decide +kernel]
    exact Nat.zero_add _
  have h1 : (((win0_5.rect t).emb y) 1 : ℕ) = y 1 := by
    rw [Window.rect_emb_val win0_5 t y 1, show win0_5.index t 1 * win0_5.size 1 = 0 by rcases fin_N0 t with rfl | rfl | rfl | rfl | rfl | rfl | rfl | rfl <;> decide +kernel]
    exact Nat.zero_add _
  have h2 : (((win0_5.rect t).emb y) 2 : ℕ) = y 2 := by
    rw [Window.rect_emb_val win0_5 t y 2, show win0_5.index t 2 * win0_5.size 2 = 0 by rcases fin_N0 t with rfl | rfl | rfl | rfl | rfl | rfl | rfl | rfl <;> decide +kernel]
    exact Nat.zero_add _
  have h3 : (((win0_5.rect t).emb y) 3 : ℕ) = 128 * t.val + y 3 := by
    rw [Window.rect_emb_val win0_5 t y 3, show win0_5.index t 3 * win0_5.size 3 = 128 * t.val by rcases fin_N0 t with rfl | rfl | rfl | rfl | rfl | rfl | rfl | rfl <;> decide +kernel]
  show _ = ((outOf (pixels x k g) (smooth g k (x (((win0_5.rect t).emb y) 3 : ℕ))) (((win0_5.rect t).emb y) 0 : ℕ)
    (((win0_5.rect t).emb y) 1 : ℕ) (((win0_5.rect t).emb y) 2 : ℕ) : ℝ) : EReal)
  rw [h0, h1, h2, h3]
  rfl

omit hx hk hf hs hg hm in
/-- The elements of block `t`: the images `128 t … 128 t + 127`. -/
theorem mem_block (t : Fin cfg0.N) (i : S2x32x32x1024.Idx) :
    i ∈ ((cfg0.win 5).blk t).view.set ↔ 128 * t.val ≤ (i 3 : Nat) ∧ (i 3 : Nat) < 128 * t.val + 128 := by
  show i ∈ ((View.whole main_v4).slice (win0_5.rect t)).set ↔ _
  rw [View.set_slice_whole, Rect.mem_set_unit]
  have b0 : (i 0 : Nat) < 2 := (i 0).isLt
  have b1 : (i 1 : Nat) < 32 := (i 1).isLt
  have b2 : (i 2 : Nat) < 32 := (i 2).isLt
  have e : (∀ a : Fin 3, win0_5.index t a.castSucc * win0_5.size a.castSucc = 0 ∧ win0_5.xsize (grid0.coords t) a.castSucc = S2x32x32x1024.size a.castSucc)
      ∧ win0_5.index t 3 * win0_5.size 3 = 128 * t.val ∧ win0_5.xsize (grid0.coords t) 3 = 128 := by
    rcases fin_N0 t with rfl | rfl | rfl | rfl | rfl | rfl | rfl | rfl <;> decide +kernel
  refine ⟨fun h => ?_, fun h a => ?_⟩
  · have : win0_5.index t 3 * win0_5.size 3 ≤ (i 3 : Nat) ∧ (i 3 : Nat) < win0_5.index t 3 * win0_5.size 3 + win0_5.xsize (grid0.coords t) 3 := h 3
    rw [e.2.1, e.2.2] at this; exact this
  · show win0_5.index t a * win0_5.size a ≤ (i a : Nat) ∧ (i a : Nat) < win0_5.index t a * win0_5.size a + win0_5.xsize (grid0.coords t) a
    match a with
    | ⟨0, _⟩ => have := e.1 0; rw [show win0_5.index t ⟨0, _⟩ * win0_5.size ⟨0, _⟩ = 0 from this.1, show win0_5.xsize (grid0.coords t) ⟨0, _⟩ = 2 from this.2]; exact ⟨Nat.zero_le _, by rw [Nat.zero_add]; exact b0⟩
    | ⟨1, _⟩ => have := e.1 1; rw [show win0_5.index t ⟨1, _⟩ * win0_5.size ⟨1, _⟩ = 0 from this.1, show win0_5.xsize (grid0.coords t) ⟨1, _⟩ = 32 from this.2]; exact ⟨Nat.zero_le _, by rw [Nat.zero_add]; exact b1⟩
    | ⟨2, _⟩ => have := e.1 2; rw [show win0_5.index t ⟨2, _⟩ * win0_5.size ⟨2, _⟩ = 0 from this.1, show win0_5.xsize (grid0.coords t) ⟨2, _⟩ = 32 from this.2]; exact ⟨Nat.zero_le _, by rw [Nat.zero_add]; exact b2⟩
    | ⟨3, _⟩ => rw [show win0_5.index t ⟨3, _⟩ * win0_5.size ⟨3, _⟩ = 128 * t.val from e.2.1, show win0_5.xsize (grid0.coords t) ⟨3, _⟩ = 128 from e.2.2]; exact h

omit hx hk hf hs hg hm in
/-- Every element is in some point's block. -/
theorem blocks_cover (i : S2x32x32x1024.Idx) :
    ∃ t : Fin cfg0.N, (cfg0.win 5).flush t = true ∧ i ∈ ((cfg0.win 5).blk t).view.set := by
  have h3 : (i 3 : Nat) < 1024 := (i 3).isLt
  have hN : cfg0.N = 8 := N_0
  have ht : (i 3 : Nat) / 128 < cfg0.N := by omega
  refine ⟨⟨(i 3 : Nat) / 128, ht⟩, flush0_5 _, ?_⟩
  rw [mem_block]
  dsimp only
  omega

theorem final_array : (dats m 0 c).arrAt 5 cfg0.N = results x k g :=
  (dats m 0 c).arrAt_eq_of_cover 5 (results x k g) (fun t _ => flushed_block m c x k g hx hk hf hs hg hm t) blocks_cover

/-- The program's result: the same array, images first. -/
theorem final_result : Pipeline.afterTail₀ cfgs (dats m) 0 (V0 m) [hostOps1] c main_v5
    = (lift fun v => outOf (pixels x k g) (smooth g k (x (v 0))) (v 1) (v 2) (v 3) : FVec Ideal S1024x2x32x32 .f32) := by
  have e : Pipeline.afterTail₀ cfgs (dats m) 0 (V0 m) [hostOps1] c main_v5
      = transpose S1024x2x32x32 [3, 0, 1, 2] ((dats m 0 c).arrAt 5 cfg0.N : FVec Ideal S2x32x32x1024 .f32) transposes_S2x32x32x1024_S1024x2x32x32_3_0_1_2 := by
    unfold Pipeline.afterTail₀
    show StableHlo.after hostOps1 _ (Proc.devRef .tc main_v5) = _
    after_results
    exact congrArg (fun A : FVec Ideal S2x32x32x1024 .f32 => transpose S1024x2x32x32 [3, 0, 1, 2] A transposes_S2x32x32x1024_S1024x2x32x32_3_0_1_2)
      (Pipeline.withArrays_arr spec0 (by decide) c (V0 m c) (fun w => (dats m 0 c).arrAt w (cfgs 0).N) 5)
  rw [e, final_array m c x k g hx hk hf hs hg hm]
  refine transpose_lift _ _ _ _ fun j => ⟨ix4 (j 1) (j 2) (j 3) (j 0), ?_, rfl⟩
  intro b; match b with
    | ⟨0, _⟩ => rfl
    | ⟨1, _⟩ => rfl
    | ⟨2, _⟩ => rfl
    | ⟨3, _⟩ => rfl

end

end Cert.Canny
-- ==== Proof.KernelRun.lean ====
/-
  The kernel's run from real arguments: where its result ends, and that the arguments stay.
-/
module

public import proofs.«01_k».proof.Proof.KernelValue

@[expose] public section

set_option maxRecDepth 16384

noncomputable section

namespace Cert.Canny

open Idealize.ShloMosaic Idealize.ShloMosaic.TcCoe Idealize.SL Idealize.SL.Sem Cert.KernelIdeal Cert.KernelIdeal.Gen

variable (m : (ℓ : Loc nD τ sig) → Buf (Elt Ideal) ℓ) (ρ : Dev nD → PrngReg)

/-- What the result's buffer holds at the end. -/
def endsAs (c : Dev nD) : Buf (Elt Ideal) ((c.tc : Thread nD τ).loc main_v5) :=
  Pipeline.afterTail₀ cfgs (dats m) 0 (V0 m) [hostOps1] c main_v5

theorem kernel_run : θ_run (defs (F := Ideal)) (onTc (τ := τ) (main (F := Ideal))) ⟨m, fun _ => 0, ρ⟩ (fun r => ∀ c : Dev nD,
      r.2.mem ((c.tc : Thread nD τ).loc main_v5) = endsAs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v5 (Pipeline.mem_restRefs_of main_v5 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.Canny
-- ==== Proof.HostOps.lean ====
/-
  The reference's steps on a batch of images, whatever its size: constants, taps of a filter, padding with zeros or with the
  edge, turning the image, and what each does to real images.
-/
module

public import proofs.«01_k».proof.Proof.Matrices
public import proofs.«01_k».proof.Proof.Flag
public import proofs.«01_k».proof.Proof.Pixel

@[expose] public section

noncomputable section

namespace Cert.Canny

open Idealize.ShloMosaic

/-- `N` images of `h` lines and `w` columns; a number. -/
abbrev Ims (N h w : ℕ) : Shape := ⟨4, ![N, 1, h, w]⟩
abbrev One : Shape := ⟨0, ![]⟩

variable {N h w : ℕ}

/-- The images `s`. -/
def R (s : ℕ → ℕ → ℕ → ℝ) : FVec Ideal (Ims N h w) .f32 := lift fun v => s (v 0) (v 2) (v 3)
def RW (s : ℕ → ℕ → ℕ → EReal) : FVec Ideal (Ims N h w) .f32 := wide fun v => s (v 0) (v 2) (v 3)
def RB (p : ℕ → ℕ → ℕ → Prop) : IVec (Ims N h w) 1 := liftB fun v => p (v 0) (v 2) (v 3)

theorem R_congr {s s' : ℕ → ℕ → ℕ → ℝ} (e : ∀ l i j, l < N → i < h → j < w → s l i j = s' l i j) :
    (R s : FVec Ideal (Ims N h w) .f32) = R s' :=
  lift_congr fun v hv => e _ _ _ (hv 0) (hv 2) (hv 3)

/-! ### Constants -/

theorem bcast_any (t : Shape) : One.BroadcastsInDim t ![] := ⟨fun a => a.elim0, fun a => a.elim0⟩

/-- A word, everywhere. -/
def wordT (N h w : ℕ) (b : BitVec 32) : FVec Ideal (Ims N h w) .f32 :=
  broadcastInDim (Ims N h w) ![] (bcast_any _) (constant One .f32 b)

theorem wordT_R {b : BitVec 32} {c : ℝ} (e : (FloatOps.ofBits .f32 b : Ideal .f32) = ((c : ℝ) : EReal)) :
    wordT N h w b = R fun _ _ _ => c := funext fun _ => e

/-! ### Taps of a filter along the lines -/

theorem slices_one {n k : ℕ} (e : k + 1 ≤ n) : (⟨1, ![n]⟩ : Shape).Slices ![k] ⟨1, ![1]⟩ :=
  ⟨rfl, fun a => by match a with | ⟨0, _⟩ => exact e⟩

theorem casts_one : (⟨1, ![1]⟩ : Shape).ShapeCasts One := by decide

theorem slices_at {N' h' w' q k : ℕ} (e0 : N' ≤ N) (e1 : q + h' ≤ h) (e2 : k + w' ≤ w) : (Ims N h w).Slices ![0, 0, q, k] (Ims N' h' w') :=
  ⟨rfl, fun a => by
    match a with
    | ⟨0, _⟩ => show 0 + N' ≤ N; omega
    | ⟨1, _⟩ => exact Nat.le_refl 1
    | ⟨2, _⟩ => exact e1
    | ⟨3, _⟩ => exact e2⟩

/-- Part of the images: the lines from `q`, the columns from `k`. -/
def partT (N' h' w' q k : ℕ) (X : FVec Ideal (Ims N h w) .f32) (e0 : N' ≤ N) (e1 : q + h' ≤ h) (e2 : k + w' ≤ w) : FVec Ideal (Ims N' h' w') .f32 :=
  extractStridedSlice (Ims N' h' w') ![0, 0, q, k] X (slices_at e0 e1 e2)

theorem partT_R (N' h' w' q k : ℕ) (s : ℕ → ℕ → ℕ → ℝ) (e0 : N' ≤ N) (e1 : q + h' ≤ h) (e2 : k + w' ≤ w) :
    partT N' h' w' q k (R s : FVec Ideal (Ims N h w) .f32) e0 e1 e2 = R fun l i j => s l (i + q) (j + k) := by
  unfold partT R; rw [slice_lift]; rfl

/-- Tap `k` of the filter `g` times the columns from `k`. -/
def tapT {n : ℕ} (g : FVec Ideal ⟨1, ![n]⟩ .f32) (P : FVec Ideal (Ims N 32 w) .f32) (k : ℕ) (e1 : k + 1 ≤ n) (e2 : k + 32 ≤ w) :
    FVec Ideal (Ims N 32 32) .f32 :=
  mulf (broadcastInDim (Ims N 32 32) ![] (bcast_any _) (shapeCast One (extractStridedSlice ⟨1, ![1]⟩ ![k] g (slices_one e1)) casts_one))
    (partT N 32 32 0 k P (Nat.le_refl N) (Nat.le_refl 32) e2)

theorem tapT_R {n : ℕ} (g : ℕ → ℝ) (y : ℕ → ℕ → ℕ → ℝ) (k : ℕ) (e1 : k + 1 ≤ n) (e2 : k + 32 ≤ w) :
    tapT (lift fun v => g (v 0) : FVec Ideal ⟨1, ![n]⟩ .f32) (R y : FVec Ideal (Ims N 32 w) .f32) k e1 e2
      = R fun l i j => g k * y l i (j + k) := by
  unfold tapT
  rw [partT_R, slice_lift, shapeCast_lift _ (fun _ => g k)]
  · unfold R
    rw [show (broadcastInDim (Ims N 32 32) ![] (bcast_any _) (lift fun _ => g k : FVec Ideal One .f32))
      = (lift fun _ => g k : FVec Ideal (Ims N 32 32) .f32) from rfl, mulf_lift]; rfl
  · intro j
    refine ⟨fun a => ⟨0, by match a with | ⟨0, _⟩ => exact Nat.one_pos⟩, by rfl, ?_⟩
    show g (0 + k) = g k
    rw [Nat.zero_add]

theorem tapT_RW {n : ℕ} (g : ℕ → ℝ) (y : ℕ → ℕ → ℕ → EReal) (k : ℕ) (e1 : k + 1 ≤ n) (e2 : k + 32 ≤ w) :
    tapT (lift fun v => g (v 0) : FVec Ideal ⟨1, ![n]⟩ .f32) (RW y : FVec Ideal (Ims N 32 w) .f32) k e1 e2
      = RW fun l i j => (g k : EReal) * y l i (j + k) := by
  unfold tapT partT RW
  rw [slice_wide, slice_lift, shapeCast_lift _ (fun _ => g k)]
  · rw [show (broadcastInDim (Ims N 32 32) ![] (bcast_any _) (lift fun _ => g k : FVec Ideal One .f32))
      = (wide fun _ => (g k : EReal) : FVec Ideal (Ims N 32 32) .f32) from rfl, mulf_wide]; rfl
  · intro j
    refine ⟨fun a => ⟨0, by match a with | ⟨0, _⟩ => exact Nat.one_pos⟩, by rfl, ?_⟩
    show g (0 + k) = g k
    rw [Nat.zero_add]

/-- Nine taps, and three. -/
def taps9T (g : FVec Ideal ⟨1, ![9]⟩ .f32) (P : FVec Ideal (Ims N 32 40) .f32) : FVec Ideal (Ims N 32 32) .f32 :=
  let t (k : ℕ) (hk : k < 9) := tapT g P k hk (by omega)
  addf (addf (addf (addf (addf (addf (addf (addf (addf (wordT N 32 32 0x00000000#32) (t 0 (by decide))) (t 1 (by decide)))
    (t 2 (by decide))) (t 3 (by decide))) (t 4 (by decide))) (t 5 (by decide))) (t 6 (by decide))) (t 7 (by decide))) (t 8 (by decide))

theorem taps9T_R (g : ℕ → ℝ) (y : ℕ → ℕ → ℕ → ℝ) :
    taps9T (lift fun v => g (v 0)) (R y : FVec Ideal (Ims N 32 40) .f32) = R fun l i j => taps g fun k => y l i (j + k) := by
  unfold taps9T; dsimp only
  simp only [tapT_R, wordT_R word_zero]
  simp only [R, addf_lift]
  refine lift_congr fun v _ => ?_
  unfold taps
  simp only [Finset.sum_range_succ, Finset.sum_range_zero]

theorem taps9T_RW (g : ℕ → ℝ) (y : ℕ → ℕ → ℕ → EReal) :
    taps9T (lift fun v => g (v 0)) (RW y : FVec Ideal (Ims N 32 40) .f32) = RW fun l i j => tapsW g fun k => y l i (j + k) := by
  unfold taps9T; dsimp only
  simp only [tapT_RW]
  rw [show wordT N 32 32 0x00000000#32 = RW fun _ _ _ => 0 from funext fun _ => word_zero]
  simp only [RW, addf_wide]
  refine wide_congr fun v _ => ?_
  unfold tapsW
  simp only [Finset.sum_range_succ, Finset.sum_range_zero]

def taps3T (g : FVec Ideal ⟨1, ![3]⟩ .f32) (P : FVec Ideal (Ims N 32 34) .f32) : FVec Ideal (Ims N 32 32) .f32 :=
  let t (k : ℕ) (hk : k < 3) := tapT g P k hk (by omega)
  addf (addf (addf (wordT N 32 32 0x00000000#32) (t 0 (by decide))) (t 1 (by decide))) (t 2 (by decide))

theorem taps3T_R (g : ℕ → ℝ) (y : ℕ → ℕ → ℕ → ℝ) :
    taps3T (lift fun v => g (v 0)) (R y : FVec Ideal (Ims N 32 34) .f32)
      = R fun l i j => g 0 * y l i j + g 1 * y l i (j + 1) + g 2 * y l i (j + 2) := by
  unfold taps3T; dsimp only
  simp only [tapT_R, wordT_R word_zero]
  simp only [R, addf_lift]
  refine lift_congr fun v _ => ?_
  simp only [zero_add, add_zero]

/-! ### Padding -/

/-- Zero, as the padding takes it. -/
def noneT : FVec Ideal One .f32 := sitofp .f32 (constantI One 32 0#32)

theorem noneT_lift : noneT = lift fun _ => 0 := by
  funext i
  show (FloatOps.sitofp .f32 (0#32) : Ideal .f32) = _
  simp [FloatOps.sitofp, lift]

theorem pads_at {p q : ℕ} : (Ims N h w).Pads (![0, 0, p, q] : Fin 4 → ℕ) ![0, 0, p, q] ![0, 0, 0, 0] (Ims N (h + 2 * p) (w + 2 * q)) :=
  ⟨rfl, fun a => by
    match a with
    | ⟨0, _⟩ => show N = 0 + N + 0 * (N - 1) + 0; omega
    | ⟨1, _⟩ => rfl
    | ⟨2, _⟩ => show h + 2 * p = p + h + 0 * (h - 1) + p; omega
    | ⟨3, _⟩ => show w + 2 * q = q + w + 0 * (w - 1) + q; omega⟩

theorem none_pos : 0 < One.numel := by decide

/-- Four zeros before and after every line. -/
def wideT (X : FVec Ideal (Ims N 32 32) .f32) : FVec Ideal (Ims N 32 40) .f32 :=
  pad (Ims N 32 40) ![0, 0, 0, 4] ![0, 0, 0, 4] ![0, 0, 0, 0] X noneT pads_at none_pos

theorem all4 {p : ℕ → Prop} : (∀ k < 4, p k) ↔ p 0 ∧ p 1 ∧ p 2 ∧ p 3 :=
  ⟨fun H => ⟨H 0 (by decide), H 1 (by decide), H 2 (by decide), H 3 (by decide)⟩,
    fun H k hk => by match k, hk with
      | 0, _ => exact H.1
      | 1, _ => exact H.2.1
      | 2, _ => exact H.2.2.1
      | 3, _ => exact H.2.2.2⟩

theorem wideT_R (s : ℕ → ℕ → ℕ → ℝ) : wideT (R s : FVec Ideal (Ims N 32 32) .f32) = R fun l i => zr 4 (s l i) := by
  unfold wideT R
  rw [noneT_lift, pad_lift _ _ _ (by intro a; match a with | ⟨0, _⟩ => rfl | ⟨1, _⟩ => rfl | ⟨2, _⟩ => rfl | ⟨3, _⟩ => rfl)]
  refine lift_congr fun v hv => ?_
  have h0 : v 0 < N := hv 0
  have h1 : v 1 < 1 := hv 1
  have h2 : v 2 < 32 := hv 2
  have hc : (∀ k < 4, ax (![0, 0, 0, 4] : Fin 4 → ℕ) k ≤ v k ∧ v k < ax (![0, 0, 0, 4] : Fin 4 → ℕ) k + ax (Ims N 32 32).size k)
      ↔ 4 ≤ v 3 ∧ v 3 < 4 + 32 := by
    rw [all4]
    show ((0 ≤ v 0 ∧ v 0 < 0 + N) ∧ (0 ≤ v 1 ∧ v 1 < 0 + 1) ∧ (0 ≤ v 2 ∧ v 2 < 0 + 32) ∧ (4 ≤ v 3 ∧ v 3 < 4 + 32)) ↔ _
    omega
  show _ = if v 3 < 4 then (0 : ℝ) else if v 3 - 4 < 32 then s (v 0) (v 2) (v 3 - 4) else 0
  by_cases H : 4 ≤ v 3 ∧ v 3 < 4 + 32
  · rw [if_pos (show ∀ k < (Ims N 32 32).rank, _ from hc.mpr H), if_neg (by omega), if_pos (by omega)]
    rfl
  · rw [if_neg (fun hh => H (hc.mp hh))]
    split_ifs <;> first | rfl | omega

theorem wideT_RW (s : ℕ → ℕ → ℕ → EReal) : wideT (RW s : FVec Ideal (Ims N 32 32) .f32) = RW fun l i => zrW 4 (s l i) := by
  unfold wideT RW
  rw [noneT_lift, lift_wide, pad_wide _ _ _ (by intro a; match a with | ⟨0, _⟩ => rfl | ⟨1, _⟩ => rfl | ⟨2, _⟩ => rfl | ⟨3, _⟩ => rfl)]
  refine wide_congr fun v hv => ?_
  have h0 : v 0 < N := hv 0
  have h1 : v 1 < 1 := hv 1
  have h2 : v 2 < 32 := hv 2
  have hc : (∀ k < 4, ax (![0, 0, 0, 4] : Fin 4 → ℕ) k ≤ v k ∧ v k < ax (![0, 0, 0, 4] : Fin 4 → ℕ) k + ax (Ims N 32 32).size k)
      ↔ 4 ≤ v 3 ∧ v 3 < 4 + 32 := by
    rw [all4]
    show ((0 ≤ v 0 ∧ v 0 < 0 + N) ∧ (0 ≤ v 1 ∧ v 1 < 0 + 1) ∧ (0 ≤ v 2 ∧ v 2 < 0 + 32) ∧ (4 ≤ v 3 ∧ v 3 < 4 + 32)) ↔ _
    omega
  show _ = if v 3 < 4 then (0 : EReal) else if v 3 - 4 < 32 then s (v 0) (v 2) (v 3 - 4) else 0
  by_cases H : 4 ≤ v 3 ∧ v 3 < 4 + 32
  · rw [if_pos (show ∀ k < (Ims N 32 32).rank, _ from hc.mpr H), if_neg (by omega), if_pos (by omega)]
    rfl
  · rw [if_neg (fun hh => H (hc.mp hh))]
    split_ifs <;> first | rfl | omega

/-- One zero all around. -/
def frameT (X : FVec Ideal (Ims N 32 32) .f32) : FVec Ideal (Ims N 34 34) .f32 :=
  pad (Ims N 34 34) ![0, 0, 1, 1] ![0, 0, 1, 1] ![0, 0, 0, 0] X noneT pads_at none_pos

theorem frameT_R (s : ℕ → ℕ → ℕ → ℝ) :
    frameT (R s : FVec Ideal (Ims N 32 32) .f32) = R fun l i j => zr 1 (fun i => zr 1 (fun j => s l i j) j) i := by
  unfold frameT R
  rw [noneT_lift, pad_lift _ _ _ (by intro a; match a with | ⟨0, _⟩ => rfl | ⟨1, _⟩ => rfl | ⟨2, _⟩ => rfl | ⟨3, _⟩ => rfl)]
  refine lift_congr fun v hv => ?_
  have h0 : v 0 < N := hv 0
  have h1 : v 1 < 1 := hv 1
  have hc : (∀ k < 4, ax (![0, 0, 1, 1] : Fin 4 → ℕ) k ≤ v k ∧ v k < ax (![0, 0, 1, 1] : Fin 4 → ℕ) k + ax (Ims N 32 32).size k)
      ↔ (1 ≤ v 2 ∧ v 2 < 1 + 32) ∧ 1 ≤ v 3 ∧ v 3 < 1 + 32 := by
    rw [all4]
    show ((0 ≤ v 0 ∧ v 0 < 0 + N) ∧ (0 ≤ v 1 ∧ v 1 < 0 + 1) ∧ (1 ≤ v 2 ∧ v 2 < 1 + 32) ∧ (1 ≤ v 3 ∧ v 3 < 1 + 32)) ↔ _
    omega
  by_cases H : (1 ≤ v 2 ∧ v 2 < 1 + 32) ∧ 1 ≤ v 3 ∧ v 3 < 1 + 32
  · rw [if_pos (show ∀ k < (Ims N 32 32).rank, _ from hc.mpr H)]
    show _ = if v 2 < 1 then (0 : ℝ) else if v 2 - 1 < 32 then (if v 3 < 1 then 0 else if v 3 - 1 < 32 then s (v 0) (v 2 - 1) (v 3 - 1) else 0) else 0
    rw [if_neg (by omega), if_pos (by omega), if_neg (by omega), if_pos (by omega)]
    rfl
  · rw [if_neg (fun hh => H (hc.mp hh))]
    show _ = if v 2 < 1 then (0 : ℝ) else if v 2 - 1 < 32 then (if v 3 < 1 then 0 else if v 3 - 1 < 32 then s (v 0) (v 2 - 1) (v 3 - 1) else 0) else 0
    split_ifs <;> first | rfl | omega

/-- The neighbour at `(p - 1, q - 1)`, zero outside the image. -/
def nearT (p q : ℕ) (X : FVec Ideal (Ims N 32 32) .f32) (e1 : p + 32 ≤ 34) (e2 : q + 32 ≤ 34) : FVec Ideal (Ims N 32 32) .f32 :=
  partT N 32 32 p q (frameT X) (Nat.le_refl N) e1 e2

theorem nearT_R (p q : ℕ) (s : ℕ → ℕ → ℕ → ℝ) (e1 : p + 32 ≤ 34) (e2 : q + 32 ≤ 34) :
    nearT p q (R s : FVec Ideal (Ims N 32 32) .f32) e1 e2 = R fun l i j => near (s l) p q i j := by
  unfold nearT; rw [frameT_R, partT_R]; rfl

theorem joins {w' : ℕ} : Shape.Concatenates [Ims N h w, Ims N h w'] (Ims N h (w + w')) 3 :=
  ⟨Nat.le_refl 2, fun s hs => by
    simp only [List.mem_cons, List.not_mem_nil, or_false] at hs
    rcases hs with rfl | rfl
    · exact ⟨rfl, fun b hb => by
        match b with
        | ⟨0, _⟩ => rfl
        | ⟨1, _⟩ => rfl
        | ⟨2, _⟩ => rfl
        | ⟨3, _⟩ => exact absurd rfl hb⟩
    · exact ⟨rfl, fun b hb => by
        match b with
        | ⟨0, _⟩ => rfl
        | ⟨1, _⟩ => rfl
        | ⟨2, _⟩ => rfl
        | ⟨3, _⟩ => exact absurd rfl hb⟩, by
    show w + (w' + 0) = w + w'
    rfl⟩

/-- The first and the last column repeated. -/
def edgeT' (X : FVec Ideal (Ims N 32 32) .f32) : FVec Ideal (Ims N 32 34) .f32 :=
  cat2 (t := Ims N 32 34) (s₁ := Ims N 32 33) (s₂ := Ims N 32 1) 3
    (cat2 (t := Ims N 32 33) (s₁ := Ims N 32 1) (s₂ := Ims N 32 32) 3
      (partT N 32 1 0 0 X (Nat.le_refl N) (Nat.le_refl 32) (by decide)) X (joins (w := 1)))
    (partT N 32 1 0 31 X (Nat.le_refl N) (Nat.le_refl 32) (by decide)) (joins (w := 33))

theorem edgeT'_R (s : ℕ → ℕ → ℕ → ℝ) :
    edgeT' (R s : FVec Ideal (Ims N 32 32) .f32) = R fun l i n => s l i (clampIdx n) := by
  unfold edgeT'
  rw [partT_R, partT_R]
  unfold R
  rw [cat2_lift, cat2_lift]
  refine lift_congr fun v hv => ?_
  have h3 : v 3 < 34 := hv 3
  show (if v 3 < 33 then (if v 3 < 1 then s (v 0) (v 2 + 0) (v 3 + 0) else s (v 0) (v 2) (v 3 - 1)) else s (v 0) (v 2 + 0) (v 3 - 33 + 31)) = s (v 0) (v 2) (clampIdx (v 3))
  unfold clampIdx
  split_ifs with a b
  · rw [show min (v 3 - 1) 31 = v 3 + 0 by omega]; rfl
  · rw [show min (v 3 - 1) 31 = v 3 - 1 by omega]
  · rw [show min (v 3 - 1) 31 = v 3 - 33 + 31 by omega]; rfl

/-! ### Turning -/

theorem turns : (Ims N 32 32).Transposes [0, 1, 3, 2] (Ims N 32 32) :=
  ⟨(by decide : [0, 1, 3, 2].Perm (List.finRange 4)), rfl, fun b => by
    match b with
    | ⟨0, _⟩ => rfl
    | ⟨1, _⟩ => rfl
    | ⟨2, _⟩ => rfl
    | ⟨3, _⟩ => rfl⟩

/-- Lines and columns exchanged. -/
def turnT (X : FVec Ideal (Ims N 32 32) .f32) : FVec Ideal (Ims N 32 32) .f32 := transpose (Ims N 32 32) [0, 1, 3, 2] X turns

theorem turnT_R (s : ℕ → ℕ → ℕ → ℝ) : turnT (R s : FVec Ideal (Ims N 32 32) .f32) = R fun l i j => s l j i := by
  funext j
  unfold turnT
  rw [transpose_apply [0, 1, 3, 2] _ turns j (ix4 (j 0) (j 1) (j 3) (j 2))]
  · rfl
  · intro b
    match b with
    | ⟨0, _⟩ => rfl
    | ⟨1, _⟩ => rfl
    | ⟨2, _⟩ => rfl
    | ⟨3, _⟩ => rfl

theorem turnT_RW (s : ℕ → ℕ → ℕ → EReal) : turnT (RW s : FVec Ideal (Ims N 32 32) .f32) = RW fun l i j => s l j i := by
  funext j
  unfold turnT
  rw [transpose_apply [0, 1, 3, 2] _ turns j (ix4 (j 0) (j 1) (j 3) (j 2))]
  · rfl
  · intro b
    match b with
    | ⟨0, _⟩ => rfl
    | ⟨1, _⟩ => rfl
    | ⟨2, _⟩ => rfl
    | ⟨3, _⟩ => rfl

/-! ### One image for all -/

theorem axes_inj : Function.Injective (![0, 1, 2, 3] : Fin 4 → Fin 4) := by decide

theorem spreads : (Ims 1 32 32).BroadcastsInDim (Ims N 32 32) (![0, 1, 2, 3] : Fin 4 → Fin (Ims N 32 32).rank) :=
  ⟨axes_inj, fun a => by
    match a with
    | ⟨0, _⟩ => exact Or.inl rfl
    | ⟨1, _⟩ => exact Or.inl rfl
    | ⟨2, _⟩ => exact Or.inr rfl
    | ⟨3, _⟩ => exact Or.inr rfl⟩

theorem spread_at {α : Type} (X : (Ims 1 32 32).Idx → α) (j : (Ims N 32 32).Idx) :
    broadcastInDim (Ims N 32 32) ![0, 1, 2, 3] spreads X j = X (ix4 0 0 (j 2) (j 3)) :=
  broadcastInDim_apply _ _ X j _ fun a => by
    match a with
    | ⟨0, _⟩ => rfl
    | ⟨1, _⟩ => rfl
    | ⟨2, _⟩ => rfl
    | ⟨3, _⟩ => rfl

def spreadT (X : FVec Ideal (Ims 1 32 32) .f32) : FVec Ideal (Ims N 32 32) .f32 :=
  broadcastInDim (Ims N 32 32) ![0, 1, 2, 3] spreads X

theorem spreadT_R (s : ℕ → ℕ → ℝ) : spreadT (R fun _ => s) = (R fun _ => s : FVec Ideal (Ims N 32 32) .f32) :=
  funext fun j => spread_at _ j

theorem spreadT_RW (s : ℕ → ℕ → EReal) : spreadT (RW fun _ => s) = (RW fun _ => s : FVec Ideal (Ims N 32 32) .f32) :=
  funext fun j => spread_at _ j

def spreadB (X : IVec (Ims 1 32 32) 1) : IVec (Ims N 32 32) 1 :=
  broadcastInDim (Ims N 32 32) ![0, 1, 2, 3] spreads X

theorem spreadB_R (p : ℕ → ℕ → Prop) : spreadB (RB fun _ => p) = (RB fun _ => p : IVec (Ims N 32 32) 1) :=
  funext fun j => spread_at _ j

end Cert.Canny
-- ==== Proof.HostPixel.lean ====
/-
  The reference's four quadrants on a batch of images, whatever its size, and what they say of real images.
-/
module

public import proofs.«01_k».proof.Proof.HostOps

@[expose] public section

set_option maxHeartbeats 1000000

noncomputable section

namespace Cert.Canny

open Idealize.ShloMosaic

variable {N : ℕ}

/-- Numbers and marks of the images of a batch. -/
abbrev Val (N : ℕ) := FVec Ideal (Ims N 32 32) .f32
abbrev Mark (N : ℕ) := IVec (Ims N 32 32) 1

/-! ### Marks -/

def zeroT : Val N := wordT N 32 32 0x00000000#32
def oneT : Val N := wordT N 32 32 0x3F800000#32
def falseT : Mark N := broadcastInDim (Ims N 32 32) ![] (bcast_any _) (constantI One 1 0#1)
def trueT : Mark N := broadcastInDim (Ims N 32 32) ![] (bcast_any _) (constantI One 1 1#1)

theorem zeroT_R : (zeroT : Val N) = R fun _ _ _ => 0 := wordT_R word_zero
theorem oneT_R : (oneT : Val N) = R fun _ _ _ => 1 := wordT_R word_one
theorem falseT_R : (falseT : Mark N) = RB fun _ _ _ => False := by
  funext i; show (0#1 : BitVec 1) = RB _ i; unfold RB liftB; simp
theorem trueT_R : (trueT : Mark N) = RB fun _ _ _ => True := by
  funext i; show (1#1 : BitVec 1) = RB _ i; unfold RB liftB; simp

/-- Where the derivatives have the same sign, and where opposite ones. -/
def sameT (I J : Val N) : Mark N :=
  ori (andi (cmpf .oge I zeroT) (cmpf .oge J zeroT)) (andi (cmpf .ole I zeroT) (cmpf .ole J zeroT))
def oppT (I J : Val N) : Mark N :=
  ori (andi (cmpf .ole I zeroT) (cmpf .oge J zeroT)) (andi (cmpf .oge I zeroT) (cmpf .ole J zeroT))

theorem sameT_R (I J : ℕ → ℕ → ℕ → ℝ) : sameT (R I : Val N) (R J) = RB fun l i j => same (I l i j) (J l i j) := by
  unfold sameT; rw [zeroT_R]; simp only [R, oge_lift, ole_lift, andi_lift, ori_lift]; rfl
theorem oppT_R (I J : ℕ → ℕ → ℕ → ℝ) : oppT (R I : Val N) (R J) = RB fun l i j => opp (I l i j) (J l i j) := by
  unfold oppT; rw [zeroT_R]; simp only [R, oge_lift, ole_lift, andi_lift, ori_lift]; rfl

/-- A number to divide by. -/
def safeV (a : Val N) : Val N := select (cmpf .ogt a zeroT) a oneT

theorem safeV_R (a : ℕ → ℕ → ℕ → ℝ) : safeV (R a : Val N) = R fun l i j => safe (a l i j) := by
  unfold safeV; rw [zeroT_R, oneT_R]; simp only [R, ogt_lift, select_lift]; rfl

/-- Where the gradient is looked at: inside the mask shrunk by one pixel, where the first image has a gradient. -/
def insideT (p q : ℕ) (m : Val 1) (e1 : p + 32 ≤ 34) (e2 : q + 32 ≤ 34) : Mark 1 :=
  cmpf .ogt (nearT p q (uitofp .f32 (cmpf .une m zeroT)) e1 e2) (wordT 1 32 32 0x3F000000#32)

theorem insideT_R (p q : ℕ) (m : ℕ → ℕ → EReal) (e1 : p + 32 ≤ 34) (e2 : q + 32 ≤ 34) :
    insideT p q (RW fun _ => m) e1 e2 = RB fun _ i j => nearW m p q i j ≠ 0 := by
  have h : (uitofp .f32 (cmpf .une (RW fun _ => m : Val 1) zeroT) : Val 1) = R fun _ i j => flag (m i j ≠ ((0 : ℝ) : EReal)) := by
    rw [zeroT_R]; unfold R RW; rw [lift_wide, une_wide, uitofp_lift]
    refine lift_congr fun v _ => ?_
    unfold flag; congr
  unfold insideT
  rw [h, nearT_R, wordT_R word_half]; unfold R; rw [ogt_lift]
  exact liftB_congr fun v _ => near_flag m p q (v 2) (v 3)

def shrinkT (m : Val 1) : Mark 1 :=
  andi (andi (andi (andi (andi (andi (andi (andi (andi trueT (insideT 0 0 m (by decide) (by decide)))
    (insideT 0 1 m (by decide) (by decide))) (insideT 0 2 m (by decide) (by decide))) (insideT 1 0 m (by decide) (by decide)))
    (insideT 1 1 m (by decide) (by decide))) (insideT 1 2 m (by decide) (by decide))) (insideT 2 0 m (by decide) (by decide)))
    (insideT 2 1 m (by decide) (by decide))) (insideT 2 2 m (by decide) (by decide))

theorem shrinkT_R (m : ℕ → ℕ → EReal) : shrinkT (RW fun _ => m) = RB fun _ i j => ∀ p < 3, ∀ q < 3, nearW m p q i j ≠ 0 := by
  unfold shrinkT
  simp only [insideT_R, trueT_R]
  simp only [RB, andi_lift]
  refine liftB_congr fun v _ => ?_
  constructor
  · rintro ⟨⟨⟨⟨⟨⟨⟨⟨⟨_, h0⟩, h1⟩, h2⟩, h3⟩, h4⟩, h5⟩, h6⟩, h7⟩, h8⟩ p hp q hq
    interval_cases p <;> interval_cases q <;> assumption
  · intro H
    exact ⟨⟨⟨⟨⟨⟨⟨⟨⟨trivial, H 0 (by decide) 0 (by decide)⟩, H 0 (by decide) 1 (by decide)⟩, H 0 (by decide) 2 (by decide)⟩,
      H 1 (by decide) 0 (by decide)⟩, H 1 (by decide) 1 (by decide)⟩, H 1 (by decide) 2 (by decide)⟩,
      H 2 (by decide) 0 (by decide)⟩, H 2 (by decide) 1 (by decide)⟩, H 2 (by decide) 2 (by decide)⟩

def innerT (m : Val 1) (G : Val N) (e : 1 ≤ N) : Mark 1 :=
  andi (shrinkT m) (cmpf .ogt (partT 1 32 32 0 0 G e (by decide) (by decide)) zeroT)

theorem innerT_R (m : ℕ → ℕ → EReal) (s : ℕ → ℕ → ℕ → ℝ) (e : 1 ≤ N) :
    innerT (RW fun _ => m) (R fun l => mag2 (s l) : Val N) e = RB fun _ => inner m (s 0) := by
  unfold innerT
  rw [shrinkT_R, partT_R, zeroT_R]
  unfold R RB
  rw [ogt_lift, andi_lift]
  refine liftB_congr fun v hv => ?_
  have h0 : v 0 = 0 := Nat.lt_one_iff.mp (hv 0)
  dsimp only
  rw [h0]; rfl

/-- The marks of a quadrant: inside, with signs as `b`, where `r` compares the lengths of the derivatives. -/
def quadT (er : Mark 1) (b r : Mark N) : Mark N := andi (andi (spreadB er) b) r

theorem quadT_R (E : ℕ → ℕ → Prop) (b r : ℕ → ℕ → ℕ → Prop) :
    quadT (RB fun _ => E) (RB b : Mark N) (RB r) = RB fun l i j => (E i j ∧ b l i j) ∧ r l i j := by
  unfold quadT; rw [spreadB_R]; simp only [RB, andi_lift]

/-- One side of a quadrant. -/
def mixV (w a b : Val N) : Val N := addf (mulf b w) (mulf a (subf oneT w))

theorem mixV_R (w a b : ℕ → ℕ → ℕ → ℝ) :
    mixV (R w : Val N) (R a) (R b) = R fun l i j => mix (w l i j) (a l i j) (b l i j) := by
  unfold mixV; rw [oneT_R]; simp only [R, mulf_lift, subf_lift, addf_lift]; rfl

/-- Whether the gradient is as large as both sides, and the excess of the sides. -/
def topT (G a b : Val N) : Mark N := andi (cmpf .ole a G) (cmpf .ole b G)
def overT (G a : Val N) : Val N := maximumf (addf (addf (Host.negf G) (wordT N 32 32 0x3BA3D70A#32)) a) zeroT
def overBothT (G a b : Val N) : Val N := maximumf (overT G a) (overT G b)

theorem topT_R (G a b : ℕ → ℕ → ℕ → ℝ) :
    topT (R G : Val N) (R a) (R b) = RB fun l i j => a l i j ≤ G l i j ∧ b l i j ≤ G l i j := by
  unfold topT; simp only [R, ole_lift, andi_lift]; rfl
theorem overT_R (G a : ℕ → ℕ → ℕ → ℝ) :
    overT (R G : Val N) (R a) = R fun l i j => excess (G l i j) (a l i j) := by
  unfold overT; rw [zeroT_R, wordT_R word_gamma]; simp only [R, hostNegf_lift, addf_lift, maximumf_lift]; rfl
theorem overBothT_R (G a b : ℕ → ℕ → ℕ → ℝ) :
    overBothT (R G : Val N) (R a) (R b) = R fun l i j => max (excess (G l i j) (a l i j)) (excess (G l i j) (b l i j)) := by
  unfold overBothT; rw [overT_R, overT_R]; simp only [R, maximumf_lift]

/-! ### The weights -/

def wgt1T (I J : Val N) : Val N := Host.divf (Host.absf J) (addf (Host.absf I) (wordT N 32 32 0x3089705F#32))
def wgt2T (I J : Val N) : Val N := Host.divf (Host.absf I) (safeV (Host.absf J))

theorem absT_R (a : ℕ → ℕ → ℕ → ℝ) : Host.absf (R a : Val N) = R fun l i j => |a l i j| := by
  unfold R; rw [hostAbsf_lift]

theorem wgt1T_R (I J : ℕ → ℕ → ℕ → ℝ) : wgt1T (R I : Val N) (R J) = R fun l i j => wgt1 (I l i j) (J l i j) := by
  unfold wgt1T
  rw [absT_R, absT_R, wordT_R word_eps]
  unfold R
  rw [addf_lift, hostDivf_lift]
  · rfl
  · intro v; exact (add_pos_of_nonneg_of_pos (abs_nonneg _) kEps_pos).ne'

theorem wgt2T_R (I J : ℕ → ℕ → ℕ → ℝ) : wgt2T (R I : Val N) (R J) = R fun l i j => wgt2 (I l i j) (J l i j) := by
  unfold wgt2T
  rw [absT_R, absT_R, safeV_R]
  unfold R
  rw [hostDivf_lift]
  · rfl
  · intro v; exact safe_ne _

/-! ### The quadrants -/

section
variable (er : Mark 1) (I J G : Val N)

/-- The neighbours read. -/
def nb (p q : ℕ) (e1 : p + 32 ≤ 34 := by decide) (e2 : q + 32 ≤ 34 := by decide) : Val N := nearT p q G e1 e2

def q1 : Mark N := quadT er (sameT I J) (cmpf .oge (Host.absf I) (Host.absf J))
def q2 : Mark N := quadT er (sameT I J) (cmpf .ole (Host.absf I) (Host.absf J))
def q3 : Mark N := quadT er (oppT I J) (cmpf .ole (Host.absf I) (Host.absf J))
def q4 : Mark N := quadT er (oppT I J) (cmpf .oge (Host.absf I) (Host.absf J))

def up1 : Val N := mixV (wgt1T I J) (nb G 2 1) (nb G 2 2)
def dn1 : Val N := mixV (wgt1T I J) (nb G 0 1) (nb G 0 0)
def up2 : Val N := mixV (wgt2T I J) (nb G 1 2) (nb G 2 2)
def dn2 : Val N := mixV (wgt2T I J) (nb G 1 0) (nb G 0 0)
def up3 : Val N := mixV (wgt2T I J) (nb G 1 2) (nb G 0 2)
def dn3 : Val N := mixV (wgt2T I J) (nb G 1 0) (nb G 2 0)
def up4 : Val N := mixV (wgt2T J I) (nb G 0 1) (nb G 0 2)
def dn4 : Val N := mixV (wgt2T J I) (nb G 2 1) (nb G 2 0)

/-- The local maxima after each quadrant. -/
def top1 : Mark N := select (q1 er I J) (topT G (up1 I J G) (dn1 I J G)) falseT
def top2 : Mark N := select (q2 er I J) (topT G (up2 I J G) (dn2 I J G)) (top1 er I J G)
def top3 : Mark N := select (q3 er I J) (topT G (up3 I J G) (dn3 I J G)) (top2 er I J G)
def top4 : Mark N := select (q4 er I J) (topT G (up4 I J G) (dn4 I J G)) (top3 er I J G)

/-- The soft edges after each quadrant. -/
def sum1 : Val N := addf zeroT (select (q1 er I J) (overBothT G (up1 I J G) (dn1 I J G)) zeroT)
def sum2 : Val N := addf (sum1 er I J G) (select (q2 er I J) (overBothT G (up2 I J G) (dn2 I J G)) zeroT)
def sum3 : Val N := addf (sum2 er I J G) (select (q3 er I J) (overBothT G (up3 I J G) (up3 I J G)) zeroT)
def sum4 : Val N := addf (sum3 er I J G) (select (q4 er I J) (overBothT G (up4 I J G) (dn4 I J G)) zeroT)

/-- The hard edges. -/
def hardT : Val N :=
  select (andi (top4 er I J G) (cmpf .oge G (wordT N 32 32 0x3E4CCCCD#32))) G zeroT

end

section
variable (E : ℕ → ℕ → Prop) (i j g : ℕ → ℕ → ℕ → ℝ)

theorem leT_R (a b : ℕ → ℕ → ℕ → ℝ) : cmpf .ole (R a : Val N) (R b) = RB fun l i j => a l i j ≤ b l i j := by
  unfold R; rw [ole_lift]; rfl
theorem geT_R (a b : ℕ → ℕ → ℕ → ℝ) : cmpf .oge (R a : Val N) (R b) = RB fun l i j => b l i j ≤ a l i j := by
  unfold R; rw [oge_lift]; rfl

theorem q1_R : q1 (RB fun _ => E) (R i : Val N) (R j) = RB fun l u v => pts1 (E u v) (i l u v) (j l u v) := by
  unfold q1; rw [sameT_R, absT_R, absT_R, geT_R, quadT_R]; rfl
theorem q2_R : q2 (RB fun _ => E) (R i : Val N) (R j) = RB fun l u v => pts2 (E u v) (i l u v) (j l u v) := by
  unfold q2; rw [sameT_R, absT_R, absT_R, leT_R, quadT_R]; rfl
theorem q3_R : q3 (RB fun _ => E) (R i : Val N) (R j) = RB fun l u v => pts3 (E u v) (i l u v) (j l u v) := by
  unfold q3; rw [oppT_R, absT_R, absT_R, leT_R, quadT_R]; rfl
theorem q4_R : q4 (RB fun _ => E) (R i : Val N) (R j) = RB fun l u v => pts4 (E u v) (i l u v) (j l u v) := by
  unfold q4; rw [oppT_R, absT_R, absT_R, geT_R, quadT_R]; rfl

theorem nb_R (p q : ℕ) (e1 : p + 32 ≤ 34) (e2 : q + 32 ≤ 34) :
    nb (R g : Val N) p q e1 e2 = R fun l u v => near (g l) p q u v := nearT_R p q g e1 e2

theorem up1_R : up1 (R i : Val N) (R j) (R g) = R fun l u v => cp1 (i l u v) (j l u v) fun p q => near (g l) p q u v := by
  unfold up1; simp only [nb_R, wgt1T_R, mixV_R]; rfl
theorem dn1_R : dn1 (R i : Val N) (R j) (R g) = R fun l u v => cm1 (i l u v) (j l u v) fun p q => near (g l) p q u v := by
  unfold dn1; simp only [nb_R, wgt1T_R, mixV_R]; rfl
theorem up2_R : up2 (R i : Val N) (R j) (R g) = R fun l u v => cp2 (i l u v) (j l u v) fun p q => near (g l) p q u v := by
  unfold up2; simp only [nb_R, wgt2T_R, mixV_R]; rfl
theorem dn2_R : dn2 (R i : Val N) (R j) (R g) = R fun l u v => cm2 (i l u v) (j l u v) fun p q => near (g l) p q u v := by
  unfold dn2; simp only [nb_R, wgt2T_R, mixV_R]; rfl
theorem up3_R : up3 (R i : Val N) (R j) (R g) = R fun l u v => cp3 (i l u v) (j l u v) fun p q => near (g l) p q u v := by
  unfold up3; simp only [nb_R, wgt2T_R, mixV_R]; rfl
theorem dn3_R : dn3 (R i : Val N) (R j) (R g) = R fun l u v => cm3 (i l u v) (j l u v) fun p q => near (g l) p q u v := by
  unfold dn3; simp only [nb_R, wgt2T_R, mixV_R]; rfl
theorem up4_R : up4 (R i : Val N) (R j) (R g) = R fun l u v => cp4 (i l u v) (j l u v) fun p q => near (g l) p q u v := by
  unfold up4; simp only [nb_R, wgt2T_R, mixV_R]; rfl
theorem dn4_R : dn4 (R i : Val N) (R j) (R g) = R fun l u v => cm4 (i l u v) (j l u v) fun p q => near (g l) p q u v := by
  unfold dn4; simp only [nb_R, wgt2T_R, mixV_R]; rfl

theorem pick_R (r p q : ℕ → ℕ → ℕ → Prop) :
    select (RB r : Mark N) (RB p : Mark N) (RB q) = RB fun l u v => sel (r l u v) (p l u v) (q l u v) := by
  unfold RB; rw [selectB_lift]; rfl

open Classical in
theorem part_R (r : ℕ → ℕ → ℕ → Prop) (a b : ℕ → ℕ → ℕ → ℝ) :
    addf (R a : Val N) (select (RB r : Mark N) (R b : Val N) zeroT) = R fun l u v => a l u v + (if r l u v then b l u v else 0) := by
  rw [zeroT_R]; unfold RB R; rw [select_lift, addf_lift]

/-- The local maxima of a batch. -/
theorem top4_R : top4 (RB fun _ => E) (R i : Val N) (R j) (R g)
    = RB fun l u v => pixelMax (E u v) (i l u v) (j l u v) (g l u v) fun p q => near (g l) p q u v := by
  unfold top4 top3 top2 top1
  simp only [q1_R, q2_R, q3_R, q4_R, up1_R, up2_R, up3_R, up4_R, dn1_R, dn2_R, dn3_R, dn4_R, topT_R, falseT_R, pick_R]
  rfl

/-- The hard edges of a batch. -/
theorem hardT_R : hardT (RB fun _ => E) (R i : Val N) (R j) (R g)
    = R fun l u v => pixelEdge (E u v) (i l u v) (j l u v) (g l u v) fun p q => near (g l) p q u v := by
  unfold hardT
  rw [top4_R, wordT_R word_thr, geT_R, zeroT_R]
  unfold RB R
  rw [andi_lift, select_lift]; rfl

/-- The soft edges of a batch. -/
theorem sum4_R : sum4 (RB fun _ => E) (R i : Val N) (R j) (R g)
    = R fun l u v => pixelSoft (E u v) (i l u v) (j l u v) (g l u v) fun p q => near (g l) p q u v := by
  unfold sum4 sum3 sum2 sum1
  simp only [q1_R, q2_R, q3_R, q4_R, up1_R, up2_R, up3_R, up4_R, dn1_R, dn2_R, dn4_R, overBothT_R]
  rw [show (addf zeroT : Val N → Val N) = addf (R fun _ _ _ => 0) by rw [zeroT_R]]
  simp only [part_R]
  rfl

end

end Cert.Canny
-- ==== Proof.Reference.lean ====
/-
  What the reference computes of real images: the two planes of every image, as the mathematics says.
-/
module

public import proofs.«01_k».proof.Proof.HostPixel
public import proofs.«01_k».proof.Proof.Load
public import proofs.«01_k».proof.Proof.Gen.ReferenceIdeal.Read

@[expose] public section

set_option maxHeartbeats 4000000
set_option maxRecDepth 16384

noncomputable section

namespace Cert.Canny

open Idealize.ShloMosaic Cert.ReferenceIdeal Cert.ReferenceIdeal.Read

variable (x0 : FVec Ideal S1024x1x32x32 .f32) (x1 : FVec Ideal S1x1x32x32 .f32) (x2 : FVec Ideal S9 .f32)
  (x3 x4 : FVec Ideal S3 .f32)

/-! ### The stages of the program -/

/-- Smoothing along the lines and along the columns. -/
def blurT {N : ℕ} (g : FVec Ideal ⟨1, ![9]⟩ .f32) (X : Val N) : Val N :=
  taps9T g (wideT (turnT (taps9T g (wideT (turnT X)))))

theorem stage60 : val_main_v60 (F := Ideal) x1 x2 = taps9T (N := 1) x2 (wideT (turnT x1)) := by rfl
theorem stage117 : val_main_v117 (F := Ideal) x1 x2 = taps9T (N := 1) x2 (wideT (turnT (val_main_v60 (F := Ideal) x1 x2))) := by rfl
theorem stage174 : val_main_v174 (F := Ideal) x0 x2 = taps9T (N := 1024) x2 (wideT (turnT (val_main_v3 (F := Ideal) x0))) := by rfl
theorem stage231 : val_main_v231 (F := Ideal) x0 x2 = taps9T (N := 1024) x2 (wideT (turnT (val_main_v174 (F := Ideal) x0 x2))) := by rfl
theorem stage235 : val_main_v235 (F := Ideal) x0 x1 x2 = Host.divf (val_main_v231 (F := Ideal) x0 x2)
    (spreadT (N := 1024) (addf (val_main_v117 (F := Ideal) x1 x2) (wordT 1 32 32 0x2B8CBCCC#32))) := by rfl
theorem stage3 : val_main_v3 (F := Ideal) x0
    = addf (mulf x0 (wordT 1024 32 32 0x3F000000#32)) (wordT 1024 32 32 0x3F000000#32) := by rfl

/-- Three taps along the lines, then along the columns. -/
def twiceT {N : ℕ} (a b : FVec Ideal ⟨1, ![3]⟩ .f32) (X : Val N) : Val N :=
  taps3T b (edgeT' (turnT (taps3T a (edgeT' X))))

theorem stage258 : val_main_v258 (F := Ideal) x0 x1 x2 x3 = taps3T (N := 1024) x3 (edgeT' (val_main_v235 (F := Ideal) x0 x1 x2)) := by rfl
theorem stage283 : val_main_v283 (F := Ideal) x0 x1 x2 x3 x4
    = turnT (taps3T (N := 1024) x4 (edgeT' (turnT (val_main_v258 (F := Ideal) x0 x1 x2 x3)))) := by rfl
theorem stage307 : val_main_v307 (F := Ideal) x0 x1 x2 x3
    = taps3T (N := 1024) x3 (edgeT' (turnT (val_main_v235 (F := Ideal) x0 x1 x2))) := by rfl
theorem stage331 : val_main_v331 (F := Ideal) x0 x1 x2 x3 x4
    = taps3T (N := 1024) x4 (edgeT' (turnT (val_main_v307 (F := Ideal) x0 x1 x2 x3))) := by rfl
/-- The derivatives, the squared length of the gradient, its length, and the pixels looked at, as the program has them. -/
abbrev refI : Val 1024 := val_main_v331 (F := Ideal) x0 x1 x2 x3 x4
abbrev refJ : Val 1024 := val_main_v283 (F := Ideal) x0 x1 x2 x3 x4
abbrev refS : Val 1024 := val_main_v336 (F := Ideal) x0 x1 x2 x3 x4
abbrev refG : Val 1024 := val_main_v339 (F := Ideal) x0 x1 x2 x3 x4
abbrev refE : Mark 1 := val_main_v392 (F := Ideal) x0 x1 x2 x3 x4

theorem stage336 : refS x0 x1 x2 x3 x4
    = addf (mulf (refI x0 x1 x2 x3 x4) (refI x0 x1 x2 x3 x4)) (mulf (refJ x0 x1 x2 x3 x4) (refJ x0 x1 x2 x3 x4)) := by rfl
theorem stage339 : refG x0 x1 x2 x3 x4 = Host.sqrt (addf (refS x0 x1 x2 x3 x4) (wordT 1024 32 32 0x3089705F#32)) := by rfl
theorem stage392 : refE x0 x1 x2 x3 x4 = innerT (N := 1024) x1 (refS x0 x1 x2 x3 x4) (by decide) := by rfl

theorem stage462 : val_main_v462 (F := Ideal) x0 x1 x2 x3 x4
    = top1 (refE x0 x1 x2 x3 x4) (refI x0 x1 x2 x3 x4) (refJ x0 x1 x2 x3 x4) (refG x0 x1 x2 x3 x4) := by rfl
theorem stage502 : val_main_v502 (F := Ideal) x0 x1 x2 x3 x4 = select (q2 (refE x0 x1 x2 x3 x4) (refI x0 x1 x2 x3 x4) (refJ x0 x1 x2 x3 x4))
    (topT (refG x0 x1 x2 x3 x4) (up2 (refI x0 x1 x2 x3 x4) (refJ x0 x1 x2 x3 x4) (refG x0 x1 x2 x3 x4))
      (dn2 (refI x0 x1 x2 x3 x4) (refJ x0 x1 x2 x3 x4) (refG x0 x1 x2 x3 x4)) : Mark 1024) (val_main_v462 (F := Ideal) x0 x1 x2 x3 x4) := by rfl
theorem stage537 : val_main_v537 (F := Ideal) x0 x1 x2 x3 x4 = select (q3 (refE x0 x1 x2 x3 x4) (refI x0 x1 x2 x3 x4) (refJ x0 x1 x2 x3 x4))
    (topT (refG x0 x1 x2 x3 x4) (up3 (refI x0 x1 x2 x3 x4) (refJ x0 x1 x2 x3 x4) (refG x0 x1 x2 x3 x4))
      (dn3 (refI x0 x1 x2 x3 x4) (refJ x0 x1 x2 x3 x4) (refG x0 x1 x2 x3 x4)) : Mark 1024) (val_main_v502 (F := Ideal) x0 x1 x2 x3 x4) := by rfl
theorem stage577 : val_main_v577 (F := Ideal) x0 x1 x2 x3 x4 = select (q4 (refE x0 x1 x2 x3 x4) (refI x0 x1 x2 x3 x4) (refJ x0 x1 x2 x3 x4))
    (topT (refG x0 x1 x2 x3 x4) (up4 (refI x0 x1 x2 x3 x4) (refJ x0 x1 x2 x3 x4) (refG x0 x1 x2 x3 x4))
      (dn4 (refI x0 x1 x2 x3 x4) (refJ x0 x1 x2 x3 x4) (refG x0 x1 x2 x3 x4)) : Mark 1024) (val_main_v537 (F := Ideal) x0 x1 x2 x3 x4) := by rfl

/-- All four quadrants of the local maxima. -/
theorem tops : val_main_v577 (F := Ideal) x0 x1 x2 x3 x4
    = top4 (refE x0 x1 x2 x3 x4) (refI x0 x1 x2 x3 x4) (refJ x0 x1 x2 x3 x4) (refG x0 x1 x2 x3 x4) := by
  rw [stage577, stage537, stage502, stage462]; rfl

theorem stage464 : val_main_v464 (F := Ideal) x0 x1 x2 x3 x4
    = sum1 (refE x0 x1 x2 x3 x4) (refI x0 x1 x2 x3 x4) (refJ x0 x1 x2 x3 x4) (refG x0 x1 x2 x3 x4) := by rfl
theorem stage504 : val_main_v504 (F := Ideal) x0 x1 x2 x3 x4 = addf (val_main_v464 (F := Ideal) x0 x1 x2 x3 x4)
    (select (q2 (refE x0 x1 x2 x3 x4) (refI x0 x1 x2 x3 x4) (refJ x0 x1 x2 x3 x4))
      (overBothT (refG x0 x1 x2 x3 x4) (up2 (refI x0 x1 x2 x3 x4) (refJ x0 x1 x2 x3 x4) (refG x0 x1 x2 x3 x4))
        (dn2 (refI x0 x1 x2 x3 x4) (refJ x0 x1 x2 x3 x4) (refG x0 x1 x2 x3 x4))) zeroT : Val 1024) := by rfl
theorem stage539 : val_main_v539 (F := Ideal) x0 x1 x2 x3 x4 = addf (val_main_v504 (F := Ideal) x0 x1 x2 x3 x4)
    (select (q3 (refE x0 x1 x2 x3 x4) (refI x0 x1 x2 x3 x4) (refJ x0 x1 x2 x3 x4))
      (overBothT (refG x0 x1 x2 x3 x4) (up3 (refI x0 x1 x2 x3 x4) (refJ x0 x1 x2 x3 x4) (refG x0 x1 x2 x3 x4))
        (up3 (refI x0 x1 x2 x3 x4) (refJ x0 x1 x2 x3 x4) (refG x0 x1 x2 x3 x4))) zeroT : Val 1024) := by rfl
theorem stage579 : val_main_v579 (F := Ideal) x0 x1 x2 x3 x4 = addf (val_main_v539 (F := Ideal) x0 x1 x2 x3 x4)
    (select (q4 (refE x0 x1 x2 x3 x4) (refI x0 x1 x2 x3 x4) (refJ x0 x1 x2 x3 x4))
      (overBothT (refG x0 x1 x2 x3 x4) (up4 (refI x0 x1 x2 x3 x4) (refJ x0 x1 x2 x3 x4) (refG x0 x1 x2 x3 x4))
        (dn4 (refI x0 x1 x2 x3 x4) (refJ x0 x1 x2 x3 x4) (refG x0 x1 x2 x3 x4))) zeroT : Val 1024) := by rfl

/-- All four quadrants of the soft edges. -/
theorem sums : val_main_v579 (F := Ideal) x0 x1 x2 x3 x4
    = sum4 (refE x0 x1 x2 x3 x4) (refI x0 x1 x2 x3 x4) (refJ x0 x1 x2 x3 x4) (refG x0 x1 x2 x3 x4) := by
  rw [stage579, stage539, stage504, stage464]; rfl

theorem stage583 : val_main_v583 (F := Ideal) x0 x1 x2 x3 x4
    = select (andi (val_main_v577 (F := Ideal) x0 x1 x2 x3 x4) (cmpf .oge (refG x0 x1 x2 x3 x4) (wordT 1024 32 32 0x3E4CCCCD#32)) : Mark 1024)
      (refG x0 x1 x2 x3 x4) zeroT := by rfl
theorem hards : val_main_v583 (F := Ideal) x0 x1 x2 x3 x4
    = hardT (refE x0 x1 x2 x3 x4) (refI x0 x1 x2 x3 x4) (refJ x0 x1 x2 x3 x4) (refG x0 x1 x2 x3 x4) := by
  rw [stage583, tops]; rfl

theorem planes : Shape.Concatenates [Ims 1024 32 32, Ims 1024 32 32] S1024x2x32x32 1 :=
  ⟨Nat.le_refl 2, fun s hs => by
    simp only [List.mem_cons, List.not_mem_nil, or_false] at hs
    rcases hs with rfl | rfl <;> exact ⟨rfl, fun b hb => by
      match b with
      | ⟨0, _⟩ => rfl
      | ⟨1, _⟩ => exact absurd rfl hb
      | ⟨2, _⟩ => rfl
      | ⟨3, _⟩ => rfl⟩, rfl⟩

theorem stage584 : val_main_v584 (F := Ideal) x0 x1 x2 x3 x4
    = cat2 (t := S1024x2x32x32) (s₁ := Ims 1024 32 32) (s₂ := Ims 1024 32 32) 1 (val_main_v583 (F := Ideal) x0 x1 x2 x3 x4)
      (val_main_v579 (F := Ideal) x0 x1 x2 x3 x4) planes := by rfl

/-! ### On real images -/

variable (x : ℕ → ℕ → ℕ → ℝ) (k : ℕ → ℕ → EReal) (g : ℕ → ℝ)

theorem blurT_R {N : ℕ} (s : ℕ → ℕ → ℕ → ℝ) :
    taps9T (lift fun v => g (v 0)) (wideT (turnT (taps9T (lift fun v => g (v 0)) (wideT (turnT (R s : Val N))))))
      = R fun l => blur g (s l) := by
  rw [turnT_R, wideT_R, taps9T_R, turnT_R, wideT_R, taps9T_R]; rfl

theorem ref_mask : val_main_v117 (F := Ideal) (RW (N := 1) fun _ => k) (lift fun v => g (v 0))
    = (RW fun _ => blurW g k : Val 1) := by
  rw [stage117, stage60, turnT_RW, wideT_RW, taps9T_RW, turnT_RW, wideT_RW, taps9T_RW]; rfl

theorem ref_half : val_main_v3 (F := Ideal) (R (N := 1024) x) = (R fun l i j => 1 / 2 * x l i j + 1 / 2 : Val 1024) := by
  rw [stage3, wordT_R word_half]
  unfold R; rw [mulf_lift, addf_lift]
  exact lift_congr fun v _ => by rw [mul_comm]

theorem ref_image : val_main_v231 (F := Ideal) (R (N := 1024) x) (lift fun v => g (v 0))
    = (R fun l => blur g fun i j => 1 / 2 * x l i j + 1 / 2 : Val 1024) := by
  rw [stage231, stage174, ref_half]; exact blurT_R g _

theorem ref_smooth (hg : ∀ n, 0 ≤ g n) (hm : ∀ i j, 0 ≤ k i j) :
    val_main_v235 (F := Ideal) (R (N := 1024) x) (RW (N := 1) fun _ => k) (lift fun v => g (v 0))
      = (R fun l => smooth g k (x l) : Val 1024) := by
  rw [stage235, ref_image, ref_mask, wordT_R word_tiny]
  have h : addf (RW fun _ => blurW g k : Val 1) (R fun _ _ _ => kTiny) = RW fun _ => den g k := rfl
  rw [h, spreadT_RW]
  exact funext fun i => div_den hg hm _ _ _

/-- The two filters of the derivatives. -/
def majorOf (n : ℕ) : ℝ := if n = 0 then -1 else if n = 1 then 0 else 1
def minorOf (n : ℕ) : ℝ := if n = 1 then 2 else 1

theorem clampIdx_mid {j : ℕ} (h : j < 32) : clampIdx (j + 1) = j := by unfold clampIdx; omega

theorem major_R (s : ℕ → ℕ → ℕ → ℝ) : taps3T (lift fun v => majorOf (v 0)) (edgeT' (R s : Val 1024)) = R fun l => diffJ (s l) := by
  rw [edgeT'_R, taps3T_R]
  refine R_congr fun l i j _ _ _ => ?_
  show -1 * s l i (clampIdx j) + 0 * s l i (clampIdx (j + 1)) + 1 * s l i (clampIdx (j + 2)) = s l i (clampIdx (j + 2)) - s l i (clampIdx j)
  ring

theorem minor_R (s : ℕ → ℕ → ℕ → ℝ) : taps3T (lift fun v => minorOf (v 0)) (edgeT' (R s : Val 1024)) = R fun l => sumJ (s l) := by
  rw [edgeT'_R, taps3T_R]
  refine R_congr fun l i j _ _ hj => ?_
  show 1 * s l i (clampIdx j) + 2 * s l i (clampIdx (j + 1)) + 1 * s l i (clampIdx (j + 2))
    = s l i (clampIdx j) + 2 * s l i j + s l i (clampIdx (j + 2))
  rw [clampIdx_mid hj]; ring

section
variable (hg : ∀ n, 0 ≤ g n) (hm : ∀ i j, 0 ≤ k i j)
include hg hm

theorem ref_J : refJ (R (N := 1024) x) (RW (N := 1) fun _ => k) (lift fun v => g (v 0)) (lift fun v => majorOf (v 0)) (lift fun v => minorOf (v 0))
    = R fun l => gradJ (smooth g k (x l)) := by
  show val_main_v283 (F := Ideal) _ _ _ _ _ = _
  rw [stage283, stage258, ref_smooth x k g hg hm, major_R, turnT_R, minor_R, turnT_R]; rfl

theorem ref_I : refI (R (N := 1024) x) (RW (N := 1) fun _ => k) (lift fun v => g (v 0)) (lift fun v => majorOf (v 0)) (lift fun v => minorOf (v 0))
    = R fun l => gradI (smooth g k (x l)) := by
  show val_main_v331 (F := Ideal) _ _ _ _ _ = _
  rw [stage331, stage307, ref_smooth x k g hg hm, turnT_R, major_R, turnT_R, minor_R]; rfl

theorem ref_S : refS (R (N := 1024) x) (RW (N := 1) fun _ => k) (lift fun v => g (v 0)) (lift fun v => majorOf (v 0)) (lift fun v => minorOf (v 0))
    = R fun l => mag2 (smooth g k (x l)) := by
  rw [stage336, ref_I x k g hg hm, ref_J x k g hg hm]
  unfold R; rw [mulf_lift, mulf_lift, addf_lift]; rfl

theorem ref_G : refG (R (N := 1024) x) (RW (N := 1) fun _ => k) (lift fun v => g (v 0)) (lift fun v => majorOf (v 0)) (lift fun v => minorOf (v 0))
    = R fun l => mag (smooth g k (x l)) := by
  rw [stage339, ref_S x k g hg hm, wordT_R word_eps]
  unfold R; rw [addf_lift, hostSqrt_lift]
  · rfl
  · intro v; exact add_nonneg (mag2_nonneg _ _ _) kEps_pos.le

theorem ref_E : refE (R (N := 1024) x) (RW (N := 1) fun _ => k) (lift fun v => g (v 0)) (lift fun v => majorOf (v 0)) (lift fun v => minorOf (v 0))
    = RB fun _ => inner k (smooth g k (x 0)) := by
  rw [stage392, ref_S x k g hg hm]; exact innerT_R k (fun l => smooth g k (x l)) _

/-- The reference's result on real images. -/
theorem ref_result : val_main_v584 (F := Ideal) (R (N := 1024) x) (RW (N := 1) fun _ => k) (lift fun v => g (v 0)) (lift fun v => majorOf (v 0)) (lift fun v => minorOf (v 0))
    = (lift fun v => outOf (inner k (smooth g k (x 0))) (smooth g k (x (v 0))) (v 1) (v 2) (v 3) : FVec Ideal S1024x2x32x32 .f32) := by
  rw [stage584, hards, sums, ref_E x k g hg hm, ref_I x k g hg hm, ref_J x k g hg hm, ref_G x k g hg hm, hardT_R, sum4_R]
  unfold R; rw [cat2_lift]
  refine lift_congr fun v hv => ?_
  have h1 : v 1 < 2 := hv 1
  show (if v 1 < 1 then edgeOf (inner k (smooth g k (x 0))) (smooth g k (x (v 0))) (v 2) (v 3)
    else softOf (inner k (smooth g k (x 0))) (smooth g k (x (v 0))) (v 2) (v 3)) = _
  by_cases h : v 1 < 1
  · rw [if_pos h, show v 1 = 0 by omega]; rfl
  · rw [if_neg h, show v 1 = 1 by omega]; rfl

end

end Cert.Canny
-- ==== Proof.Precondition.lean ====
/-
  What the precondition gives: the images and the filters are arrays of real numbers, the mask and the smoothing filter
  are not negative, that filter reads the same from both ends, and the two filters of the derivatives are the usual ones.
-/
module

public import proofs.«01_k».proof.Proof.Reference
public import proofs.«01_k».proof.Proof.Gen.Pre_filters

@[expose] public section

set_option maxRecDepth 16384

noncomputable section

namespace Cert.Canny

open Idealize.ShloMosaic Cert.Pre_filters

/-! ### Reading a mark -/

theorem of_bit {p : Prop} {d : Decidable p} (h : BitVec.ofBool (@decide p d) = 1#1) : p := by
  by_contra hp
  rw [decide_eq_false hp] at h
  exact absurd h (by decide)

theorem both_bits : ∀ a b : BitVec 1, IntOp.andi a b = 1#1 → a = 1#1 ∧ b = 1#1 := by decide

theorem of_lt {a b : EReal} (h : Ideal.cmp .olt a b = 1#1) : a < b := of_bit h
theorem of_ge {a b : EReal} (h : Ideal.cmp .oge a b = 1#1) : b ≤ a := of_bit h
theorem of_eq {a b : EReal} (h : Ideal.cmp .oeq a b = 1#1) : a = b := of_bit h

theorem word_inf : (FloatOps.ofBits .f32 0x7F800000#32 : Ideal .f32) = (⊤ : EReal) := by
  show Ideal.ofBits .f32 0x7F800000#32 = _
  simp [Ideal.ofBits, Ideal.ieee]

theorem word_minus : (FloatOps.ofBits .f32 0xBF800000#32 : Ideal .f32) = ((-1 : ℝ) : EReal) := by
  show Ideal.ofBits .f32 0xBF800000#32 = _
  simp [Ideal.ofBits, Ideal.ieee]; rw [← EReal.coe_mul]; norm_num

/-- A number that is no infinity is the real number it is read as. -/
theorem real_of_abs {a : EReal} (h : max a (-a) < ⊤) : a = ((a.toReal : ℝ) : EReal) := by
  have h1 : a ≠ ⊤ := ((le_max_left a (-a)).trans_lt h).ne
  have h2 : a ≠ ⊥ := fun e => by
    have := (le_max_right a (-a)).trans_lt h
    rw [e, EReal.neg_bot] at this; exact absurd this (lt_irrefl _)
  exact (EReal.coe_toReal h1 h2).symm

theorem real_of_nonneg {a : EReal} (h0 : 0 ≤ a) (h : a < ⊤) : a = ((a.toReal : ℝ) : EReal) :=
  (EReal.coe_toReal h.ne (fun e => by rw [e] at h0; exact absurd h0 (by simp))).symm

/-! ### The numbers of an array -/

/-- Image `l` at row `i` and column `j`; zero outside the array. -/
def imageOf {N : ℕ} (X : FVec Ideal (Ims N 32 32) .f32) (l i j : ℕ) : ℝ :=
  if h : l < N ∧ i < 32 ∧ j < 32 then (X (ix4 ⟨l, h.1⟩ 0 ⟨i, h.2.1⟩ ⟨j, h.2.2⟩)).toReal else 0

/-- Tap `n` of a filter; zero outside the array. -/
def tapOf (X : FVec Ideal S9 .f32) (n : ℕ) : ℝ := if h : n < 9 then (X (ix1 ⟨n, h⟩)).toReal else 0

theorem imageOf_lift {N : ℕ} (X : FVec Ideal (Ims N 32 32) .f32) (hX : ∀ i, X i = (((X i).toReal : ℝ) : EReal)) :
    X = R (imageOf X) := by
  funext i
  have e : ix4 (i 0) 0 (i 2) (i 3) = i := funext fun a => by
    match a with
    | ⟨0, _⟩ => rfl
    | ⟨1, _⟩ => exact Fin.ext (Nat.lt_one_iff.mp (i 1).isLt).symm
    | ⟨2, _⟩ => rfl
    | ⟨3, _⟩ => rfl
  show X i = ((imageOf X (i 0).val (i 2).val (i 3).val : ℝ) : EReal)
  unfold imageOf
  rw [dif_pos ⟨(i 0).isLt, (i 2).isLt, (i 3).isLt⟩]
  exact (hX i).trans (congrArg (fun k => (((X k).toReal : ℝ) : EReal)) e.symm)

/-- The mask at row `i` and column `j`; zero outside the array. -/
def maskOf (X : FVec Ideal (Ims 1 32 32) .f32) (i j : ℕ) : EReal :=
  if h : i < 32 ∧ j < 32 then X (ix4 0 0 ⟨i, h.1⟩ ⟨j, h.2⟩) else 0

theorem maskOf_wide (X : FVec Ideal (Ims 1 32 32) .f32) : X = RW fun _ => maskOf X := by
  funext i
  have e : ix4 0 0 (i 2) (i 3) = i := funext fun a => by
    match a with
    | ⟨0, _⟩ => exact Fin.ext (Nat.lt_one_iff.mp (i 0).isLt).symm
    | ⟨1, _⟩ => exact Fin.ext (Nat.lt_one_iff.mp (i 1).isLt).symm
    | ⟨2, _⟩ => rfl
    | ⟨3, _⟩ => rfl
  show X i = maskOf X (i 2).val (i 3).val
  unfold maskOf
  rw [dif_pos ⟨(i 2).isLt, (i 3).isLt⟩]
  exact congrArg X e.symm

theorem maskOf_nonneg (X : FVec Ideal (Ims 1 32 32) .f32) (hX : ∀ i, (0 : EReal) ≤ X i) (i j : ℕ) : 0 ≤ maskOf X i j := by
  unfold maskOf; split_ifs with h
  · exact hX _
  · exact le_refl 0

theorem tapOf_lift (X : FVec Ideal S9 .f32) (hX : ∀ i, X i = (((X i).toReal : ℝ) : EReal)) : X = lift fun v => tapOf X (v 0) := by
  funext i
  have e : ix1 (i 0) = i := funext fun a => by match a with | ⟨0, _⟩ => rfl
  have h : (i 0).val < 9 := (i 0).isLt
  show X i = ((tapOf X (i 0).val : ℝ) : EReal)
  unfold tapOf
  rw [dif_pos h]
  exact (hX i).trans (congrArg (fun k => (((X k).toReal : ℝ) : EReal)) e.symm)

theorem tapOf_nonneg (X : FVec Ideal S9 .f32) (hX : ∀ i, 0 ≤ X i) (n : ℕ) : 0 ≤ tapOf X n := by
  unfold tapOf; split_ifs with h
  · exact EReal.toReal_nonneg (hX _)
  · exact le_refl 0

theorem pick_yes {c : BitVec 1} (h : c = 1#1) (x y : Ideal .f32) : Scalar.select c x y = x := by subst h; rfl
theorem pick_no {c : BitVec 1} (h : c = 0#1) (x y : Ideal .f32) : Scalar.select c x y = y := by subst h; rfl

theorem major_word (n : ℕ) (hn : n < 3) :
    Scalar.select (IntOp.cmpi .eq (BitVec.ofNat 32 n) 0#32) (FloatOps.ofBits .f32 0xBF800000#32 : Ideal .f32)
      (Scalar.select (IntOp.cmpi .eq (BitVec.ofNat 32 n) 1#32) (FloatOps.ofBits .f32 0x00000000#32 : Ideal .f32)
        (FloatOps.ofBits .f32 0x3F800000#32)) = ((majorOf n : ℝ) : EReal) := by
  interval_cases n
  · rw [pick_yes (by decide), word_minus]; rfl
  · rw [pick_no (by decide), pick_yes (by decide), word_zero]; rfl
  · rw [pick_no (by decide), pick_no (by decide), word_one]; rfl

theorem minor_word (n : ℕ) (hn : n < 3) :
    Scalar.select (IntOp.cmpi .eq (BitVec.ofNat 32 n) 1#32) (FloatOps.ofBits .f32 0x40000000#32 : Ideal .f32)
        (FloatOps.ofBits .f32 0x3F800000#32) = ((minorOf n : ℝ) : EReal) := by
  interval_cases n
  · rw [pick_no (by decide), word_one]; rfl
  · rw [pick_yes (by decide), word_two]; rfl
  · rw [pick_no (by decide), word_one]; rfl

/-! ### What the predicate says -/

section
variable (a0 : FVec Ideal S1024x1x32x32 .f32) (a1 : FVec Ideal S1x1x32x32 .f32) (a2 : FVec Ideal S9 .f32) (a3 a4 : FVec Ideal S3 .f32)

/-- The predicate is one everywhere. -/
def Holds : Prop :=
  letI := Cert.Pre_filters.Gen.facts
  (fn (F := Ideal) a0 a1 a2 a3 a4).1 = (fun _ => 1#1) ∧ (fn (F := Ideal) a0 a1 a2 a3 a4).2.1 = (fun _ => 1#1)
    ∧ (fn (F := Ideal) a0 a1 a2 a3 a4).2.2.1 = (fun _ => 1#1) ∧ (fn (F := Ideal) a0 a1 a2 a3 a4).2.2.2.1 = (fun _ => 1#1)
    ∧ (fn (F := Ideal) a0 a1 a2 a3 a4).2.2.2.2.1 = (fun _ => 1#1) ∧ (fn (F := Ideal) a0 a1 a2 a3 a4).2.2.2.2.2 = (fun _ => 1#1)

variable {a0 a1 a2 a3 a4} (H : Holds a0 a1 a2 a3 a4)
include H

theorem image_real (i : S1024x1x32x32.Idx) : a0 i = (((a0 i).toReal : ℝ) : EReal) := by
  have h : Ideal.cmp .olt (max (a0 i : EReal) (-(a0 i : EReal))) (FloatOps.ofBits .f32 0x7F800000#32 : Ideal .f32) = 1#1 := congrFun H.1 i
  rw [word_inf] at h
  exact real_of_abs (of_lt h)

theorem mask_nonneg (i : S1x1x32x32.Idx) : (0 : EReal) ≤ a1 i := by
  have h : Ideal.cmp .oge (a1 i) (FloatOps.ofBits .f32 0x00000000#32 : Ideal .f32) = 1#1 := congrFun H.2.1 i
  rw [word_zero] at h
  exact of_ge h

theorem filter_bounds (i : S9.Idx) : (0 : EReal) ≤ a2 i ∧ (a2 i : EReal) < ⊤ := by
  have h : IntOp.andi (Ideal.cmp .oge (a2 i) (FloatOps.ofBits .f32 0x00000000#32 : Ideal .f32))
    (Ideal.cmp .olt (a2 i) (FloatOps.ofBits .f32 0x7F800000#32 : Ideal .f32)) = 1#1 := congrFun H.2.2.1 i
  rw [word_inf, word_zero] at h
  exact ⟨of_ge (both_bits _ _ h).1, of_lt (both_bits _ _ h).2⟩

theorem filter_same (n : ℕ) (hn : n < 9) : tapOf a2 n = tapOf a2 (8 - n) := by
  have h : Ideal.cmp .oeq (a2 (ix1 ⟨n, hn⟩)) (a2 (ix1 ⟨8 - n, by omega⟩)) = 1#1 := by
    refine Eq.trans ?_ (congrFun H.2.2.2.1 (ix1 ⟨n, hn⟩))
    show _ = Ideal.cmp .oeq (a2 (ix1 ⟨n, hn⟩)) (Host.reverse [0] a2 (ix1 ⟨n, hn⟩))
    congr 2
    funext a
    match a with
    | ⟨0, _⟩ =>
      apply Fin.ext
      show 8 - n = 9 - (n + 1)
      omega
  unfold tapOf
  rw [dif_pos hn, dif_pos (by omega : 8 - n < 9), of_eq h]

theorem major_is : a3 = lift fun v => majorOf (v 0) := by
  funext i
  have h : Ideal.cmp .oeq (a3 i) _ = 1#1 := congrFun H.2.2.2.2.1 i
  exact (of_eq h).trans (major_word (i 0).val (i 0).isLt)

theorem minor_is : a4 = lift fun v => minorOf (v 0) := by
  funext i
  have h : Ideal.cmp .oeq (a4 i) _ = 1#1 := congrFun H.2.2.2.2.2 i
  exact (of_eq h).trans (minor_word (i 0).val (i 0).isLt)

end

end Cert.Canny
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_filters
public import proofs.«01_k».proof.Proof.KernelRun
public import proofs.«01_k».proof.Proof.Precondition
public import Idealize.ShloMosaic.Adequacy
public import Idealize.ShloMosaic.Init

@[expose] public section

noncomputable section

namespace Cert.Proof

open Idealize.ShloMosaic Idealize.SL.Sem Cert.Canny

/-- The reference's frame, read off its run; it has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition both programs end with the same array. -/
theorem same_result (a0 : FVec Ideal Cert.Pre_filters.S1024x1x32x32 .f32) (a1 : FVec Ideal Cert.Pre_filters.S1x1x32x32 .f32)
    (a2 : FVec Ideal Cert.Pre_filters.S9 .f32) (a3 a4 : FVec Ideal Cert.Pre_filters.S3 .f32) (H : Holds a0 a1 a2 a3 a4)
    (m : (ℓ : Loc Cert.KernelIdeal.nD Cert.KernelIdeal.τ Cert.KernelIdeal.sig) → Buf (Elt Ideal) ℓ) (c : Dev Cert.KernelIdeal.nD)
    (h0 : m ((c.tc : Thread Cert.KernelIdeal.nD Cert.KernelIdeal.τ).loc Cert.KernelIdeal.main_arg0) = a0)
    (h1 : m ((c.tc : Thread Cert.KernelIdeal.nD Cert.KernelIdeal.τ).loc Cert.KernelIdeal.main_arg1) = a1)
    (h2 : m ((c.tc : Thread Cert.KernelIdeal.nD Cert.KernelIdeal.τ).loc Cert.KernelIdeal.main_arg2) = a2) :
    Cert.ReferenceIdeal.Read.val_main_v584 (F := Ideal) a0 a1 a2 a3 a4 = endsAs m c := by
  have e0 : a0 = R (N := 1024) (imageOf a0) := imageOf_lift a0 (image_real H)
  have e1 : a1 = RW (N := 1) fun _ => maskOf a1 := maskOf_wide a1
  have e2 : a2 = lift fun v => tapOf a2 (v 0) := tapOf_lift a2 fun i => real_of_nonneg (filter_bounds H i).1 (filter_bounds H i).2
  have hg : ∀ n, 0 ≤ tapOf a2 n := tapOf_nonneg a2 fun i => (filter_bounds H i).1
  have hm : ∀ i j, 0 ≤ maskOf a1 i j := maskOf_nonneg a1 (mask_nonneg H)
  have k : endsAs m c = _ := final_result m c (imageOf a0) (maskOf a1) (tapOf a2) (h0.trans e0) (h1.trans e1) (h2.trans e2)
    (filter_same H) hg hm
  have r := ref_result (imageOf a0) (maskOf a1) (tapOf a2) hg hm
  rw [← e0, ← e1, ← e2, ← major_is H, ← minor_is H] at r
  exact r.trans k.symm

/-- The value claim: from the same arguments both programs end with equal results. -/
theorem algebraic : Cert.algebraic_KernelIdeal_ReferenceIdeal_pre_filters (hKernelIdeal := Cert.KernelIdeal.Gen.facts)
    (hReferenceIdeal := Cert.ReferenceIdeal.Gen.facts) (hPre_filters := Cert.Pre_filters.Gen.facts) := by
  intro m g m' g' hpre hargs
  have same : ∀ c : Dev Cert.ReferenceIdeal.nD, Cert.ReferenceIdeal.Read.val_main_v584 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = endsAs m c := fun c => by
    obtain ⟨p0, p1, p2, p3, p4⟩ := hargs c
    have hp : Holds (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := hpre c
    rw [p0, p1, p2, p3, p4]
    exact same_result _ _ _ _ _ hp m c rfl rfl rfl
  exact ⟨endsAs m, kernel_run m g, (θ_run Cert.ReferenceIdeal.defs _ _).mono
    (fun r h c => ⟨(h c).1.trans ((Cert.ReferenceIdeal.Read.val_main_v584_eq (StableHlo.launchContents m' c)).trans (same c)), (h c).2⟩)
    (Cert.ReferenceIdeal.Value.run (F := Ideal) m' g')⟩

theorem claim : Cert.Claim := ⟨Cert.Kernel.Gen.facts, Cert.KernelIdeal.Gen.facts, Cert.ReferenceIdeal.Gen.facts, Cert.Pre_filters.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
